-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_mod [hPre_finite_mod : Cert.Pre_finite_mod.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_mod.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).1 = (fun _ => 1#1)
    ∧ (Cert.Pre_finite_mod.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_mod [hPre_finite_mod : Cert.Pre_finite_mod.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_mod.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).1 = (fun _ => 1#1)
    ∧ (Cert.Pre_finite_mod.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_mod [hKernel17Ideal : Cert.Kernel17Ideal.Facts] [hPre_finite_mod : Cert.Pre_finite_mod.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_mod m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_mod [hReference17Ideal : Cert.Reference17Ideal.Facts] [hPre_finite_mod : Cert.Pre_finite_mod.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_mod m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v61_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v61_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v49)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v47_0)) (v1 : (c : Dev Cert.Kernel8Ideal.nD) → Buf (Elt Ideal) ((c.tc : Thread Cert.Kernel8Ideal.nD Cert.Kernel8Ideal.τ).loc Cert.Kernel8Ideal.main_v47_1)) (v2 : (c : Dev Cert.Kernel8Ideal.nD) → Buf (Elt Ideal) ((c.tc : Thread Cert.Kernel8Ideal.nD Cert.Kernel8Ideal.τ).loc Cert.Kernel8Ideal.main_v47_2)) (v3 : (c : Dev Cert.Kernel8Ideal.nD) → Buf (Elt Ideal) ((c.tc : Thread Cert.Kernel8Ideal.nD Cert.Kernel8Ideal.τ).loc Cert.Kernel8Ideal.main_v47_3)) (v4 : (c : Dev Cert.Kernel8Ideal.nD) → Buf (Elt Ideal) ((c.tc : Thread Cert.Kernel8Ideal.nD Cert.Kernel8Ideal.τ).loc Cert.Kernel8Ideal.main_v47_4)) (v5 : (c : Dev Cert.Kernel8Ideal.nD) → Buf (Elt Ideal) ((c.tc : Thread Cert.Kernel8Ideal.nD Cert.Kernel8Ideal.τ).loc Cert.Kernel8Ideal.main_v47_5)) (v6 : (c : Dev Cert.Kernel8Ideal.nD) → Buf (Elt Ideal) ((c.tc : Thread Cert.Kernel8Ideal.nD Cert.Kernel8Ideal.τ).loc Cert.Kernel8Ideal.main_v47_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v47_0) = v0 c
          ∧ r.2.mem ((c.tc : Thread Cert.Kernel8Ideal.nD Cert.Kernel8Ideal.τ).loc Cert.Kernel8Ideal.main_v47_1) = v1 c
          ∧ r.2.mem ((c.tc : Thread Cert.Kernel8Ideal.nD Cert.Kernel8Ideal.τ).loc Cert.Kernel8Ideal.main_v47_2) = v2 c
          ∧ r.2.mem ((c.tc : Thread Cert.Kernel8Ideal.nD Cert.Kernel8Ideal.τ).loc Cert.Kernel8Ideal.main_v47_3) = v3 c
          ∧ r.2.mem ((c.tc : Thread Cert.Kernel8Ideal.nD Cert.Kernel8Ideal.τ).loc Cert.Kernel8Ideal.main_v47_4) = v4 c
          ∧ r.2.mem ((c.tc : Thread Cert.Kernel8Ideal.nD Cert.Kernel8Ideal.τ).loc Cert.Kernel8Ideal.main_v47_5) = v5 c
          ∧ r.2.mem ((c.tc : Thread Cert.Kernel8Ideal.nD Cert.Kernel8Ideal.τ).loc Cert.Kernel8Ideal.main_v47_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v97) = v0 c
          ∧ r.2.mem ((c.tc : Thread Cert.Reference8Ideal.nD Cert.Reference8Ideal.τ).loc Cert.Reference8Ideal.main_v99) = v1 c
          ∧ r.2.mem ((c.tc : Thread Cert.Reference8Ideal.nD Cert.Reference8Ideal.τ).loc Cert.Reference8Ideal.main_v100) = v2 c
          ∧ r.2.mem ((c.tc : Thread Cert.Reference8Ideal.nD Cert.Reference8Ideal.τ).loc Cert.Reference8Ideal.main_v87) = v3 c
          ∧ r.2.mem ((c.tc : Thread Cert.Reference8Ideal.nD Cert.Reference8Ideal.τ).loc Cert.Reference8Ideal.main_v90) = v4 c
          ∧ r.2.mem ((c.tc : Thread Cert.Reference8Ideal.nD Cert.Reference8Ideal.τ).loc Cert.Reference8Ideal.main_v93) = v5 c
          ∧ r.2.mem ((c.tc : Thread Cert.Reference8Ideal.nD Cert.Reference8Ideal.τ).loc Cert.Reference8Ideal.main_v96) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v27) = v2 c
          ∧ r.2.mem ((c.tc : Thread Cert.Reference10Ideal.nD Cert.Reference10Ideal.τ).loc Cert.Reference10Ideal.main_v28) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)) (v3 : (c : Dev Cert.Kernel11Ideal.nD) → Buf (Elt Ideal) ((c.tc : Thread Cert.Kernel11Ideal.nD Cert.Kernel11Ideal.τ).loc Cert.Kernel11Ideal.main_v9_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_v9_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v27) = v2 c
          ∧ r.2.mem ((c.tc : Thread Cert.Reference11Ideal.nD Cert.Reference11Ideal.τ).loc Cert.Reference11Ideal.main_v28) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v27) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v15_0)) (v1 : (c : Dev Cert.Kernel14Ideal.nD) → Buf (Elt Ideal) ((c.tc : Thread Cert.Kernel14Ideal.nD Cert.Kernel14Ideal.τ).loc Cert.Kernel14Ideal.main_v15_1)) (v2 : (c : Dev Cert.Kernel14Ideal.nD) → Buf (Elt Ideal) ((c.tc : Thread Cert.Kernel14Ideal.nD Cert.Kernel14Ideal.τ).loc Cert.Kernel14Ideal.main_v15_2)) (v3 : (c : Dev Cert.Kernel14Ideal.nD) → Buf (Elt Ideal) ((c.tc : Thread Cert.Kernel14Ideal.nD Cert.Kernel14Ideal.τ).loc Cert.Kernel14Ideal.main_v15_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15_0) = v0 c
          ∧ r.2.mem ((c.tc : Thread Cert.Kernel14Ideal.nD Cert.Kernel14Ideal.τ).loc Cert.Kernel14Ideal.main_v15_1) = v1 c
          ∧ r.2.mem ((c.tc : Thread Cert.Kernel14Ideal.nD Cert.Kernel14Ideal.τ).loc Cert.Kernel14Ideal.main_v15_2) = v2 c
          ∧ r.2.mem ((c.tc : Thread Cert.Kernel14Ideal.nD Cert.Kernel14Ideal.τ).loc Cert.Kernel14Ideal.main_v15_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_v28) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg0) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal_pre_finite_mod [hKernel17Ideal : Cert.Kernel17Ideal.Facts] [hReference17Ideal : Cert.Reference17Ideal.Facts] [hPre_finite_mod : Cert.Pre_finite_mod.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_mod m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v19) = v0 c
          ∧ r.2.mem ((c.tc : Thread Cert.Reference17Ideal.nD Cert.Reference17Ideal.τ).loc Cert.Reference17Ideal.main_v0) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_mod (hKernel17Ideal := hKernel17Ideal) (hPre_finite_mod := hPre_finite_mod)
    ∧ quiescent_Reference17Ideal (hReference17Ideal := hReference17Ideal)
    ∧ quiescent_Reference17Ideal_pre_finite_mod (hReference17Ideal := hReference17Ideal) (hPre_finite_mod := hPre_finite_mod)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_mod (hKernel17Ideal := hKernel17Ideal) (hReference17Ideal := hReference17Ideal) (hPre_finite_mod := hPre_finite_mod)
-- ==== Pre_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S8192x1024 .f32) (main_v2 : IVec S8192x1024 1) (main_v5 : IVec S1024 1) (main_v8 : IVec S1024 1) (main_v11 : IVec S1024 1) (main_v14 : IVec S1024 1) (main_v17 : IVec S1024x5632 1) : IVec S8192x1024 1 × IVec S1024 1 × IVec S1024 1 × IVec S1024 1 × IVec S1024 1 × IVec S1024x5632 1 × IVec S2816x1024 1 × IVec S8192x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) (main_arg7 : FVec F S8192x1024 .f32) : IVec S8192x1024 1 × IVec S1024 1 × IVec S1024 1 × IVec S1024 1 × IVec S1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_v2 main_v5 main_v8 main_v11 main_v14 main_v17
-- ==== Pre_finite_mod.lean ====
abbrev S8x1024 : Shape := ⟨2, ![8, 1024]⟩
abbrev S2x1024x1152 : Shape := ⟨3, ![2, 1024, 1152]⟩
abbrev S2x1152 : Shape := ⟨2, ![2, 1152]⟩
abbrev S_ : Shape := ⟨0, ![]⟩

class Facts : Prop where
  bcast_S_S8x1024 : S_.BroadcastsInDim S8x1024 (![] : Fin 0 → Fin S8x1024.rank)
  bcast_S_S2x1024x1152 : S_.BroadcastsInDim S2x1024x1152 (![] : Fin 0 → Fin S2x1024x1152.rank)

variable [Facts]

def fn {F : FTy → Type} [FloatOps F] (main_arg0 : FVec F S8x1024 .f32) (main_arg1 : FVec F S2x1024x1152 .f32) (main_arg2 : FVec F S2x1152 .f32) : IVec S8x1024 1 × IVec S2x1024x1152 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S2x1024x1152 .f32 := Host.absf main_arg1
  let main_cst_0 : FVec F S_ .f32 := constant S_ .f32 0x7F800000#32
  let main_v4 : FVec F S2x1024x1152 .f32 := broadcastInDim S2x1024x1152 ![] bcast_S_S2x1024x1152 main_cst_0
  let main_v5 : IVec S2x1024x1152 1 := cmpf .olt main_v3 main_v4
  (main_v2, main_v5)
-- ==== Kernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1x8192x2816 : Shape := ⟨3, ![1, 8192, 2816]⟩
abbrev S3x8192x2816 : Shape := ⟨3, ![3, 8192, 2816]⟩
abbrev S3x8192x4x704 : Shape := ⟨4, ![3, 8192, 4, 704]⟩
abbrev S3x4x8192x704 : Shape := ⟨4, ![3, 4, 8192, 704]⟩
abbrev S2x4x1024x704 : Shape := ⟨4, ![2, 4, 1024, 704]⟩
abbrev S2x4x8192x704 : Shape := ⟨4, ![2, 4, 8192, 704]⟩
abbrev S256x1024 : Shape := ⟨2, ![256, 1024]⟩
abbrev S2x4x256x704 : Shape := ⟨4, ![2, 4, 256, 704]⟩
abbrev S2x352x1024 : Shape := ⟨3, ![2, 352, 1024]⟩
abbrev S704x1024 : Shape := ⟨2, ![704, 1024]⟩
abbrev S256x704 : Shape := ⟨2, ![256, 704]⟩
abbrev S1x1x256x704 : Shape := ⟨4, ![1, 1, 256, 704]⟩
abbrev S1x1x1024x704 : Shape := ⟨4, ![1, 1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 91
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x1024, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S1024x8x704, .f32⟩
  | .hbm, ⟨17, _⟩ => ⟨S8x1024x704, .f32⟩
  | .hbm, ⟨18, _⟩ => ⟨S8x1024x704, .bf16⟩
  | .hbm, ⟨19, _⟩ => ⟨S8x352x1024, .f32⟩
  | .hbm, ⟨20, _⟩ => ⟨S8x352x1024, .bf16⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x1024, .f32⟩
  | .hbm, ⟨68, _⟩ => ⟨S8192x1024, .bf16⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S1x8192x2816, .f32⟩
  | .hbm, ⟨80, _⟩ => ⟨S1x8192x2816, .f32⟩
  | .hbm, ⟨81, _⟩ => ⟨S1x8192x2816, .f32⟩
  | .hbm, ⟨82, _⟩ => ⟨S3x8192x2816, .f32⟩
  | .hbm, ⟨83, _⟩ => ⟨S3x8192x4x704, .f32⟩
  | .hbm, ⟨84, _⟩ => ⟨S3x4x8192x704, .f32⟩
  | .hbm, ⟨85, _⟩ => ⟨S3x4x8192x704, .bf16⟩
  | .hbm, ⟨86, _⟩ => ⟨S2x4x1024x704, .bf16⟩
  | .hbm, ⟨87, _⟩ => ⟨S8192x1024, .f32⟩
  | .hbm, ⟨88, _⟩ => ⟨S2x4x8192x704, .bf16⟩
  | .hbm, ⟨89, _⟩ => ⟨S8192x1024, .bf16⟩
  | .hbm, ⟨90, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S2x4x256x704, .bf16⟩
  | .local _ .vmem, ⟨8, _⟩ => ⟨S2x4x256x704, .bf16⟩
  | .local _ .vmem, ⟨9, _⟩ => ⟨S2x4x1024x704, .bf16⟩
  | .local _ .vmem, ⟨10, _⟩ => ⟨S8x352x1024, .bf16⟩
  | .local _ .vmem, ⟨11, _⟩ => ⟨S256x1024, .f32⟩
  | .local _ .vmem, ⟨12, _⟩ => ⟨S256x1024, .f32⟩
  | .local _ .vmem, ⟨13, _⟩ => ⟨S2x4x256x704, .bf16⟩
  | .local _ .vmem, ⟨14, _⟩ => ⟨S2x4x256x704, .bf16⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61_0 : Ref sig .tc := ⟨.hbm, 87, rfl⟩
abbrev main_v61_1 : Ref sig .tc := ⟨.hbm, 88, rfl⟩
abbrev main_v61_2 : Ref sig .tc := ⟨.hbm, 89, rfl⟩
abbrev main_v61_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x4x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x2x4x704 : Shape := ⟨4, ![8192, 2, 4, 704]⟩
abbrev S2x4x8192x704 : Shape := ⟨4, ![2, 4, 8192, 704]⟩
abbrev S4x1024 : Shape := ⟨2, ![4, 1024]⟩
abbrev S8x1024 : Shape := ⟨2, ![8, 1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x5632, .f32⟩
  | 6 => ⟨S2816x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x5632, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S_, .f32⟩
  | 56 => ⟨S1024, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S_, .f32⟩
  | 72 => ⟨S1024, .f32⟩
  | 73 => ⟨S1024, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x5632, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x2x4x704, .f32⟩
  | 122 => ⟨S2x4x8192x704, .f32⟩
  | 123 => ⟨S2x4x8192x704, .bf16⟩
  | 124 => ⟨S1x1024, .f32⟩
  | 125 => ⟨S1x1024, .f32⟩
  | 126 => ⟨S1x1024, .f32⟩
  | 127 => ⟨S1x1024, .f32⟩
  | _ => ⟨S8192x1024, .f32⟩

abbrev hbmTy0_1 (i : Nat) : BufTy := match i % 128 with
  | 0 => ⟨S4x1024, .f32⟩
  | 1 => ⟨S_, .i32⟩
  | 2 => ⟨S_, .f32⟩
  | 3 => ⟨S8x1024, .f32⟩
  | 4 => ⟨S8192x1024, .f32⟩
  | 5 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c : Ref sig .tc := ⟨.hbm, 129, rfl⟩
abbrev main_call2_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x128 : Shape := ⟨2, ![8, 128]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S3x8192x2816 : Shape := ⟨3, ![3, 8192, 2816]⟩
abbrev S3x8192x4x704 : Shape := ⟨4, ![3, 8192, 4, 704]⟩
abbrev S3x4x8192x704 : Shape := ⟨4, ![3, 4, 8192, 704]⟩
abbrev S4x704x1024 : Shape := ⟨3, ![4, 704, 1024]⟩
abbrev S1x1x4096x704 : Shape := ⟨4, ![1, 1, 4096, 704]⟩
abbrev S4096x1024 : Shape := ⟨2, ![4096, 1024]⟩
abbrev S1x704x1024 : Shape := ⟨3, ![1, 704, 1024]⟩
abbrev S704x1024 : Shape := ⟨2, ![704, 1024]⟩
abbrev S704x512 : Shape := ⟨2, ![704, 512]⟩
abbrev S4096x704 : Shape := ⟨2, ![4096, 704]⟩
abbrev S4096x512 : Shape := ⟨2, ![4096, 512]⟩

abbrev nBuf : Space → Nat
  | .hbm => 74
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8x128, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S1x8192x2816, .f32⟩
  | .hbm, ⟨66, _⟩ => ⟨S1x8192x2816, .f32⟩
  | .hbm, ⟨67, _⟩ => ⟨S1x8192x2816, .f32⟩
  | .hbm, ⟨68, _⟩ => ⟨S3x8192x2816, .f32⟩
  | .hbm, ⟨69, _⟩ => ⟨S3x8192x4x704, .f32⟩
  | .hbm, ⟨70, _⟩ => ⟨S3x4x8192x704, .f32⟩
  | .hbm, ⟨71, _⟩ => ⟨S3x4x8192x704, .bf16⟩
  | .hbm, ⟨72, _⟩ => ⟨S8192x1024, .bf16⟩
  | .hbm, ⟨73, _⟩ => ⟨S4x704x1024, .bf16⟩
  | .local _ .vmem, ⟨0, _⟩ => ⟨S1x1x4096x704, .bf16⟩
  | .local _ .vmem, ⟨1, _⟩ => ⟨S1x1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_20 : BitVec 32 := 0#32
  let v25 : BitVec 1 := Scalar.cmpi .ne v24 c0_i32_20
  v25

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x2816 : Shape := ⟨2, ![1024, 2816]⟩
abbrev S4x704x1024 : Shape := ⟨3, ![4, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S1024x2816, .f32⟩
  | .hbm, ⟨47, _⟩ => ⟨S2816x1024, .f32⟩
  | .hbm, ⟨48, _⟩ => ⟨S4x704x1024, .f32⟩
  | .hbm, ⟨49, _⟩ => ⟨S4x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8x128 : Shape := ⟨2, ![8, 128]⟩
abbrev S8192 : Shape := ⟨1, ![8192]⟩
abbrev S8192x1 : Shape := ⟨2, ![8192, 1]⟩
abbrev S1x1024 : Shape := ⟨2, ![1, 1024]⟩
abbrev S8192x2x4x704 : Shape := ⟨4, ![8192, 2, 4, 704]⟩
abbrev S2x4x8192x704 : Shape := ⟨4, ![2, 4, 8192, 704]⟩
abbrev S8x8192x704 : Shape := ⟨3, ![8, 8192, 704]⟩
abbrev S8x704x1024 : Shape := ⟨3, ![8, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S704x512 : Shape := ⟨2, ![704, 512]⟩
abbrev S4096x704 : Shape := ⟨2, ![4096, 704]⟩
abbrev S4096x512 : Shape := ⟨2, ![4096, 512]⟩

abbrev nBuf : Space → Nat
  | .hbm => 39
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S8192x5632, .f32⟩
  | .hbm, ⟨6, _⟩ => ⟨S_, .f32⟩
  | .hbm, ⟨7, _⟩ => ⟨S8x128, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x2x4x704, .f32⟩
  | .hbm, ⟨34, _⟩ => ⟨S2x4x8192x704, .f32⟩
  | .hbm, ⟨35, _⟩ => ⟨S2x4x8192x704, .bf16⟩
  | .hbm, ⟨36, _⟩ => ⟨S8x8192x704, .bf16⟩
  | .hbm, ⟨37, _⟩ => ⟨S8192x1024, .bf16⟩
  | .hbm, ⟨38, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S8x704x1024 : Shape := ⟨3, ![8, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S5632x1024, .f32⟩
  | .hbm, ⟨33, _⟩ => ⟨S1024x5632, .f32⟩
  | .hbm, ⟨34, _⟩ => ⟨S5632x1024, .f32⟩
  | .hbm, ⟨35, _⟩ => ⟨S8x704x1024, .f32⟩
  | .hbm, ⟨36, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S2x4x1024x704 : Shape := ⟨4, ![2, 4, 1024, 704]⟩
abbrev S3x4x8192x704 : Shape := ⟨4, ![3, 4, 8192, 704]⟩
abbrev S256x1024 : Shape := ⟨2, ![256, 1024]⟩
abbrev S3x4x256x704 : Shape := ⟨4, ![3, 4, 256, 704]⟩
abbrev S256 : Shape := ⟨1, ![256]⟩
abbrev S256x1 : Shape := ⟨2, ![256, 1]⟩
abbrev S1x1x1024x704 : Shape := ⟨4, ![1, 1, 1024, 704]⟩
abbrev S1024x704 : Shape := ⟨2, ![1024, 704]⟩
abbrev S256x704 : Shape := ⟨2, ![256, 704]⟩
abbrev S1x1x256x704 : Shape := ⟨4, ![1, 1, 256, 704]⟩
abbrev S2x352x1024 : Shape := ⟨3, ![2, 352, 1024]⟩
abbrev S704x1024 : Shape := ⟨2, ![704, 1024]⟩

abbrev nBuf : Space → Nat
  | .hbm => 25
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S1024x8x704, .f32⟩
  | .hbm, ⟨16, _⟩ => ⟨S8x1024x704, .f32⟩
  | .hbm, ⟨17, _⟩ => ⟨S8x1024x704, .bf16⟩
  | .hbm, ⟨18, _⟩ => ⟨S8x352x1024, .f32⟩
  | .hbm, ⟨19, _⟩ => ⟨S8x352x1024, .bf16⟩
  | .hbm, ⟨20, _⟩ => ⟨S2x4x1024x704, .bf16⟩
  | .hbm, ⟨21, _⟩ => ⟨S3x4x8192x704, .bf16⟩
  | .hbm, ⟨22, _⟩ => ⟨S8192x1024, .bf16⟩
  | .hbm, ⟨23, _⟩ => ⟨S8192x1024, .bf16⟩
  | .hbm, ⟨24, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S2x4x1024x704, .bf16⟩
  | .local _ .vmem, ⟨6, _⟩ => ⟨S8x352x1024, .bf16⟩
  | .local _ .vmem, ⟨7, _⟩ => ⟨S3x4x256x704, .bf16⟩
  | .local _ .vmem, ⟨8, _⟩ => ⟨S3x4x256x704, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S3x8192x2816 : Shape := ⟨3, ![3, 8192, 2816]⟩
abbrev S3x8192x4x704 : Shape := ⟨4, ![3, 8192, 4, 704]⟩
abbrev S3x4x8192x704 : Shape := ⟨4, ![3, 4, 8192, 704]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S_, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S1x8192x2816, .f32⟩
  | .hbm, ⟨80, _⟩ => ⟨S1x8192x2816, .f32⟩
  | .hbm, ⟨81, _⟩ => ⟨S1x8192x2816, .f32⟩
  | .hbm, ⟨82, _⟩ => ⟨S3x8192x2816, .f32⟩
  | .hbm, ⟨83, _⟩ => ⟨S3x8192x4x704, .f32⟩
  | .hbm, ⟨84, _⟩ => ⟨S3x4x8192x704, .f32⟩
  | .hbm, ⟨85, _⟩ => ⟨S3x4x8192x704, .bf16⟩
  | .hbm, ⟨86, _⟩ => ⟨S8192x1024, .bf16⟩
  | .hbm, ⟨87, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8x128 : Shape := ⟨2, ![8, 128]⟩
abbrev S8192 : Shape := ⟨1, ![8192]⟩
abbrev S8192x1 : Shape := ⟨2, ![8192, 1]⟩
abbrev S1x1024 : Shape := ⟨2, ![1, 1024]⟩
abbrev S8x1024x384 : Shape := ⟨3, ![8, 1024, 384]⟩
abbrev S4096x1024 : Shape := ⟨2, ![4096, 1024]⟩
abbrev S4096x1536 : Shape := ⟨2, ![4096, 1536]⟩
abbrev S4x1024x384 : Shape := ⟨3, ![4, 1024, 384]⟩
abbrev S1024x1536 : Shape := ⟨2, ![1024, 1536]⟩
abbrev S512x1536 : Shape := ⟨2, ![512, 1536]⟩
abbrev S4096x512 : Shape := ⟨2, ![4096, 512]⟩
abbrev S1024x384 : Shape := ⟨2, ![1024, 384]⟩
abbrev S1x1024x384 : Shape := ⟨3, ![1, 1024, 384]⟩

abbrev nBuf : Space → Nat
  | .hbm => 36
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S8192x3072, .f32⟩
  | .hbm, ⟨6, _⟩ => ⟨S_, .f32⟩
  | .hbm, ⟨7, _⟩ => ⟨S8x128, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x3072, .bf16⟩
  | .hbm, ⟨35, _⟩ => ⟨S8x1024x384, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1536, .bf16⟩
  | .local _ .vmem, ⟨3, _⟩ => ⟨S4096x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S8192x3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x3072, .f32⟩
  | .hbm, ⟨32, _⟩ => ⟨S3072x1024, .f32⟩
  | .hbm, ⟨33, _⟩ => ⟨S1024x3072, .f32⟩
  | .hbm, ⟨34, _⟩ => ⟨S1024x8x384, .f32⟩
  | .hbm, ⟨35, _⟩ => ⟨S8x1024x384, .f32⟩
  | .hbm, ⟨36, _⟩ => ⟨S8x1024x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S_ : Shape := ⟨0, ![]⟩
abbrev S8x128 : Shape := ⟨2, ![8, 128]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8x128, .f32⟩
  | .hbm, ⟨5, _⟩ => ⟨S8192x1024, .bf16⟩
  | .hbm, ⟨6, _⟩ => ⟨S8192x1024, .bf16⟩
  | .hbm, ⟨7, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference6Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S8x128x1024 : Shape := ⟨3, ![8, 128, 1024]⟩
abbrev S512x1024 : Shape := ⟨2, ![512, 1024]⟩
abbrev S256x1024 : Shape := ⟨2, ![256, 1024]⟩

abbrev nBuf : Space → Nat
  | .hbm => 20
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S8x128x1024, .f32⟩
  | .hbm, ⟨16, _⟩ => ⟨S8x128x1024, .bf16⟩
  | .hbm, ⟨17, _⟩ => ⟨S8192x1024, .bf16⟩
  | .hbm, ⟨18, _⟩ => ⟨S8192x1024, .f32⟩
  | .hbm, ⟨19, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x128x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S8192x3072 : Shape := ⟨2, ![8192, 3072]⟩
abbrev S3x512 : Shape := ⟨2, ![3, 512]⟩
abbrev S512 : Shape := ⟨1, ![512]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S8x128x1024 : Shape := ⟨3, ![8, 128, 1024]⟩
abbrev S1x512 : Shape := ⟨2, ![1, 512]⟩
abbrev S4x512 : Shape := ⟨2, ![4, 512]⟩
abbrev S8x512 : Shape := ⟨2, ![8, 512]⟩
abbrev S8192x1536 : Shape := ⟨2, ![8192, 1536]⟩
abbrev S8194x512 : Shape := ⟨2, ![8194, 512]⟩
abbrev S4x2048x512 : Shape := ⟨3, ![4, 2048, 512]⟩
abbrev S16x512x512 : Shape := ⟨3, ![16, 512, 512]⟩
abbrev S512x1024 : Shape := ⟨2, ![512, 1024]⟩
abbrev S512x1536 : Shape := ⟨2, ![512, 1536]⟩
abbrev S8x1536 : Shape := ⟨2, ![8, 1536]⟩
abbrev S512x512 : Shape := ⟨2, ![512, 512]⟩
abbrev S4x128x512 : Shape := ⟨3, ![4, 128, 512]⟩
abbrev S16x32x512 : Shape := ⟨3, ![16, 32, 512]⟩
abbrev S4x512x128 : Shape := ⟨3, ![4, 512, 128]⟩
abbrev S256x1024 : Shape := ⟨2, ![256, 1024]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩

abbrev nBuf : Space → Nat
  | .hbm => 71
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x512, .f32⟩
  | .hbm, ⟨7, _⟩ => ⟨S8192x3072, .f32⟩
  | .hbm, ⟨8, _⟩ => ⟨S3x512, .f32⟩
  | .hbm, ⟨9, _⟩ => ⟨S512, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x1024, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S8x128x1024, .f32⟩
  | .hbm, ⟨19, _⟩ => ⟨S8x128x1024, .bf16⟩
  | .hbm, ⟨20, _⟩ => ⟨S1x512, .f32⟩
  | .hbm, ⟨21, _⟩ => ⟨S4x512, .f32⟩
  | .hbm, ⟨22, _⟩ => ⟨S_, .i32⟩
  | .hbm, ⟨23, _⟩ => ⟨S_, .f32⟩
  | .hbm, ⟨24, _⟩ => ⟨S8x512, .f32⟩
  | .hbm, ⟨25, _⟩ => ⟨S8192x1536, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .i32⟩
  | .hbm, ⟨31, _⟩ => ⟨S_, .f32⟩
  | .hbm, ⟨32, _⟩ => ⟨S8194x512, .f32⟩
  | .hbm, ⟨33, _⟩ => ⟨S1x512, .f32⟩
  | .hbm, ⟨34, _⟩ => ⟨S512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S1x512, .f32⟩
  | .hbm, ⟨43, _⟩ => ⟨S512, .f32⟩
  | .hbm, ⟨44, _⟩ => ⟨S8192x512, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S1x512, .f32⟩
  | .hbm, ⟨50, _⟩ => ⟨S512, .f32⟩
  | .hbm, ⟨51, _⟩ => ⟨S8192x512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x3072, .bf16⟩
  | .hbm, ⟨64, _⟩ => ⟨S8192x512, .bf16⟩
  | .hbm, ⟨65, _⟩ => ⟨S8192x1536, .bf16⟩
  | .hbm, ⟨66, _⟩ => ⟨S8192x1024, .bf16⟩
  | .hbm, ⟨67, _⟩ => ⟨S8x1024, .f32⟩
  | .hbm, ⟨68, _⟩ => ⟨S8x512, .f32⟩
  | .hbm, ⟨69, _⟩ => ⟨S4x2048x512, .bf16⟩
  | .hbm, ⟨70, _⟩ => ⟨S16x512x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S8x128x1024, .bf16⟩
  | .local _ .vmem, ⟨6, _⟩ => ⟨S512x1536, .bf16⟩
  | .local _ .vmem, ⟨7, _⟩ => ⟨S512x1536, .bf16⟩
  | .local _ .vmem, ⟨8, _⟩ => ⟨S8x1536, .bf16⟩
  | .local _ .vmem, ⟨9, _⟩ => ⟨S8x1536, .bf16⟩
  | .local _ .vmem, ⟨10, _⟩ => ⟨S8x512, .f32⟩
  | .local _ .vmem, ⟨11, _⟩ => ⟨S512x512, .bf16⟩
  | .local _ .vmem, ⟨12, _⟩ => ⟨S512x512, .bf16⟩
  | .local _ .vmem, ⟨13, _⟩ => ⟨S512x1536, .bf16⟩
  | .local _ .vmem, ⟨14, _⟩ => ⟨S512x1536, .bf16⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x512, .f32⟩
  | .local _ .vmem, ⟨19, _⟩ => ⟨S4x128x512, .bf16⟩
  | .local _ .vmem, ⟨20, _⟩ => ⟨S4x128x512, .bf16⟩
  | .local _ .vmem, ⟨21, _⟩ => ⟨S16x32x512, .bf16⟩
  | .local _ .vmem, ⟨22, _⟩ => ⟨S16x32x512, .bf16⟩
  | .local _ .vmem, ⟨23, _⟩ => ⟨S8x512, .f32⟩
  | .local _ .vmem, ⟨24, _⟩ => ⟨S4x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev main_v47_3 : Ref sig .tc := ⟨.hbm, 67, rfl⟩
abbrev main_v47_4 : Ref sig .tc := ⟨.hbm, 68, rfl⟩
abbrev main_v47_5 : Ref sig .tc := ⟨.hbm, 69, rfl⟩
abbrev main_v47_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S8192x1024 : Shape := ⟨2, ![8192, 1024]⟩
abbrev S1024 : Shape := ⟨1, ![1024]⟩
abbrev S1024x1024 : Shape := ⟨2, ![1024, 1024]⟩
abbrev S8192x512 : Shape := ⟨2, ![8192, 512]⟩
abbrev S8192x3072 : Shape := ⟨2, ![8192, 3072]⟩
abbrev S3x512 : Shape := ⟨2, ![3, 512]⟩
abbrev S512 : Shape := ⟨1, ![512]⟩
abbrev S8192x1536 : Shape := ⟨2, ![8192, 1536]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S1x1024 : Shape := ⟨2, ![1, 1024]⟩
abbrev S8x1024 : Shape := ⟨2, ![8, 1024]⟩
abbrev S4x512 : Shape := ⟨2, ![4, 512]⟩
abbrev S8x512 : Shape := ⟨2, ![8, 512]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x1024, .f32⟩
  | 6 => ⟨S8192x512, .f32⟩
  | 7 => ⟨S8192x3072, .f32⟩
  | 8 => ⟨S3x512, .f32⟩
  | 9 => ⟨S512, .f32⟩
  | 10 => ⟨S8192x1536, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S2x512, .f32⟩
  | 17 => ⟨S8194x512, .f32⟩
  | 18 => ⟨S_, .f32⟩
  | 19 => ⟨S2x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S1x512, .f32⟩
  | 41 => ⟨S8192x512, .f32⟩
  | 42 => ⟨S8192x512, .f32⟩
  | 43 => ⟨S8192x512, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S1024, .f32⟩
  | 54 => ⟨S1x1024, .f32⟩
  | 55 => ⟨S_, .f32⟩
  | 56 => ⟨S1024, .f32⟩
  | 57 => ⟨S8192x1024, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S512, .f32⟩
  | 64 => ⟨S1x512, .f32⟩
  | 65 => ⟨S_, .f32⟩
  | 66 => ⟨S512, .f32⟩
  | 67 => ⟨S8192x512, .f32⟩
  | 68 => ⟨S8192x512, .f32⟩
  | 69 => ⟨S8192x512, .f32⟩
  | 70 => ⟨S_, .f32⟩
  | 71 => ⟨S512, .f32⟩
  | 72 => ⟨S1x512, .f32⟩
  | 73 => ⟨S_, .f32⟩
  | 74 => ⟨S512, .f32⟩
  | 75 => ⟨S_, .f32⟩
  | 76 => ⟨S8194x512, .f32⟩
  | 77 => ⟨S1x512, .f32⟩
  | 78 => ⟨S_, .f32⟩
  | 79 => ⟨S3x512, .f32⟩
  | 80 => ⟨S8192x512, .f32⟩
  | 81 => ⟨S8192x512, .f32⟩
  | 82 => ⟨S8192x512, .f32⟩
  | 83 => ⟨S_, .f32⟩
  | 84 => ⟨S512, .f32⟩
  | 85 => ⟨S1x512, .f32⟩
  | 86 => ⟨S_, .f32⟩
  | 87 => ⟨S512, .f32⟩
  | 88 => ⟨S_, .f32⟩
  | 89 => ⟨S8194x512, .f32⟩
  | 90 => ⟨S8194x512, .f32⟩
  | 91 => ⟨S1x512, .f32⟩
  | 92 => ⟨S_, .f32⟩
  | 93 => ⟨S3x512, .f32⟩
  | 94 => ⟨S3x512, .f32⟩
  | 95 => ⟨S8192x512, .f32⟩
  | 96 => ⟨S8192x512, .f32⟩
  | 97 => ⟨S8192x512, .f32⟩
  | 98 => ⟨S_, .f32⟩
  | 99 => ⟨S512, .f32⟩
  | 100 => ⟨S1x512, .f32⟩
  | 101 => ⟨S_, .f32⟩
  | 102 => ⟨S512, .f32⟩
  | 103 => ⟨S_, .f32⟩
  | 104 => ⟨S8194x512, .f32⟩
  | 105 => ⟨S8194x512, .f32⟩
  | 106 => ⟨S1x512, .f32⟩
  | 107 => ⟨S_, .f32⟩
  | 108 => ⟨S3x512, .f32⟩
  | 109 => ⟨S3x512, .f32⟩
  | 110 => ⟨S2x512, .f32⟩
  | 111 => ⟨S8192x512, .f32⟩
  | 112 => ⟨S8192x512, .f32⟩
  | 113 => ⟨S8192x512, .f32⟩
  | 114 => ⟨S1x1024, .f32⟩
  | 115 => ⟨S_, .i32⟩
  | 116 => ⟨S_, .f32⟩
  | 117 => ⟨S8x1024, .f32⟩
  | 118 => ⟨S1x512, .f32⟩
  | 119 => ⟨S4x512, .f32⟩
  | 120 => ⟨S_, .i32⟩
  | 121 => ⟨S_, .f32⟩
  | 122 => ⟨S8x512, .f32⟩
  | 123 => ⟨S2048x4x512, .f32⟩
  | 124 => ⟨S4x2048x512, .f32⟩
  | 125 => ⟨S4x2048x512, .bf16⟩
  | 126 => ⟨S512x16x512, .f32⟩
  | 127 => ⟨S16x512x512, .f32⟩
  | _ => ⟨S8192x1024, .f32⟩

abbrev hbmTy0_1 (i : Nat) : BufTy := match i % 128 with
  | 0 => ⟨S16x512x512, .bf16⟩
  | 1 => ⟨S8192x512, .bf16⟩
  | 2 => ⟨S8192x1536, .f32⟩
  | 3 => ⟨S8192x1536, .bf16⟩
  | 4 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_1 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c : Ref sig .tc := ⟨.hbm, 115, rfl⟩
abbrev main_call0_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_17 : Ref sig .tc := ⟨.hbm, 120, rfl⟩
abbrev main_call1_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel9.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel10.lean ====
abbrev S2x8x128x1024 : Shape := ⟨4, ![2, 8, 128, 1024]⟩
abbrev S2x128x1024 : Shape := ⟨3, ![2, 128, 1024]⟩
abbrev S1x8x128x1024 : Shape := ⟨4, ![1, 8, 128, 1024]⟩
abbrev S8x128x1024 : Shape := ⟨3, ![8, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 17
  | .vmem => 18
  | .smem => 0
  | _ => 0

abbrev bufTy : (tb : Table) → Fin (tcTables nBuf tb) → BufTy
  | .hbm, ⟨0, _⟩ => ⟨S2x8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S1x8x128x1024, .f32⟩
  | .hbm, ⟨5, _⟩ => ⟨S8x128x1024, .f32⟩
  | .hbm, ⟨6, _⟩ => ⟨S8x128x1024, .bf16⟩
  | .hbm, ⟨7, _⟩ => ⟨S1x8x128x1024, .f32⟩
  | .hbm, ⟨8, _⟩ => ⟨S8x128x1024, .f32⟩
  | .hbm, ⟨9, _⟩ => ⟨S8x128x1024, .bf16⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2x8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S2x8x128x1024 : Shape := ⟨4, ![2, 8, 128, 1024]⟩
abbrev S2x128x1024 : Shape := ⟨3, ![2, 128, 1024]⟩
abbrev S_ : Shape := ⟨0, ![]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S_, .f32⟩
  | .hbm, ⟨7, _⟩ => ⟨S2x128x1024, .f32⟩
  | .hbm, ⟨8, _⟩ => ⟨S2x128x1024, .f32⟩
  | .hbm, ⟨9, _⟩ => ⟨S_, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S_, .f32⟩
  | .hbm, ⟨14, _⟩ => ⟨S2x128x1024, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S_, .f32⟩
  | .hbm, ⟨25, _⟩ => ⟨S2x128x1024, .f32⟩
  | .hbm, ⟨26, _⟩ => ⟨S2x128x1024, .f32⟩
  | .hbm, ⟨27, _⟩ => ⟨S2x128x1024, .f32⟩
  | .hbm, ⟨28, _⟩ => ⟨S_, .f32⟩
  | .hbm, ⟨29, _⟩ => ⟨S2x128x1024, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | _, _ => ⟨S2x8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel11.lean ====
abbrev S2x8x1024x384 : Shape := ⟨4, ![2, 8, 1024, 384]⟩
abbrev S2x1024x384 : Shape := ⟨3, ![2, 1024, 384]⟩
abbrev S1x8x1024x384 : Shape := ⟨4, ![1, 8, 1024, 384]⟩
abbrev S8x1024x384 : Shape := ⟨3, ![8, 1024, 384]⟩
abbrev S2048x384 : Shape := ⟨2, ![2048, 384]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 17
  | .vmem => 18
  | .smem => 0
  | _ => 0

abbrev bufTy : (tb : Table) → Fin (tcTables nBuf tb) → BufTy
  | .hbm, ⟨0, _⟩ => ⟨S2x8x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S1x8x1024x384, .f32⟩
  | .hbm, ⟨5, _⟩ => ⟨S8x1024x384, .f32⟩
  | .hbm, ⟨6, _⟩ => ⟨S8x1024x384, .bf16⟩
  | .hbm, ⟨7, _⟩ => ⟨S1x8x1024x384, .f32⟩
  | .hbm, ⟨8, _⟩ => ⟨S8x1024x384, .f32⟩
  | .hbm, ⟨9, _⟩ => ⟨S8x1024x384, .bf16⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S2048x384, .f32⟩
  | .hbm, ⟨16, _⟩ => ⟨S2048x384, .f32⟩
  | .local _ .vmem, ⟨0, _⟩ => ⟨S8x512x384, .bf16⟩
  | .local _ .vmem, ⟨1, _⟩ => ⟨S8x512x384, .bf16⟩
  | .local _ .vmem, ⟨2, _⟩ => ⟨S8x512x384, .bf16⟩
  | .local _ .vmem, ⟨3, _⟩ => ⟨S8x512x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | _, _ => ⟨S2x8x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2x8x1024x384 : Shape := ⟨4, ![2, 8, 1024, 384]⟩
abbrev S2x1024x384 : Shape := ⟨3, ![2, 1024, 384]⟩
abbrev S_ : Shape := ⟨0, ![]⟩
abbrev S2048x384 : Shape := ⟨2, ![2048, 384]⟩

abbrev nBuf : Space → Nat
  | .hbm => 43
  | .vmem => 0
  | .smem => 0
  | _ => 0

abbrev bufTy : (tb : Table) → Fin (tcTables nBuf tb) → BufTy
  | .hbm, ⟨0, _⟩ => ⟨S2x8x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S_, .f32⟩
  | .hbm, ⟨7, _⟩ => ⟨S2x1024x384, .f32⟩
  | .hbm, ⟨8, _⟩ => ⟨S2x1024x384, .f32⟩
  | .hbm, ⟨9, _⟩ => ⟨S_, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .hbm, ⟨13, _⟩ => ⟨S_, .f32⟩
  | .hbm, ⟨14, _⟩ => ⟨S2x1024x384, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S_, .f32⟩
  | .hbm, ⟨25, _⟩ => ⟨S2x1024x384, .f32⟩
  | .hbm, ⟨26, _⟩ => ⟨S2x1024x384, .f32⟩
  | .hbm, ⟨27, _⟩ => ⟨S2x1024x384, .f32⟩
  | .hbm, ⟨28, _⟩ => ⟨S_, .f32⟩
  | .hbm, ⟨29, _⟩ => ⟨S2x1024x384, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2048x384, .f32⟩
  | .hbm, ⟨40, _⟩ => ⟨S2048x384, .f32⟩
  | .hbm, ⟨41, _⟩ => ⟨S2048x384, .f32⟩
  | .hbm, ⟨42, _⟩ => ⟨S2048x384, .f32⟩
  | _, _ => ⟨S2x8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel12.lean ====
abbrev S8x1024 : Shape := ⟨2, ![8, 1024]⟩
abbrev S8x2x1152 : Shape := ⟨3, ![8, 2, 1152]⟩
abbrev S1024x8 : Shape := ⟨2, ![1024, 8]⟩
abbrev S2x8x1152 : Shape := ⟨3, ![2, 8, 1152]⟩
abbrev S2x1024x1152 : Shape := ⟨3, ![2, 1024, 1152]⟩
abbrev S1x8x1152 : Shape := ⟨3, ![1, 8, 1152]⟩
abbrev S1x1024x1152 : Shape := ⟨3, ![1, 1024, 1152]⟩
abbrev S1024x1 : Shape := ⟨2, ![1024, 1]⟩
abbrev S1x1x1152 : Shape := ⟨3, ![1, 1, 1152]⟩
abbrev S1x1152 : Shape := ⟨2, ![1, 1152]⟩
abbrev S1024x1152 : Shape := ⟨2, ![1024, 1152]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2x1152, .f32⟩
  | .hbm, ⟨2, _⟩ => ⟨S1024x8, .f32⟩
  | .hbm, ⟨3, _⟩ => ⟨S2x8x1152, .f32⟩
  | .hbm, ⟨4, _⟩ => ⟨S2x1024x1152, .f32⟩
  | .local _ .vmem, ⟨0, _⟩ => ⟨S1024x8, .f32⟩
  | .local _ .vmem, ⟨1, _⟩ => ⟨S1x8x1152, .f32⟩
  | .local _ .vmem, ⟨2, _⟩ => ⟨S1x8x1152, .f32⟩
  | .local _ .vmem, ⟨3, _⟩ => ⟨S1x1024x1152, .f32⟩
  | .local _ .vmem, ⟨4, _⟩ => ⟨S1x1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8x1024 : Shape := ⟨2, ![8, 1024]⟩
abbrev S8x2x1152 : Shape := ⟨3, ![8, 2, 1152]⟩
abbrev S1024x8 : Shape := ⟨2, ![1024, 8]⟩
abbrev S8x1x1152 : Shape := ⟨3, ![8, 1, 1152]⟩
abbrev S8x1152 : Shape := ⟨2, ![8, 1152]⟩
abbrev S1024x1152 : Shape := ⟨2, ![1024, 1152]⟩
abbrev S1x1024x1152 : Shape := ⟨3, ![1, 1024, 1152]⟩
abbrev S2x1024x1152 : Shape := ⟨3, ![2, 1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2x1152, .f32⟩
  | .hbm, ⟨2, _⟩ => ⟨S1024x8, .f32⟩
  | .hbm, ⟨3, _⟩ => ⟨S8x1x1152, .f32⟩
  | .hbm, ⟨4, _⟩ => ⟨S8x1152, .f32⟩
  | .hbm, ⟨5, _⟩ => ⟨S1024x1152, .f32⟩
  | .hbm, ⟨6, _⟩ => ⟨S1024x8, .f32⟩
  | .hbm, ⟨7, _⟩ => ⟨S8x1x1152, .f32⟩
  | .hbm, ⟨8, _⟩ => ⟨S8x1152, .f32⟩
  | .hbm, ⟨9, _⟩ => ⟨S1024x1152, .f32⟩
  | .hbm, ⟨10, _⟩ => ⟨S1x1024x1152, .f32⟩
  | .hbm, ⟨11, _⟩ => ⟨S1x1024x1152, .f32⟩
  | .hbm, ⟨12, _⟩ => ⟨S2x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel13.lean ====
abbrev S2x1024x1152 : Shape := ⟨3, ![2, 1024, 1152]⟩
abbrev S1x2048x1152 : Shape := ⟨3, ![1, 2048, 1152]⟩
abbrev S2048x1152 : Shape := ⟨2, ![2048, 1152]⟩
abbrev S1x128x1152 : Shape := ⟨3, ![1, 128, 1152]⟩
abbrev S128x1152 : Shape := ⟨2, ![128, 1152]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S1x2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S2048x1152, .f32⟩
  | .local _ .vmem, ⟨0, _⟩ => ⟨S1x128x1152, .f32⟩
  | .local _ .vmem, ⟨1, _⟩ => ⟨S1x128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.muli v0 c16_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S2x1024x1152 : Shape := ⟨3, ![2, 1024, 1152]⟩
abbrev S_ : Shape := ⟨0, ![]⟩
abbrev S2048x1152 : Shape := ⟨2, ![2048, 1152]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S_, .f32⟩
  | .hbm, ⟨5, _⟩ => ⟨S2x1024x1152, .f32⟩
  | .hbm, ⟨6, _⟩ => ⟨S2x1024x1152, .f32⟩
  | .hbm, ⟨7, _⟩ => ⟨S_, .f32⟩
  | .hbm, ⟨8, _⟩ => ⟨S2x1024x1152, .f32⟩
  | .hbm, ⟨9, _⟩ => ⟨S2x1024x1152, .f32⟩
  | .hbm, ⟨10, _⟩ => ⟨S2x1024x1152, .f32⟩
  | .hbm, ⟨11, _⟩ => ⟨S_, .f32⟩
  | .hbm, ⟨12, _⟩ => ⟨S2x1024x1152, .f32⟩
  | .hbm, ⟨13, _⟩ => ⟨S2x1024x1152, .f32⟩
  | .hbm, ⟨14, _⟩ => ⟨S2x1024x1152, .f32⟩
  | .hbm, ⟨15, _⟩ => ⟨S_, .f32⟩
  | .hbm, ⟨16, _⟩ => ⟨S2x1024x1152, .f32⟩
  | .hbm, ⟨17, _⟩ => ⟨S2x1024x1152, .f32⟩
  | .hbm, ⟨18, _⟩ => ⟨S2x1024x1152, .f32⟩
  | .hbm, ⟨19, _⟩ => ⟨S_, .f32⟩
  | .hbm, ⟨20, _⟩ => ⟨S2x1024x1152, .f32⟩
  | .hbm, ⟨21, _⟩ => ⟨S2x1024x1152, .f32⟩
  | .hbm, ⟨22, _⟩ => ⟨S_, .f32⟩
  | .hbm, ⟨23, _⟩ => ⟨S2x1024x1152, .f32⟩
  | .hbm, ⟨24, _⟩ => ⟨S2x1024x1152, .f32⟩
  | .hbm, ⟨25, _⟩ => ⟨S2x1024x1152, .f32⟩
  | .hbm, ⟨26, _⟩ => ⟨S_, .f32⟩
  | .hbm, ⟨27, _⟩ => ⟨S2x1024x1152, .f32⟩
  | .hbm, ⟨28, _⟩ => ⟨S2x1024x1152, .f32⟩
  | .hbm, ⟨29, _⟩ => ⟨S2x1024x1152, .f32⟩
  | .hbm, ⟨30, _⟩ => ⟨S_, .f32⟩
  | .hbm, ⟨31, _⟩ => ⟨S2x1024x1152, .f32⟩
  | .hbm, ⟨32, _⟩ => ⟨S2x1024x1152, .f32⟩
  | .hbm, ⟨33, _⟩ => ⟨S2x1024x1152, .f32⟩
  | .hbm, ⟨34, _⟩ => ⟨S_, .f32⟩
  | .hbm, ⟨35, _⟩ => ⟨S2x1024x1152, .f32⟩
  | .hbm, ⟨36, _⟩ => ⟨S2x1024x1152, .f32⟩
  | .hbm, ⟨37, _⟩ => ⟨S2048x1152, .f32⟩
  | .hbm, ⟨38, _⟩ => ⟨S2048x1152, .f32⟩
  | .hbm, ⟨39, _⟩ => ⟨S2048x1152, .f32⟩
  | .hbm, ⟨40, _⟩ => ⟨S2048x1152, .f32⟩
  | _, _ => ⟨S2x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S2x2x8x352x1024 : Shape := ⟨5, ![2, 2, 8, 352, 1024]⟩
abbrev S2x2x352x1024 : Shape := ⟨4, ![2, 2, 352, 1024]⟩
abbrev S1x1x8x352x1024 : Shape := ⟨5, ![1, 1, 8, 352, 1024]⟩
abbrev S8x352x1024 : Shape := ⟨3, ![8, 352, 1024]⟩
abbrev S1408x1024 : Shape := ⟨2, ![1408, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 23
  | .vmem => 22
  | .smem => 0
  | _ => 0

abbrev bufTy : (tb : Table) → Fin (tcTables nBuf tb) → BufTy
  | .hbm, ⟨0, _⟩ => ⟨S2x2x8x352x1024, .f32⟩
  | .hbm, ⟨1, _⟩ => ⟨S2x2x352x1024, .f32⟩
  | .hbm, ⟨2, _⟩ => ⟨S2x2x352x1024, .f32⟩
  | .hbm, ⟨3, _⟩ => ⟨S2x2x352x1024, .f32⟩
  | .hbm, ⟨4, _⟩ => ⟨S1x1x8x352x1024, .f32⟩
  | .hbm, ⟨5, _⟩ => ⟨S8x352x1024, .f32⟩
  | .hbm, ⟨6, _⟩ => ⟨S8x352x1024, .bf16⟩
  | .hbm, ⟨7, _⟩ => ⟨S1x1x8x352x1024, .f32⟩
  | .hbm, ⟨8, _⟩ => ⟨S8x352x1024, .f32⟩
  | .hbm, ⟨9, _⟩ => ⟨S8x352x1024, .bf16⟩
  | .hbm, ⟨10, _⟩ => ⟨S1x1x8x352x1024, .f32⟩
  | .hbm, ⟨11, _⟩ => ⟨S8x352x1024, .f32⟩
  | .hbm, ⟨12, _⟩ => ⟨S8x352x1024, .bf16⟩
  | .hbm, ⟨13, _⟩ => ⟨S1x1x8x352x1024, .f32⟩
  | .hbm, ⟨14, _⟩ => ⟨S8x352x1024, .f32⟩
  | .hbm, ⟨15, _⟩ => ⟨S8x352x1024, .bf16⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | _, _ => ⟨S2x2x8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.muli v0 c2_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S2x2x8x352x1024 : Shape := ⟨5, ![2, 2, 8, 352, 1024]⟩
abbrev S2x2x352x1024 : Shape := ⟨4, ![2, 2, 352, 1024]⟩
abbrev S_ : Shape := ⟨0, ![]⟩
abbrev S1408x1024 : Shape := ⟨2, ![1408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2x8x352x1024, .f32⟩
  | .hbm, ⟨1, _⟩ => ⟨S2x2x352x1024, .f32⟩
  | .hbm, ⟨2, _⟩ => ⟨S2x2x352x1024, .f32⟩
  | .hbm, ⟨3, _⟩ => ⟨S2x2x352x1024, .f32⟩
  | .hbm, ⟨4, _⟩ => ⟨S_, .f32⟩
  | .hbm, ⟨5, _⟩ => ⟨S2x2x352x1024, .f32⟩
  | .hbm, ⟨6, _⟩ => ⟨S_, .f32⟩
  | .hbm, ⟨7, _⟩ => ⟨S2x2x352x1024, .f32⟩
  | .hbm, ⟨8, _⟩ => ⟨S2x2x352x1024, .f32⟩
  | .hbm, ⟨9, _⟩ => ⟨S_, .f32⟩
  | .hbm, ⟨10, _⟩ => ⟨S2x2x352x1024, .f32⟩
  | .hbm, ⟨11, _⟩ => ⟨S2x2x352x1024, .f32⟩
  | .hbm, ⟨12, _⟩ => ⟨S2x2x352x1024, .f32⟩
  | .hbm, ⟨13, _⟩ => ⟨S_, .f32⟩
  | .hbm, ⟨14, _⟩ => ⟨S2x2x352x1024, .f32⟩
  | .hbm, ⟨15, _⟩ => ⟨S2x2x352x1024, .f32⟩
  | .hbm, ⟨16, _⟩ => ⟨S2x2x352x1024, .f32⟩
  | .hbm, ⟨17, _⟩ => ⟨S_, .f32⟩
  | .hbm, ⟨18, _⟩ => ⟨S2x2x352x1024, .f32⟩
  | .hbm, ⟨19, _⟩ => ⟨S2x2x352x1024, .f32⟩
  | .hbm, ⟨20, _⟩ => ⟨S2x2x352x1024, .f32⟩
  | .hbm, ⟨21, _⟩ => ⟨S_, .f32⟩
  | .hbm, ⟨22, _⟩ => ⟨S2x2x352x1024, .f32⟩
  | .hbm, ⟨23, _⟩ => ⟨S2x2x352x1024, .f32⟩
  | .hbm, ⟨24, _⟩ => ⟨S_, .f32⟩
  | .hbm, ⟨25, _⟩ => ⟨S2x2x352x1024, .f32⟩
  | .hbm, ⟨26, _⟩ => ⟨S2x2x352x1024, .f32⟩
  | .hbm, ⟨27, _⟩ => ⟨S2x2x352x1024, .f32⟩
  | .hbm, ⟨28, _⟩ => ⟨S_, .f32⟩
  | .hbm, ⟨29, _⟩ => ⟨S2x2x352x1024, .f32⟩
  | .hbm, ⟨30, _⟩ => ⟨S2x2x352x1024, .f32⟩
  | .hbm, ⟨31, _⟩ => ⟨S2x2x352x1024, .f32⟩
  | .hbm, ⟨32, _⟩ => ⟨S_, .f32⟩
  | .hbm, ⟨33, _⟩ => ⟨S2x2x352x1024, .f32⟩
  | .hbm, ⟨34, _⟩ => ⟨S2x2x352x1024, .f32⟩
  | .hbm, ⟨35, _⟩ => ⟨S2x2x352x1024, .f32⟩
  | .hbm, ⟨36, _⟩ => ⟨S_, .f32⟩
  | .hbm, ⟨37, _⟩ => ⟨S2x2x352x1024, .f32⟩
  | .hbm, ⟨38, _⟩ => ⟨S2x2x352x1024, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S1408x1024, .f32⟩
  | _, _ => ⟨S2x2x8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel15.lean ====
abbrev S168x128 : Shape := ⟨2, ![168, 128]⟩
abbrev S1x168x128 : Shape := ⟨3, ![1, 168, 128]⟩

abbrev nBuf : Space → Nat
  | .hbm => 9
  | .vmem => 8
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S1x168x128, .f32⟩
  | .hbm, ⟨5, _⟩ => ⟨S168x128, .f32⟩
  | .hbm, ⟨6, _⟩ => ⟨S168x128, .f32⟩
  | .hbm, ⟨7, _⟩ => ⟨S168x128, .f32⟩
  | .hbm, ⟨8, _⟩ => ⟨S168x128, .f32⟩
  | .local _ .vmem, ⟨0, _⟩ => ⟨S1x168x128, .f32⟩
  | .local _ .vmem, ⟨1, _⟩ => ⟨S168x128, .f32⟩
  | .local _ .vmem, ⟨2, _⟩ => ⟨S168x128, .f32⟩
  | .local _ .vmem, ⟨3, _⟩ => ⟨S168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c0_i32_0 : BitVec 32 := 0#32
  let c0_i32_1 : BitVec 32 := 0#32
  ![v2.toNat, c0_i32_0.toNat]

abbrev stage0_0 : Fin 1 → Memref sig .tc .vmem S1x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .local _ .vmem, ⟨0, _⟩ => ⟨S8x232x128, .f32⟩
  | .local _ .vmem, ⟨1, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x232x128 : Shape := ⟨3, ![8, 232, 128]⟩
abbrev S_ : Shape := ⟨0, ![]⟩
abbrev S232x128 : Shape := ⟨2, ![232, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S_, .f32⟩
  | .hbm, ⟨2, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8x1024 : Shape := ⟨2, ![8, 1024]⟩
abbrev S2x1024x1152 : Shape := ⟨3, ![2, 1024, 1152]⟩
abbrev S2x1152 : Shape := ⟨2, ![2, 1152]⟩
abbrev S2x1x1152 : Shape := ⟨3, ![2, 1, 1152]⟩
abbrev S2x8x1152 : Shape := ⟨3, ![2, 8, 1152]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 6
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S2x1152, .f32⟩
  | .hbm, ⟨3, _⟩ => ⟨S2x1x1152, .f32⟩
  | .hbm, ⟨4, _⟩ => ⟨S2x8x1152, .f32⟩
  | .hbm, ⟨5, _⟩ => ⟨S8x1024, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S8x1024 : Shape := ⟨2, ![8, 1024]⟩
abbrev S2x1024x1152 : Shape := ⟨3, ![2, 1024, 1152]⟩
abbrev S2x1152 : Shape := ⟨2, ![2, 1152]⟩
abbrev S_ : Shape := ⟨0, ![]⟩
abbrev S1x1024x1152 : Shape := ⟨3, ![1, 1024, 1152]⟩
abbrev S1024x1152 : Shape := ⟨2, ![1024, 1152]⟩
abbrev S8x1152 : Shape := ⟨2, ![8, 1152]⟩
abbrev S1x1152 : Shape := ⟨2, ![1, 1152]⟩
abbrev S1152 : Shape := ⟨1, ![1152]⟩
abbrev S1x8x1152 : Shape := ⟨3, ![1, 8, 1152]⟩
abbrev S2x8x1152 : Shape := ⟨3, ![2, 8, 1152]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S2x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1152, .f32⟩
  | .hbm, ⟨13, _⟩ => ⟨S1024x1152, .f32⟩
  | .hbm, ⟨14, _⟩ => ⟨S8x1152, .f32⟩
  | .hbm, ⟨15, _⟩ => ⟨S1x1152, .f32⟩
  | .hbm, ⟨16, _⟩ => ⟨S1152, .f32⟩
  | .hbm, ⟨17, _⟩ => ⟨S1x1152, .f32⟩
  | .hbm, ⟨18, _⟩ => ⟨S8x1152, .f32⟩
  | .hbm, ⟨19, _⟩ => ⟨S8x1152, .f32⟩
  | .hbm, ⟨20, _⟩ => ⟨S1x1024x1152, .f32⟩
  | .hbm, ⟨21, _⟩ => ⟨S1024x1152, .f32⟩
  | .hbm, ⟨22, _⟩ => ⟨S8x1152, .f32⟩
  | .hbm, ⟨23, _⟩ => ⟨S1x1152, .f32⟩
  | .hbm, ⟨24, _⟩ => ⟨S1152, .f32⟩
  | .hbm, ⟨25, _⟩ => ⟨S1x1152, .f32⟩
  | .hbm, ⟨26, _⟩ => ⟨S8x1152, .f32⟩
  | .hbm, ⟨27, _⟩ => ⟨S8x1152, .f32⟩
  | .hbm, ⟨28, _⟩ => ⟨S1x8x1152, .f32⟩
  | .hbm, ⟨29, _⟩ => ⟨S1x8x1152, .f32⟩
  | .hbm, ⟨30, _⟩ => ⟨S2x8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Math.lean ====
module

public import Idealize.ShloMosaic.Lib.Pointwise
public import Mathlib.Analysis.SpecialFunctions.Pow.Real

@[expose] public section

noncomputable section

/-! The gradients of one half-step feed-forward layer, as real functions of the layer's arguments. -/
namespace Cert.Ffn

/-- The layer's arguments over the reals: the tokens, the norm's gain, the shift, the scale, the gate, the two
    weights and the gradient at the layer's result. -/
structure Data where
  X : Fin 8192 → Fin 1024 → ℝ
  NG : Fin 1024 → ℝ
  SH : Fin 1024 → ℝ
  SC : Fin 1024 → ℝ
  G : Fin 1024 → ℝ
  W1 : Fin 1024 → Fin 5632 → ℝ
  W2 : Fin 2816 → Fin 1024 → ℝ
  D : Fin 8192 → Fin 1024 → ℝ

/-- The constant under the root. -/
def eps : ℝ := 8796093 / 8796093022208

theorem eps_pos : 0 < eps := by unfold eps; norm_num

/-- The column of the first half at `f`. -/
def lo (f : Fin 2816) : Fin 5632 := ⟨f.val, by omega⟩
/-- The column of the second half at `f`. -/
def hi (f : Fin 2816) : Fin 5632 := ⟨2816 + f.val, by omega⟩

/-- The logistic function. -/
def sg (z : ℝ) : ℝ := (1 + Real.exp (-z))⁻¹

namespace Data
variable (P : Data)

/-- The mean square of a token, with the constant. -/
def ms (t : Fin 8192) : ℝ := (∑ d, P.X t d * P.X t d) / 1024 + eps
/-- One over the root of the mean square. -/
def rs (t : Fin 8192) : ℝ := (Real.sqrt (P.ms t))⁻¹
/-- The normalised token. -/
def xh (t : Fin 8192) (d : Fin 1024) : ℝ := P.X t d * P.rs t
/-- The modulated token. -/
def hh (t : Fin 8192) (d : Fin 1024) : ℝ := P.xh t d * P.NG d * (1 + P.SC d) + P.SH d
/-- The first product. -/
def aa (t : Fin 8192) (c : Fin 5632) : ℝ := ∑ d, P.hh t d * P.W1 d c
/-- The gate and the value of the gated unit. -/
def gg (t : Fin 8192) (f : Fin 2816) : ℝ := P.aa t (lo f)
def uu (t : Fin 8192) (f : Fin 2816) : ℝ := P.aa t (hi f)
/-- The gated unit. -/
def ss (t : Fin 8192) (f : Fin 2816) : ℝ := P.gg t f * sg (P.gg t f) * P.uu t f
/-- The second product. -/
def yy (t : Fin 8192) (d : Fin 1024) : ℝ := ∑ f, P.ss t f * P.W2 f d
/-- The gradient at the second product. -/
def dy (t : Fin 8192) (d : Fin 1024) : ℝ := 1 / 2 * P.G d * P.D t d
/-- The gradient at the gated unit. -/
def ds (t : Fin 8192) (f : Fin 2816) : ℝ := ∑ d, P.dy t d * P.W2 f d
/-- The derivative of the gated unit in its gate, and in its value. -/
def cg (t : Fin 8192) (f : Fin 2816) : ℝ := P.uu t f * (sg (P.gg t f) * (1 + P.gg t f * (1 - sg (P.gg t f))))
def cu (t : Fin 8192) (f : Fin 2816) : ℝ := P.gg t f * sg (P.gg t f)
/-- The gradients at the gate and at the value. -/
def dg (t : Fin 8192) (f : Fin 2816) : ℝ := P.ds t f * P.cg t f
def du (t : Fin 8192) (f : Fin 2816) : ℝ := P.ds t f * P.cu t f
/-- The gradient at the modulated token. -/
def dh (t : Fin 8192) (d : Fin 1024) : ℝ :=
  (∑ f, P.dg t f * P.W1 d (lo f)) + ∑ f, P.du t f * P.W1 d (hi f)
/-- The gradient at the normalised token. -/
def dxh (t : Fin 8192) (d : Fin 1024) : ℝ := P.dh t d * ((1 + P.SC d) * P.NG d)
/-- The gradient at the token. -/
def dx (t : Fin 8192) (d : Fin 1024) : ℝ :=
  P.D t d + P.rs t * (P.dxh t d - P.xh t d * ((∑ k, P.dxh t k * P.xh t k) / 1024))
/-- One token's terms of the gradients of the shift, the scale, the gain and the gate. -/
def tshift (t : Fin 8192) (d : Fin 1024) : ℝ := P.dh t d
def tscale (t : Fin 8192) (d : Fin 1024) : ℝ := P.dh t d * (P.xh t d * P.NG d)
def tgain (t : Fin 8192) (d : Fin 1024) : ℝ := P.dh t d * (P.xh t d * (1 + P.SC d))
def tgate (t : Fin 8192) (d : Fin 1024) : ℝ := 1 / 2 * P.D t d * P.yy t d

theorem ms_pos (t : Fin 8192) : 0 < P.ms t :=
  add_pos_of_nonneg_of_pos (div_nonneg (Finset.sum_nonneg fun d _ => mul_self_nonneg _) (by norm_num)) eps_pos

theorem rs_sq (t : Fin 8192) : P.rs t * P.rs t = (P.ms t)⁻¹ := by
  unfold rs; rw [← mul_inv, Real.mul_self_sqrt (P.ms_pos t).le]

/-- The gradient at the token along the chain of the norm's own lines. -/
theorem dx_chain (t : Fin 8192) (d : Fin 1024) :
    P.D t d + (P.dh t d * (1 + P.SC d) * P.NG d * P.rs t
      + P.X t d * ((∑ k, P.X t k * (P.dh t k * (1 + P.SC k) * P.NG k)) * (-(1 / 2) * (P.rs t / P.ms t)) / 1024)
      + (∑ k, P.X t k * (P.dh t k * (1 + P.SC k) * P.NG k)) * (-(1 / 2) * (P.rs t / P.ms t)) / 1024 * P.X t d) = P.dx t d := by
  have e : ∑ k, P.dxh t k * P.xh t k = P.rs t * ∑ k, P.X t k * (P.dh t k * (1 + P.SC k) * P.NG k) := by
    rw [Finset.mul_sum]; exact Finset.sum_congr rfl fun k _ => by unfold dxh xh; ring
  unfold dx
  rw [e, div_eq_mul_inv (P.rs t), ← P.rs_sq t]
  unfold dxh xh; ring

end Data

/-! ## Extended reals -/

open Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ideal_div (x y : ℝ) (h : y ≠ 0) : Ideal.div (x : EReal) (y : EReal) = ((x / y : ℝ) : EReal) := by
  rw [Ideal.div_coe h, ← EReal.coe_mul]; congr 1; field_simp

theorem ideal_rsqrt (x : ℝ) (h : 0 < x) : Ideal.rsqrt (x : EReal) = (((Real.sqrt x)⁻¹ : ℝ) : EReal) := by
  rw [Ideal.rsqrt_coe, if_neg (not_lt.2 h.le), if_neg h.ne']

theorem sg_pos (z : ℝ) : 0 < 1 + Real.exp (-z) := by positivity

theorem lit_half : Ideal.ofBits .f32 0x3F000000#32 = ((1 / 2 : ℝ) : EReal) := by
  simp [Ideal.ofBits, Ideal.ieee, -EReal.coe_mul]; norm_num
theorem lit_nhalf : Ideal.ofBits .f32 0xBF000000#32 = ((-(1 / 2) : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x358637BD#32 = ((eps : ℝ) : EReal) := by
  unfold eps; simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num

end Cert.Ffn

end
-- ==== Proof.RefVal.lean ====
module

public import proofs.«01_k».proof.Proof.Gen.ReferenceIdeal.Read
public import proofs.«01_k».proof.Proof.Math

@[expose] public section

noncomputable section

/-! The reference's stages, read at an index, as the real functions of Math. -/
namespace Cert.Ffn

open Cert.ReferenceIdeal Cert.ReferenceIdeal.Gen Cert.ReferenceIdeal.Read Idealize.ShloMosaic Idealize.ShloMosaic.Pointwise

/-- The arrays `x0 … x7` hold the reals of `P`. -/
structure Holds (P : Data) (x0 : Vec Ideal S8192x1024 .f32) (x1 x2 x3 x4 : Vec Ideal S1024 .f32)
    (x5 : Vec Ideal S1024x5632 .f32) (x6 : Vec Ideal S2816x1024 .f32) (x7 : Vec Ideal S8192x1024 .f32) : Prop where
  h0 : ∀ t d, x0 (ix2 t d) = ((P.X t d : ℝ) : EReal)
  h1 : ∀ d, x1 (ix1 d) = ((P.NG d : ℝ) : EReal)
  h2 : ∀ d, x2 (ix1 d) = ((P.SH d : ℝ) : EReal)
  h3 : ∀ d, x3 (ix1 d) = ((P.SC d : ℝ) : EReal)
  h4 : ∀ d, x4 (ix1 d) = ((P.G d : ℝ) : EReal)
  h5 : ∀ d c, x5 (ix2 d c) = ((P.W1 d c : ℝ) : EReal)
  h6 : ∀ f d, x6 (ix2 f d) = ((P.W2 f d : ℝ) : EReal)
  h7 : ∀ t d, x7 (ix2 t d) = ((P.D t d : ℝ) : EReal)

variable {P : Data} {x0 : Vec Ideal S8192x1024 .f32} {x1 x2 x3 x4 : Vec Ideal S1024 .f32}
  {x5 : Vec Ideal S1024x5632 .f32} {x6 : Vec Ideal S2816x1024 .f32} {x7 : Vec Ideal S8192x1024 .f32}

section
variable (h : Holds P x0 x1 x2 x3 x4 x5 x6 x7)
include h

theorem r_v6 (t : Fin 8192) (z : Fin 1) : val_main_v6 (F := Ideal) x0 (ix2 t z) = ((P.ms t : ℝ) : EReal) := by
  pointwise [val_main_v6, val_main_v4, val_main_v2, val_main_v1, val_main_v0, val_main_cst, val_main_v3, val_main_cst_0,
    val_main_v5, val_main_cst_1]
  simp only [h.h0, lit_1024, lit_eps, ← EReal.coe_mul, coe_sum, zero_add]
  rw [ideal_div _ _ (by norm_num), ← EReal.coe_add]; rfl

theorem r_v7 (t : Fin 8192) (z : Fin 1) : val_main_v7 (F := Ideal) x0 (ix2 t z) = ((P.rs t : ℝ) : EReal) := by
  pointwise [val_main_v7]
  rw [r_v6 h, ideal_rsqrt _ (P.ms_pos t)]; rfl

theorem r_v12 (t : Fin 8192) (d : Fin 1024) : val_main_v12 (F := Ideal) x0 (ix2 t d) = ((P.xh t d : ℝ) : EReal) := by
  pointwise [val_main_v12, val_main_v11]
  rw [r_v7 h, h.h0, ← EReal.coe_mul]; rfl

theorem r_v23 (t : Fin 8192) (d : Fin 1024) : val_main_v23 (F := Ideal) x0 x1 x2 x3 (ix2 t d) = ((P.hh t d : ℝ) : EReal) := by
  pointwise [val_main_v23, val_main_v22, val_main_v21, val_main_v20, val_main_v19, val_main_v18, val_main_v17, val_main_v16,
    val_main_cst_3, val_main_v15, val_main_v14, val_main_v13]
  rw [r_v12 h, h.h1, h.h2, h.h3]; norm_cast

theorem r_v24 (t : Fin 8192) (c : Fin 5632) : val_main_v24 (F := Ideal) x0 x1 x2 x3 x5 (ix2 t c) = ((P.aa t c : ℝ) : EReal) := by
  pointwise [val_main_v24]
  simp only [r_v23 h, h.h5, ← EReal.coe_mul, coe_sum]; rfl

theorem r_v25 (t : Fin 8192) (f : Fin 2816) : val_main_v25 (F := Ideal) x0 x1 x2 x3 x5 (ix2 t f) = ((P.gg t f : ℝ) : EReal) := by
  pointwise [val_main_v25]
  exact r_v24 h t (lo f)

theorem r_v26 (t : Fin 8192) (f : Fin 2816) : val_main_v26 (F := Ideal) x0 x1 x2 x3 x5 (ix2 t f) = ((P.uu t f : ℝ) : EReal) := by
  pointwise [val_main_v26]
  exact r_v24 h t (hi f)

theorem r_sig (t : Fin 8192) (f : Fin 2816) : val_main_v27_2 (F := Ideal) x0 x1 x2 x3 x5 (ix2 t f) = ((sg (P.gg t f) : ℝ) : EReal) := by
  pointwise [val_main_v27_2, val_main_call0_v4, val_main_call0_cst_0, val_main_call0_v3, val_main_call0_v2, val_main_call0_cst,
    val_main_call0_v1, val_main_call0_v0]
  rw [r_v25 h, ← EReal.coe_neg, Ideal.exp_coe, ← EReal.coe_one, ← EReal.coe_add, ideal_div _ _ (sg_pos _).ne', one_div]; rfl

theorem r_silu (t : Fin 8192) (f : Fin 2816) : val_main_v27_0 (F := Ideal) x0 x1 x2 x3 x5 (ix2 t f) = ((P.cu t f : ℝ) : EReal) := by
  pointwise [val_main_v27_0]
  rw [r_v25 h, r_sig h, ← EReal.coe_mul]; rfl

theorem r_v28 (t : Fin 8192) (f : Fin 2816) : val_main_v28 (F := Ideal) x0 x1 x2 x3 x5 (ix2 t f) = ((P.ss t f : ℝ) : EReal) := by
  pointwise [val_main_v28]
  rw [r_silu h, r_v26 h, ← EReal.coe_mul]; rfl

theorem r_v29 (t : Fin 8192) (d : Fin 1024) : val_main_v29 (F := Ideal) x0 x1 x2 x3 x5 x6 (ix2 t d) = ((P.yy t d : ℝ) : EReal) := by
  pointwise [val_main_v29]
  simp only [r_v28 h, h.h6, ← EReal.coe_mul, coe_sum]; rfl

theorem r_v38 (t : Fin 8192) (d : Fin 1024) : val_main_v38 (F := Ideal) x4 x7 (ix2 t d) = ((P.dy t d : ℝ) : EReal) := by
  pointwise [val_main_v38, val_main_v37, val_main_v32, val_main_v31, val_main_v30, val_main_cst_4, val_main_v36]
  rw [lit_half, h.h4, h.h7, ← EReal.coe_mul, ← EReal.coe_mul]; rfl

theorem r_v44 (d : Fin 1024) : val_main_v44 (F := Ideal) x0 x1 x2 x3 x5 x6 x7 (ix1 d) = ((∑ t, P.tgate t d : ℝ) : EReal) := by
  pointwise [val_main_v44, val_main_v43, val_main_cst_7, val_main_v42, val_main_cst_6, val_main_v41, val_main_v40, val_main_cst_5,
    val_main_v39, val_main_v36]
  rw [Finset.sum_const, Finset.card_univ, Fintype.card_fin, one_smul]
  simp only [lit_half, h.h7, r_v29 h, ← EReal.coe_mul, coe_sum, Finset.mul_sum, Data.tgate, mul_assoc]

theorem r_v45 (t : Fin 8192) (f : Fin 2816) : val_main_v45 (F := Ideal) x4 x6 x7 (ix2 t f) = ((P.ds t f : ℝ) : EReal) := by
  pointwise [val_main_v45]
  simp only [r_v38 h, h.h6, ← EReal.coe_mul, coe_sum]; rfl

theorem r_v46 (t : Fin 8192) (f : Fin 2816) : val_main_v46 (F := Ideal) x0 x1 x2 x3 x4 x5 x6 x7 (ix2 t f) = ((P.du t f : ℝ) : EReal) := by
  pointwise [val_main_v46]
  rw [r_silu h, r_v45 h, ← EReal.coe_mul, mul_comm]; rfl

theorem r_v48 (t : Fin 8192) (f : Fin 2816) : val_main_v48 (F := Ideal) x0 x1 x2 x3 x4 x5 x6 x7 (ix2 t f) = ((P.dg t f : ℝ) : EReal) := by
  pointwise [val_main_v48, val_main_call1_v1, val_main_call1_v2, val_main_call1_v0, val_main_v47, val_main_v27_1,
    val_main_call0_v7, val_main_call0_v6, val_main_call0_cst_1]
  rw [r_v25 h, r_sig h, r_v45 h, r_v26 h]
  rw [← EReal.coe_one]
  simp only [← EReal.coe_mul, ← EReal.coe_add, ← EReal.coe_sub]
  unfold Data.dg Data.cg; congr 1; ring

theorem r_v49_lo (t : Fin 8192) (f : Fin 2816) : val_main_v49 (F := Ideal) x0 x1 x2 x3 x4 x5 x6 x7 (ix2 t (lo f)) = ((P.dg t f : ℝ) : EReal) := by
  pointwise [val_main_v49, lo]
  exact r_v48 h t f

theorem r_v49_hi (t : Fin 8192) (f : Fin 2816) : val_main_v49 (F := Ideal) x0 x1 x2 x3 x4 x5 x6 x7 (ix2 t (hi f)) = ((P.du t f : ℝ) : EReal) := by
  pointwise [val_main_v49, hi]
  exact r_v46 h t f

theorem r_v50 (t : Fin 8192) (d : Fin 1024) : val_main_v50 (F := Ideal) x0 x1 x2 x3 x4 x5 x6 x7 (ix2 t d) = ((P.dh t d : ℝ) : EReal) := by
  have e : ∀ F : Fin 5632 → EReal, ∑ c, F c = (∑ f, F (lo f)) + ∑ f, F (hi f) := Fin.sum_univ_add (a := 2816) (b := 2816)
  pointwise [val_main_v50]
  simp only [e, r_v49_lo h, r_v49_hi h, h.h5, ← EReal.coe_mul, coe_sum, ← EReal.coe_add]; rfl

theorem r_v53 (d : Fin 1024) : val_main_v53 (F := Ideal) x0 x1 x2 x3 x4 x5 x6 x7 (ix1 d) = ((∑ t, P.tshift t d : ℝ) : EReal) := by
  pointwise [val_main_v53, val_main_cst_9, val_main_v52, val_main_v51, val_main_cst_8]
  rw [Finset.sum_const, Finset.card_univ, Fintype.card_fin, one_smul]
  simp only [r_v50 h, coe_sum]; rfl

theorem r_v15 (t : Fin 8192) (d : Fin 1024) : val_main_v15 (F := Ideal) x0 x1 (ix2 t d) = ((P.xh t d * P.NG d : ℝ) : EReal) := by
  pointwise [val_main_v15, val_main_v14, val_main_v13]
  rw [r_v12 h, h.h1, ← EReal.coe_mul]

theorem r_v58 (t : Fin 8192) (d : Fin 1024) : val_main_v58 (F := Ideal) x0 x1 x2 x3 x4 x5 x6 x7 (ix2 t d) = ((P.dh t d * (1 + P.SC d) : ℝ) : EReal) := by
  pointwise [val_main_v58, val_main_v57, val_main_v18, val_main_v17, val_main_v16, val_main_cst_3]
  rw [r_v50 h, h.h3, ← EReal.coe_one, ← EReal.coe_add, ← EReal.coe_mul]

theorem r_v59 (d : Fin 1024) : val_main_v59 (F := Ideal) x0 x1 x2 x3 x4 x5 x6 x7 (ix1 d) = ((∑ t, P.tscale t d : ℝ) : EReal) := by
  pointwise [val_main_v59, val_main_cst_11, val_main_v56, val_main_v55, val_main_cst_10, val_main_v54]
  rw [Finset.sum_const, Finset.card_univ, Fintype.card_fin, one_smul]
  simp only [r_v50 h, r_v15 h, ← EReal.coe_mul, coe_sum, Data.tscale, mul_comm (P.dh _ _)]

theorem r_v65 (d : Fin 1024) : val_main_v65 (F := Ideal) x0 x1 x2 x3 x4 x5 x6 x7 (ix1 d) = ((∑ t, P.tgain t d : ℝ) : EReal) := by
  pointwise [val_main_v65, val_main_cst_13, val_main_v62, val_main_v61, val_main_cst_12, val_main_v60]
  rw [Finset.sum_const, Finset.card_univ, Fintype.card_fin, one_smul]
  simp only [r_v58 h, r_v12 h, ← EReal.coe_mul, coe_sum, Data.tgain, mul_left_comm]

theorem r_v64 (t : Fin 8192) (d : Fin 1024) : val_main_v64 (F := Ideal) x0 x1 x2 x3 x4 x5 x6 x7 (ix2 t d) = ((P.dh t d * (1 + P.SC d) * P.NG d : ℝ) : EReal) := by
  pointwise [val_main_v64, val_main_v63, val_main_v13]
  rw [r_v58 h, h.h1, ← EReal.coe_mul]

theorem r_v10 (t : Fin 8192) (z : Fin 1) : val_main_v10 (F := Ideal) x0 (ix2 t z) = ((-(1 / 2) * (P.rs t / P.ms t) : ℝ) : EReal) := by
  pointwise [val_main_v10, val_main_v9, val_main_cst_2, val_main_v8]
  rw [r_v7 h, r_v6 h, lit_nhalf, ideal_div _ _ (P.ms_pos t).ne', ← EReal.coe_mul]

theorem r_v75 (t : Fin 8192) (d : Fin 1024) : val_main_v75 (F := Ideal) x0 x1 x2 x3 x4 x5 x6 x7 (ix2 t d)
    = (((∑ k, P.X t k * (P.dh t k * (1 + P.SC k) * P.NG k)) * (-(1 / 2) * (P.rs t / P.ms t)) / 1024 : ℝ) : EReal) := by
  pointwise [val_main_v75, val_main_v74, val_main_cst_16, val_main_v73, val_main_v72, val_main_cst_15, val_main_v71, val_main_v68,
    val_main_v67, val_main_cst_14, val_main_v66]
  simp only [r_v64 h, r_v10 h, h.h0, lit_1024, ← EReal.coe_mul, coe_sum,
    ideal_div _ _ (by norm_num : (1024 : ℝ) ≠ 0), Finset.sum_const, Finset.card_univ, Fintype.card_fin, one_smul]

/-- The gradient at the token. -/
theorem r_v89 (t : Fin 8192) (d : Fin 1024) : val_main_v89 (F := Ideal) x0 x1 x2 x3 x4 x5 x6 x7 (ix2 t d) = ((P.dx t d : ℝ) : EReal) := by
  pointwise [val_main_v89, val_main_v79, val_main_v78, val_main_v77, val_main_v76, val_main_v70, val_main_v69]
  rw [r_v75 h, r_v64 h, r_v7 h, h.h7, h.h0]
  simp only [← EReal.coe_mul, ← EReal.coe_add]
  rw [P.dx_chain]

/-- The gradient at the first product, laid out in its two halves of four parts. -/
def daAt (P : Data) (a : Fin 2) (t : Fin 8192) (f : Fin 2816) : ℝ := if a = 0 then P.dg t f else P.du t f

/-- Column `k` of part `j` of a half. -/
def part (j : Fin 4) (k : Fin 704) : Fin 2816 := ⟨j.val * 704 + k.val, by omega⟩

theorem r_v82 (a : Fin 2) (j : Fin 4) (t : Fin 8192) (k : Fin 704) :
    val_main_v82 (F := Ideal) x0 x1 x2 x3 x4 x5 x6 x7 (ix4 a j t k) = ((daAt P a t (part j k) : ℝ) : EReal) := by
  pointwise [val_main_v82, val_main_v81, val_main_v80]
  fin_cases a
  · refine (congrArg _ (congrArg (ix2 t) (Fin.ext ?_))).trans (r_v49_lo h t (part j k))
    simp [lo, part]
  · refine (congrArg _ (congrArg (ix2 t) (Fin.ext ?_))).trans (r_v49_hi h t (part j k))
    simp [hi, part]; omega

theorem r_v90 (t : Fin 8192) (d : Fin 1024) : val_main_v90 (F := Ideal) x4 x7 (ix2 t d) = ((P.dy t d : ℝ) : EReal) := by
  pointwise [val_main_v90]
  exact r_v38 h t d

/-- The four sums in the first four rows; zero below. -/
def stAt (P : Data) (r : Fin 8) (d : Fin 1024) : ℝ :=
  if r = 0 then ∑ t, P.tshift t d else if r = 1 then ∑ t, P.tscale t d else if r = 2 then ∑ t, P.tgain t d
  else if r = 3 then ∑ t, P.tgate t d else 0

theorem r_v88 (r : Fin 8) (d : Fin 1024) : val_main_v88 (F := Ideal) x0 x1 x2 x3 x4 x5 x6 x7 (ix2 r d) = ((stAt P r d : ℝ) : EReal) := by
  pointwise [val_main_v88, val_main_v87, val_main_v86, val_main_v85, val_main_v84, val_main_v83, val_main_call2_v0, val_main_c]
  rw [r_v53 h, r_v59 h, r_v65 h, r_v44 h]
  have z : FloatOps.sitofp (F := Ideal) FTy.f32 0#32 = (0 : EReal) := by
    show (((0#32 : BitVec 32).toInt : ℝ) : EReal) = 0
    simp
  fin_cases r <;> simp [stAt, z]

end

end Cert.Ffn

end
-- ==== Proof.HostVal.lean ====
module

public import proofs.«01_k».proof.Proof.Gen.KernelIdeal.Value
public import Idealize.ShloMosaic.Lib.StableHlo.ReadAt
public import proofs.«01_k».proof.Proof.RefVal

@[expose] public section

noncomputable section

/-! What the call's operand arrays hold when it starts. -/
namespace Cert.Ffn

open Cert.KernelIdeal Cert.KernelIdeal.Gen Idealize.ShloMosaic Idealize.ShloMosaic.Pointwise Idealize.ShloMosaic.TcCoe
open Cert.ReferenceIdeal.Read

/-- The launch memory's arguments hold the reals of `P`. -/
def Args (P : Data) (m : (ℓ : Loc nD τ sig) → Buf (Elt Ideal) ℓ) (c : Dev nD) : Prop :=
  Holds P (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable (m : (ℓ : Loc nD τ sig) → Buf (Elt Ideal) ℓ) (c : Dev nD)

variable {P : Data}

/-- The second product, as the forward pass keeps it. -/
theorem V_y (h : Args P m c) (t : Fin 8192) (d : Fin 1024) : V m c main_v44 (ix2 t d) = ((P.yy t d : ℝ) : EReal) := by
  have e : @Eq (FVec Ideal S8192x1024 .bf16) (V m c main_v44)
      (truncf .bf16 (val_main_v29 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6))) bitsLt_bf16_f32) := by
    unfold V
    after_reads_simp
    rfl
  rw [e]
  pointwise
  exact r_v29 h t d

/-- The rows of the parameters. -/
theorem V_prm0 (h : Args P m c) (d : Fin 1024) : V m c main_v5 (ix2 0 d) = ((P.NG d : ℝ) : EReal) := by
  unfold V
  after_reads_at
  after_reads_at
  exact h.h1 d

theorem V_prm2 (h : Args P m c) (d : Fin 1024) : V m c main_v5 (ix2 2 d) = ((P.SC d : ℝ) : EReal) := by
  unfold V
  after_reads_at
  after_reads_at
  exact h.h3 d

theorem V_prm3 (h : Args P m c) (d : Fin 1024) : V m c main_v5 (ix2 3 d) = ((P.G d : ℝ) : EReal) := by
  unfold V
  after_reads_at
  after_reads_at
  exact h.h4 d

theorem V_w1 (h : Args P m c) (a : Fin 2) (j : Fin 4) (d : Fin 1024) (k : Fin 704) :
    V m c main_v60 (ix4 a j d k) = ((P.W1 d (if a = 0 then lo (part j k) else hi (part j k)) : ℝ) : EReal) := by
  unfold V
  after_reads_at
  fin_cases a
  · refine (h.h5 d _).trans (congrArg (fun c => ((P.W1 d c : ℝ) : EReal)) (Fin.ext ?_))
    simp [lo, part]
  · refine (h.h5 d _).trans (congrArg (fun c => ((P.W1 d c : ℝ) : EReal)) (Fin.ext ?_))
    simp [hi, part]; omega

theorem V_w2 (h : Args P m c) (a : Fin 8) (r : Fin 352) (d : Fin 1024) :
    V m c main_v10 (ix3 a r d) = ((P.W2 ⟨a.val * 352 + r.val, by omega⟩ d : ℝ) : EReal) := by
  unfold V
  after_reads_at
  exact h.h6 _ _

/-- Three arrays of the gated unit joined and laid out in four parts. -/
def actOf (u v w : FVec Ideal S8192x2816 .f32) : FVec Ideal S3x4x8192x704 .bf16 :=
  truncf .bf16 (transpose S3x4x8192x704 [0, 2, 1, 3] (shapeCast S3x8192x4x704 (concatenate S3x8192x2816 0
    [⟨S1x8192x2816, broadcastInDim S1x8192x2816 ![1, 2] bcast_S8192x2816_S1x8192x2816_1_2 u⟩,
      ⟨S1x8192x2816, broadcastInDim S1x8192x2816 ![1, 2] bcast_S8192x2816_S1x8192x2816_1_2 v⟩,
      ⟨S1x8192x2816, broadcastInDim S1x8192x2816 ![1, 2] bcast_S8192x2816_S1x8192x2816_1_2 w⟩]
    concatenates_S1x8192x2816_S1x8192x2816_S1x8192x2816_S3x8192x2816_d0)
    shapeCasts_S3x8192x2816_S3x8192x4x704) transposes_S3x8192x4x704_S3x4x8192x704_0_2_1_3) bitsLt_bf16_f32

/-- The saved arrays of the gated unit before they are joined. -/
def actArr (k : Fin 3) : FVec Ideal S8192x2816 .f32 := match k with
  | 0 => mulf (val_main_v26 (F := Ideal) (m ((c : Thread nD τ).loc main_arg0)) (m ((c : Thread nD τ).loc main_arg1))
      (m ((c : Thread nD τ).loc main_arg2)) (m ((c : Thread nD τ).loc main_arg3)) (m ((c : Thread nD τ).loc main_arg5))) (mulf (val_main_v27_2 (F := Ideal) (m ((c : Thread nD τ).loc main_arg0)) (m ((c : Thread nD τ).loc main_arg1))
      (m ((c : Thread nD τ).loc main_arg2)) (m ((c : Thread nD τ).loc main_arg3)) (m ((c : Thread nD τ).loc main_arg5)))
      (addf (broadcastInDim S8192x2816 ![] bcast_S_S8192x2816 (constant S_ .f32 0x3F800000#32))
        (mulf (val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg5)))
          (subf (broadcastInDim S8192x2816 ![] bcast_S_S8192x2816 (constant S_ .f32 0x3F800000#32)) (val_main_v27_2 (F := Ideal) (m ((c : Thread nD τ).loc main_arg0)) (m ((c : Thread nD τ).loc main_arg1))
      (m ((c : Thread nD τ).loc main_arg2)) (m ((c : Thread nD τ).loc main_arg3)) (m ((c : Thread nD τ).loc main_arg5)))))))
  | 1 => val_main_v27_0 (F := Ideal) (m ((c : Thread nD τ).loc main_arg0)) (m ((c : Thread nD τ).loc main_arg1))
      (m ((c : Thread nD τ).loc main_arg2)) (m ((c : Thread nD τ).loc main_arg3)) (m ((c : Thread nD τ).loc main_arg5))
  | 2 => val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg5))

theorem V_act_eq : @Eq (FVec Ideal S3x4x8192x704 .bf16) (V m c main_v59) (actOf (actArr m c 0) (actArr m c 1) (actArr m c 2)) := by
  have e0 : @Eq (FVec Ideal S1x8192x2816 .f32) (StableHlo.upto (List.flatten [hostOps0, hostOps0_1, hostOps0_2, hostOps0_3, hostOps0_4]) (fun b => m (c, b)) 74 (Proc.devRef .tc main_v53))
      (broadcastInDim S1x8192x2816 ![1, 2] bcast_S8192x2816_S1x8192x2816_1_2 (actArr m c 0)) := by
    after_reads_simp
    rfl
  have e1 : @Eq (FVec Ideal S1x8192x2816 .f32) (StableHlo.upto (List.flatten [hostOps0, hostOps0_1, hostOps0_2, hostOps0_3, hostOps0_4]) (fun b => m (c, b)) 74 (Proc.devRef .tc main_v54))
      (broadcastInDim S1x8192x2816 ![1, 2] bcast_S8192x2816_S1x8192x2816_1_2 (actArr m c 1)) := by
    after_reads_simp
    rfl
  have e2 : @Eq (FVec Ideal S1x8192x2816 .f32) (StableHlo.upto (List.flatten [hostOps0, hostOps0_1, hostOps0_2, hostOps0_3, hostOps0_4]) (fun b => m (c, b)) 74 (Proc.devRef .tc main_v55))
      (broadcastInDim S1x8192x2816 ![1, 2] bcast_S8192x2816_S1x8192x2816_1_2 (actArr m c 2)) := by
    after_reads_simp
    rfl
  unfold V
  after_reads_simp
  dsimp only [Matrix.cons_val]
  unfold actOf
  rw [← e0, ← e1, ← e2]
  rfl

/-- The derivatives of the gated unit, as the forward pass keeps them. -/
theorem V_act (h : Args P m c) (a : Fin 2) (j : Fin 4) (t : Fin 8192) (k : Fin 704) :
    V m c main_v59 (ix4 (⟨a.val, by omega⟩ : Fin 3) j t k) = ((if a = 0 then P.cg t (part j k) else P.cu t (part j k) : ℝ) : EReal) := by
  rw [V_act_eq]
  fin_cases a
  · pointwise [actOf, actArr]
    have e : (⟨j.val * 704 + k.val, by omega⟩ : Fin 2816) = part j k := rfl
    rw [e, r_v25 h, r_v26 h, r_sig h, ← EReal.coe_one]
    simp only [← EReal.coe_mul, ← EReal.coe_add, ← EReal.coe_sub]
    rfl
  · pointwise [actOf, actArr]
    exact r_silu h t (part j k)

end Cert.Ffn

end
-- ==== Proof.Block.lean ====
module

public import Idealize.ShloMosaic.Lib.Pipeline.ValueKit
public import Idealize.ShloMosaic.Lib.Pipeline.ReadBack
public import proofs.«01_k».proof.Proof.HostVal

@[expose] public section

set_option maxRecDepth 16384

noncomputable section

/-! One grid point's arithmetic over its blocks, as the real functions of Math. -/
namespace Cert.Ffn

open Cert.KernelIdeal Cert.KernelIdeal.Gen Idealize.ShloMosaic Idealize.ShloMosaic.Pointwise Idealize.ShloMosaic.TcCoe

/-- The blocks of a grid point that works on the tokens `T 0 … T 255`. -/
structure Blk (P : Data) (T : Fin 256 → Fin 8192) (x0 : Vec Ideal S256x1024 .f32) (x1 : Vec Ideal S256x1024 .bf16)
    (x2 : Vec Ideal S256x1024 .f32) (x3 : Vec Ideal S8x1024 .f32) (x4 : Vec Ideal S2x4x256x704 .bf16)
    (x5 : Vec Ideal S2x4x1024x704 .bf16) (x6 : Vec Ideal S8x352x1024 .bf16) : Prop where
  h0 : ∀ r d, x0 (ix2 r d) = ((P.D (T r) d : ℝ) : EReal)
  h1 : ∀ r d, x1 (ix2 r d) = ((P.yy (T r) d : ℝ) : EReal)
  h2 : ∀ r d, x2 (ix2 r d) = ((P.X (T r) d : ℝ) : EReal)
  p0 : ∀ d, x3 (ix2 0 d) = ((P.NG d : ℝ) : EReal)
  p2 : ∀ d, x3 (ix2 2 d) = ((P.SC d : ℝ) : EReal)
  p3 : ∀ d, x3 (ix2 3 d) = ((P.G d : ℝ) : EReal)
  h4 : ∀ a j r k, x4 (ix4 a j r k) = ((if a = 0 then P.cg (T r) (part j k) else P.cu (T r) (part j k) : ℝ) : EReal)
  h5 : ∀ a j d k, x5 (ix4 a j d k) = ((P.W1 d (if a = 0 then lo (part j k) else hi (part j k)) : ℝ) : EReal)
  h6 : ∀ (a : Fin 8) (r : Fin 352) (d : Fin 1024), x6 (ix3 a r d) = ((P.W2 ⟨a.val * 352 + r.val, by omega⟩ d : ℝ) : EReal)

variable (x0 : Vec Ideal S256x1024 .f32) (x1 : Vec Ideal S256x1024 .bf16) (x2 : Vec Ideal S256x1024 .f32)
  (x3 : Vec Ideal S8x1024 .f32) (x4 : Vec Ideal S2x4x256x704 .bf16) (x5 : Vec Ideal S2x4x1024x704 .bf16)
  (x6 : Vec Ideal S8x352x1024 .bf16)

/-- The gradient at the second product over a block. -/
def kdy : FVec Ideal S256x1024 .bf16 := k0_pay3 x0 (View.ld x3 (Rect.unit ![3, 0] ![1, 1024] inb_S8x1024_S1x1024_3_0))

/-- The gradient at the gated unit over a block, part by part. -/
def kds : Fin 4 → FVec Ideal S256x704 .f32
  | 0 => k0_pay5 x0 (View.ld x3 (Rect.unit ![3, 0] ![1, 1024] inb_S8x1024_S1x1024_3_0))
    (View.ld x6 (Rect.unit ![0, 0, 0] ![2, 352, 1024] inb_S8x352x1024_S2x352x1024_0_0_0))
  | 1 => k0_pay7 (k0_pay3 x0 (View.ld x3 (Rect.unit ![3, 0] ![1, 1024] inb_S8x1024_S1x1024_3_0)))
    (k0_pay6 (View.ld x6 (Rect.unit ![2, 0, 0] ![2, 352, 1024] inb_S8x352x1024_S2x352x1024_2_0_0)))
    (constant S256x704 FTy.f32 0#32)
  | 2 => k0_pay13 (k0_pay3 x0 (View.ld x3 (Rect.unit ![3, 0] ![1, 1024] inb_S8x1024_S1x1024_3_0)))
    (View.ld x6 (Rect.unit ![4, 0, 0] ![2, 352, 1024] inb_S8x352x1024_S2x352x1024_4_0_0))
  | 3 => k0_pay19 (k0_pay3 x0 (View.ld x3 (Rect.unit ![3, 0] ![1, 1024] inb_S8x1024_S1x1024_3_0)))
    (View.ld x6 (Rect.unit ![6, 0, 0] ![2, 352, 1024] inb_S8x352x1024_S2x352x1024_6_0_0))

/-- The gradient at the modulated token over a block, part by part. -/
def kdh0 : FVec Ideal S256x1024 .f32 := k0_pay12 (kds x0 x3 x6 0) (View.ld x4 (Rect.unit ![0, 0, 0, 0] ![1, 1, 256, 704] inb_S2x4x256x704_S1x1x256x704_0_0_0_0))
  (View.ld x4 (Rect.unit ![1, 0, 0, 0] ![1, 1, 256, 704] inb_S2x4x256x704_S1x1x256x704_1_0_0_0))
  (View.ld x5 (Rect.unit ![0, 0, 0, 0] ![1, 1, 1024, 704] inb_S2x4x1024x704_S1x1x1024x704_0_0_0_0))
  (View.ld x5 (Rect.unit ![1, 0, 0, 0] ![1, 1, 1024, 704] inb_S2x4x1024x704_S1x1x1024x704_1_0_0_0))
def kdh1 : FVec Ideal S256x1024 .f32 := k0_pay18 (kds x0 x3 x6 1) (kdh0 x0 x3 x4 x5 x6) (View.ld x4 (Rect.unit ![0, 1, 0, 0] ![1, 1, 256, 704] inb_S2x4x256x704_S1x1x256x704_0_1_0_0))
  (View.ld x4 (Rect.unit ![1, 1, 0, 0] ![1, 1, 256, 704] inb_S2x4x256x704_S1x1x256x704_1_1_0_0))
  (View.ld x5 (Rect.unit ![0, 1, 0, 0] ![1, 1, 1024, 704] inb_S2x4x1024x704_S1x1x1024x704_0_1_0_0))
  (View.ld x5 (Rect.unit ![1, 1, 0, 0] ![1, 1, 1024, 704] inb_S2x4x1024x704_S1x1x1024x704_1_1_0_0))
def kdh2 : FVec Ideal S256x1024 .f32 := k0_pay24 (kds x0 x3 x6 2) (kdh1 x0 x3 x4 x5 x6) (View.ld x4 (Rect.unit ![0, 2, 0, 0] ![1, 1, 256, 704] inb_S2x4x256x704_S1x1x256x704_0_2_0_0))
  (View.ld x4 (Rect.unit ![1, 2, 0, 0] ![1, 1, 256, 704] inb_S2x4x256x704_S1x1x256x704_1_2_0_0))
  (View.ld x5 (Rect.unit ![0, 2, 0, 0] ![1, 1, 1024, 704] inb_S2x4x1024x704_S1x1x1024x704_0_2_0_0))
  (View.ld x5 (Rect.unit ![1, 2, 0, 0] ![1, 1, 1024, 704] inb_S2x4x1024x704_S1x1x1024x704_1_2_0_0))
def kdh : FVec Ideal S256x1024 .f32 := k0_pay30 (kds x0 x3 x6 3) (kdh2 x0 x3 x4 x5 x6)
  (k0_pay25 (kds x0 x3 x6 3) (View.ld x4 (Rect.unit ![0, 3, 0, 0] ![1, 1, 256, 704] inb_S2x4x256x704_S1x1x256x704_0_3_0_0)))
  (View.ld x4 (Rect.unit ![1, 3, 0, 0] ![1, 1, 256, 704] inb_S2x4x256x704_S1x1x256x704_1_3_0_0))
  (View.ld x5 (Rect.unit ![0, 3, 0, 0] ![1, 1, 1024, 704] inb_S2x4x1024x704_S1x1x1024x704_0_3_0_0))
  (View.ld x5 (Rect.unit ![1, 3, 0, 0] ![1, 1, 1024, 704] inb_S2x4x1024x704_S1x1x1024x704_1_3_0_0))

/-- The four rows of sums over a block, added to the rows `st`. -/
def krow (st : Vec Ideal S8x1024 .f32) : Fin 4 → FVec Ideal S1x1024 .f32
  | 0 => k0_pay38 (kdh x0 x3 x4 x5 x6) (View.ld st (Rect.unit ![0, 0] ![1, 1024] inb_S8x1024_S1x1024_0_0))
  | 1 => k0_pay39 (kdh x0 x3 x4 x5 x6) x2 (k0_pay31 (View.ld x3 (Rect.unit ![0, 0] ![1, 1024] inb_S8x1024_S1x1024_0_0))) (k0_pay33 x2)
    (View.ld st (Rect.unit ![1, 0] ![1, 1024] inb_S8x1024_S1x1024_1_0))
  | 2 => k0_pay1 (k0_pay36 (kdh x0 x3 x4 x5 x6) x2 (k0_pay32 (View.ld x3 (Rect.unit ![2, 0] ![1, 1024] inb_S8x1024_S1x1024_2_0))) (k0_pay33 x2))
    (View.ld st (Rect.unit ![2, 0] ![1, 1024] inb_S8x1024_S1x1024_2_0))
  | 3 => k0_pay4 x0 (View.ld st (Rect.unit ![3, 0] ![1, 1024] inb_S8x1024_S1x1024_3_0)) x1

/-- The rows' pieces, the last written first. -/
def krows (st : Vec Ideal S8x1024 .f32) : List (View.Piece (Elt Ideal) S8x1024 .f32) :=
  [⟨Rect.unit ![2, 0] ![1, 1024] inb_S8x1024_S1x1024_2_0, krow x0 x1 x2 x3 x4 x5 x6 st 2⟩,
    ⟨Rect.unit ![1, 0] ![1, 1024] inb_S8x1024_S1x1024_1_0, krow x0 x1 x2 x3 x4 x5 x6 st 1⟩,
    ⟨Rect.unit ![0, 0] ![1, 1024] inb_S8x1024_S1x1024_0_0, krow x0 x1 x2 x3 x4 x5 x6 st 0⟩,
    ⟨Rect.unit ![3, 0] ![1, 1024] inb_S8x1024_S1x1024_3_0, krow x0 x1 x2 x3 x4 x5 x6 st 3⟩]

/-- The gradient at the token over a block. -/
def kdx : FVec Ideal S256x1024 .f32 :=
  k0_pay37 x0 (kdh x0 x3 x4 x5 x6) x2 (k0_pay31 (View.ld x3 (Rect.unit ![0, 0] ![1, 1024] inb_S8x1024_S1x1024_0_0)))
    (k0_pay32 (View.ld x3 (Rect.unit ![2, 0] ![1, 1024] inb_S8x1024_S1x1024_2_0))) (k0_pay33 x2)

/-- The pieces of the gradient at the first product, the last written first. -/
def kda : List (View.Piece (Elt Ideal) S2x4x256x704 .bf16) :=
  [⟨Rect.unit ![1, 3, 0, 0] ![1, 1, 256, 704] inb_S2x4x256x704_S1x1x256x704_1_3_0_0,
      k0_pay29 (kds x0 x3 x6 3) (View.ld x4 (Rect.unit ![1, 3, 0, 0] ![1, 1, 256, 704] inb_S2x4x256x704_S1x1x256x704_1_3_0_0))⟩,
    ⟨Rect.unit ![0, 3, 0, 0] ![1, 1, 256, 704] inb_S2x4x256x704_S1x1x256x704_0_3_0_0,
      k0_pay28 (k0_pay25 (kds x0 x3 x6 3) (View.ld x4 (Rect.unit ![0, 3, 0, 0] ![1, 1, 256, 704] inb_S2x4x256x704_S1x1x256x704_0_3_0_0)))⟩,
    ⟨Rect.unit ![1, 2, 0, 0] ![1, 1, 256, 704] inb_S2x4x256x704_S1x1x256x704_1_2_0_0,
      k0_pay23 (kds x0 x3 x6 2) (View.ld x4 (Rect.unit ![1, 2, 0, 0] ![1, 1, 256, 704] inb_S2x4x256x704_S1x1x256x704_1_2_0_0))⟩,
    ⟨Rect.unit ![0, 2, 0, 0] ![1, 1, 256, 704] inb_S2x4x256x704_S1x1x256x704_0_2_0_0,
      k0_pay22 (kds x0 x3 x6 2) (View.ld x4 (Rect.unit ![0, 2, 0, 0] ![1, 1, 256, 704] inb_S2x4x256x704_S1x1x256x704_0_2_0_0))⟩,
    ⟨Rect.unit ![1, 1, 0, 0] ![1, 1, 256, 704] inb_S2x4x256x704_S1x1x256x704_1_1_0_0,
      k0_pay17 (kds x0 x3 x6 1) (View.ld x4 (Rect.unit ![1, 1, 0, 0] ![1, 1, 256, 704] inb_S2x4x256x704_S1x1x256x704_1_1_0_0))⟩,
    ⟨Rect.unit ![0, 1, 0, 0] ![1, 1, 256, 704] inb_S2x4x256x704_S1x1x256x704_0_1_0_0,
      k0_pay16 (kds x0 x3 x6 1) (View.ld x4 (Rect.unit ![0, 1, 0, 0] ![1, 1, 256, 704] inb_S2x4x256x704_S1x1x256x704_0_1_0_0))⟩,
    ⟨Rect.unit ![1, 0, 0, 0] ![1, 1, 256, 704] inb_S2x4x256x704_S1x1x256x704_1_0_0_0,
      k0_pay11 (kds x0 x3 x6 0) (View.ld x4 (Rect.unit ![1, 0, 0, 0] ![1, 1, 256, 704] inb_S2x4x256x704_S1x1x256x704_1_0_0_0))⟩,
    ⟨Rect.unit ![0, 0, 0, 0] ![1, 1, 256, 704] inb_S2x4x256x704_S1x1x256x704_0_0_0_0,
      k0_pay10 (kds x0 x3 x6 0) (View.ld x4 (Rect.unit ![0, 0, 0, 0] ![1, 1, 256, 704] inb_S2x4x256x704_S1x1x256x704_0_0_0_0))⟩]

variable {P : Data} {T : Fin 256 → Fin 8192}
variable {x0 x1 x2 x3 x4 x5 x6}
variable (b : Blk P T x0 x1 x2 x3 x4 x5 x6)
include b

theorem b_dy (r : Fin 256) (d : Fin 1024) : kdy x0 x3 (ix2 r d) = ((P.dy (T r) d : ℝ) : EReal) := by
  pointwise [kdy, k0_pay3]
  rw [b.p3, b.h0, lit_half]
  simp only [← EReal.coe_mul]; rfl

omit b in
theorem W2_congr (P : Data) {a c : Fin 2816} (h : a.val = c.val) (d : Fin 1024) : P.W2 a d = P.W2 c d := by
  rw [Fin.ext h]

theorem b_ds (j : Fin 4) (r : Fin 256) (k : Fin 704) : kds x0 x3 x6 j (ix2 r k) = ((P.ds (T r) (part j k) : ℝ) : EReal) := by
  have e : ∀ d, k0_pay3 x0 (View.ld x3 (Rect.unit ![3, 0] ![1, 1024] inb_S8x1024_S1x1024_3_0)) (ix2 r d) = ((P.dy (T r) d : ℝ) : EReal) := b_dy b r
  fin_cases j
  · pointwise [kds, k0_pay5]
    simp only [e, b.h6, ← EReal.coe_mul, coe_sum]
    refine congrArg (fun z : ℝ => (z : EReal)) (Finset.sum_congr rfl fun d _ => ?_)
    exact congrArg (P.dy (T r) d * ·) (W2_congr P (by dsimp [part]; omega) d)
  · pointwise [kds, k0_pay7, k0_pay6]
    simp only [e, b.h6, ← EReal.coe_mul, coe_sum]
    refine congrArg (fun z : ℝ => (z : EReal)) (Finset.sum_congr rfl fun d _ => ?_)
    exact congrArg (P.dy (T r) d * ·) (W2_congr P (by dsimp [part]; omega) d)
  · pointwise [kds, k0_pay13]
    simp only [e, b.h6, ← EReal.coe_mul, coe_sum]
    refine congrArg (fun z : ℝ => (z : EReal)) (Finset.sum_congr rfl fun d _ => ?_)
    exact congrArg (P.dy (T r) d * ·) (W2_congr P (by dsimp [part]; omega) d)
  · pointwise [kds, k0_pay19]
    simp only [e, b.h6, ← EReal.coe_mul, coe_sum]
    refine congrArg (fun z : ℝ => (z : EReal)) (Finset.sum_congr rfl fun d _ => ?_)
    exact congrArg (P.dy (T r) d * ·) (W2_congr P (by dsimp [part]; omega) d)

/-- One part's terms of the gradient at the modulated token. -/
def dhp (P : Data) (j : Fin 4) (t : Fin 8192) (d : Fin 1024) : ℝ :=
  (∑ k, P.dg t (part j k) * P.W1 d (lo (part j k))) + ∑ k, P.du t (part j k) * P.W1 d (hi (part j k))

omit b in
theorem sum_parts (g : Fin 2816 → ℝ) : ∑ f, g f = ∑ j, ∑ k, g (part j k) := by
  rw [← Fintype.sum_prod_type' (f := fun j k => g (part j k))]
  refine (Fintype.sum_equiv (finProdFinEquiv (m := 4) (n := 704)) _ _ fun x => ?_).symm
  refine congrArg g (Fin.ext ?_)
  show x.1.val * 704 + x.2.val = x.2.val + 704 * x.1.val
  omega

omit b in
theorem dh_parts (t : Fin 8192) (d : Fin 1024) : P.dh t d = dhp P 0 t d + dhp P 1 t d + dhp P 2 t d + dhp P 3 t d := by
  unfold Data.dh dhp
  rw [sum_parts (fun f => P.dg t f * _), sum_parts (fun f => P.du t f * _), Fin.sum_univ_four, Fin.sum_univ_four]
  ring

theorem b_dh0 (r : Fin 256) (d : Fin 1024) : kdh0 x0 x3 x4 x5 x6 (ix2 r d) = ((dhp P 0 (T r) d : ℝ) : EReal) := by
  pointwise [kdh0, k0_pay12, k0_pay8, k0_pay9]
  simp only [b_ds b, b.h4, b.h5, ← EReal.coe_mul, coe_sum, ← EReal.coe_add]; rfl

theorem b_dh1 (r : Fin 256) (d : Fin 1024) : kdh1 x0 x3 x4 x5 x6 (ix2 r d) = ((dhp P 0 (T r) d + dhp P 1 (T r) d : ℝ) : EReal) := by
  pointwise [kdh1, k0_pay18, k0_pay14, k0_pay15]
  simp only [b_ds b, b_dh0 b, b.h4, b.h5, ← EReal.coe_mul, coe_sum, ← EReal.coe_add]; rfl

theorem b_dh2 (r : Fin 256) (d : Fin 1024) : kdh2 x0 x3 x4 x5 x6 (ix2 r d)
    = ((dhp P 0 (T r) d + dhp P 1 (T r) d + dhp P 2 (T r) d : ℝ) : EReal) := by
  pointwise [kdh2, k0_pay24, k0_pay20, k0_pay21]
  simp only [b_ds b, b_dh1 b, b.h4, b.h5, ← EReal.coe_mul, coe_sum, ← EReal.coe_add]; rfl

theorem b_dh (r : Fin 256) (d : Fin 1024) : kdh x0 x3 x4 x5 x6 (ix2 r d) = ((P.dh (T r) d : ℝ) : EReal) := by
  rw [dh_parts]
  pointwise [kdh, k0_pay30, k0_pay25, k0_pay26, k0_pay27]
  simp only [b_ds b, b_dh2 b, b.h4, b.h5, ← EReal.coe_mul, coe_sum, ← EReal.coe_add]; rfl

theorem b_rs (r : Fin 256) (z : Fin 1) : k0_pay34 (k0_pay33 x2) (ix2 r z) = ((P.rs (T r) : ℝ) : EReal) := by
  pointwise [k0_pay34, k0_pay33]
  simp only [b.h2, lit_1024, lit_eps, ← EReal.coe_mul, coe_sum]
  rw [ideal_div _ _ (by norm_num), ← EReal.coe_add]
  exact ideal_rsqrt _ (P.ms_pos (T r))

theorem b_xh (r : Fin 256) (d : Fin 1024) : k0_pay35 x2 (k0_pay33 x2) (ix2 r d) = ((P.xh (T r) d : ℝ) : EReal) := by
  pointwise [k0_pay35]
  rw [b_rs b, b.h2, ← EReal.coe_mul]; rfl

/-- The gradient at the token. -/
theorem b_dx (r : Fin 256) (d : Fin 1024) : kdx x0 x2 x3 x4 x5 x6 (ix2 r d) = ((P.dx (T r) d : ℝ) : EReal) := by
  pointwise [kdx, k0_pay37, k0_pay31, k0_pay32]
  simp only [b_rs b, b_xh b, b_dh b, b.h0, b.p0, b.p2, lit_1024]
  rw [← EReal.coe_one]
  simp only [← EReal.coe_mul, coe_sum, ← EReal.coe_add, ← EReal.coe_sub, ideal_div _ _ (by norm_num : (1024 : ℝ) ≠ 0)]
  rfl

/-- One block's terms of the four rows. -/
def bst (P : Data) (T : Fin 256 → Fin 8192) (r : Fin 8) (d : Fin 1024) : ℝ :=
  if r = 0 then ∑ i, P.tshift (T i) d else if r = 1 then ∑ i, P.tscale (T i) d else if r = 2 then ∑ i, P.tgain (T i) d
  else if r = 3 then ∑ i, P.tgate (T i) d else 0

theorem b_row (st : Vec Ideal S8x1024 .f32) (r : Fin 4) (d : Fin 1024) :
    krow x0 x1 x2 x3 x4 x5 x6 st r (ix2 0 d) = st (ix2 (⟨r.val, by omega⟩ : Fin 8) d) + ((bst P T ⟨r.val, by omega⟩ d : ℝ) : EReal) := by
  fin_cases r
  · pointwise [krow, k0_pay38]
    simp only [b_dh b, coe_sum]; rfl
  · pointwise [krow, k0_pay39, k0_pay31]
    simp only [b_dh b, b_xh b, b.p0, ← EReal.coe_mul, coe_sum]; rfl
  · pointwise [krow, k0_pay1, k0_pay36, k0_pay32]
    simp only [b_dh b, b_xh b, b.p2]
    rw [← EReal.coe_one]
    simp only [← EReal.coe_mul, ← EReal.coe_add, coe_sum]; rfl
  · pointwise [krow, k0_pay4]
    simp only [b.h0, b.h1, lit_half, ← EReal.coe_mul, coe_sum]; rfl
omit b in
theorem ix_of (x : S1x1x256x704.Idx) {r : Fin 256} {k : Fin 704} (h2 : r.val = (x 2).val) (h3 : k.val = (x 3).val) :
    x = ix4 0 0 r k := by
  rw [eq_ix4 x]
  congr 1
  · exact Fin.ext (by have := (x 0).isLt; show (x 0).val = 0; exact Nat.lt_one_iff.mp this)
  · exact Fin.ext (by have := (x 1).isLt; show (x 1).val = 0; exact Nat.lt_one_iff.mp this)
  · exact Fin.ext h2.symm
  · exact Fin.ext h3.symm

/-- The gradients at the halves of the first product, as the eight pieces store them. -/
theorem b_da (a : Fin 2) (j : Fin 4) (r : Fin 256) (k : Fin 704) :
    View.canon (kda x0 x3 x4 x6) (ix4 a j r k) = ((daAt P a (T r) (part j k) : ℝ) : EReal) := by
  unfold kda
  generalize hy : ix4 a j r k = y
  canon_tiles x h <;> subst hy
  · obtain rfl : a = 1 := Fin.ext (by have : a.val = 1 + (x 0).val := h0; show a.val = 1; omega)
    obtain rfl : j = 3 := Fin.ext (by have : j.val = 3 + (x 1).val := h1; show j.val = 3; omega)
    rw [ix_of x h2 h3]
    pointwise [k0_pay29, k0_pay27]
    rw [b_ds b, b.h4, ← EReal.coe_mul]; rfl
  · obtain rfl : a = 0 := Fin.ext (by have : a.val = (x 0).val := h0; show a.val = 0; omega)
    obtain rfl : j = 3 := Fin.ext (by have : j.val = 3 + (x 1).val := h1; show j.val = 3; omega)
    rw [ix_of x h2 h3]
    pointwise [k0_pay28, k0_pay26, k0_pay25]
    rw [b_ds b, b.h4, ← EReal.coe_mul]; rfl
  · obtain rfl : a = 1 := Fin.ext (by have : a.val = 1 + (x 0).val := h0; show a.val = 1; omega)
    obtain rfl : j = 2 := Fin.ext (by have : j.val = 2 + (x 1).val := h1; show j.val = 2; omega)
    rw [ix_of x h2 h3]
    pointwise [k0_pay23, k0_pay21]
    rw [b_ds b, b.h4, ← EReal.coe_mul]; rfl
  · obtain rfl : a = 0 := Fin.ext (by have : a.val = (x 0).val := h0; show a.val = 0; omega)
    obtain rfl : j = 2 := Fin.ext (by have : j.val = 2 + (x 1).val := h1; show j.val = 2; omega)
    rw [ix_of x h2 h3]
    pointwise [k0_pay22, k0_pay20]
    rw [b_ds b, b.h4, ← EReal.coe_mul]; rfl
  · obtain rfl : a = 1 := Fin.ext (by have : a.val = 1 + (x 0).val := h0; show a.val = 1; omega)
    obtain rfl : j = 1 := Fin.ext (by have : j.val = 1 + (x 1).val := h1; show j.val = 1; omega)
    rw [ix_of x h2 h3]
    pointwise [k0_pay17, k0_pay15]
    rw [b_ds b, b.h4, ← EReal.coe_mul]; rfl
  · obtain rfl : a = 0 := Fin.ext (by have : a.val = (x 0).val := h0; show a.val = 0; omega)
    obtain rfl : j = 1 := Fin.ext (by have : j.val = 1 + (x 1).val := h1; show j.val = 1; omega)
    rw [ix_of x h2 h3]
    pointwise [k0_pay16, k0_pay14]
    rw [b_ds b, b.h4, ← EReal.coe_mul]; rfl
  · obtain rfl : a = 1 := Fin.ext (by have : a.val = 1 + (x 0).val := h0; show a.val = 1; omega)
    obtain rfl : j = 0 := Fin.ext (by have : j.val = (x 1).val := h1; show j.val = 0; omega)
    rw [ix_of x h2 h3]
    pointwise [k0_pay11, k0_pay9]
    rw [b_ds b, b.h4, ← EReal.coe_mul]; rfl
  · obtain rfl : a = 0 := Fin.ext (by have : a.val = (x 0).val := h0; show a.val = 0; omega)
    obtain rfl : j = 0 := Fin.ext (by have : j.val = (x 1).val := h1; show j.val = 0; omega)
    rw [ix_of x h2 h3]
    pointwise [k0_pay10, k0_pay8]
    rw [b_ds b, b.h4, ← EReal.coe_mul]; rfl

end Cert.Ffn

end
-- ==== Proof.KerOut.lean ====
module

public import Idealize.ShloMosaic.Lib.Pipeline.ValueKit
public import Idealize.ShloMosaic.Lib.Pipeline.ReadBack
public import proofs.«01_k».proof.Proof.Block

@[expose] public section

set_option maxRecDepth 16384

noncomputable section

/-! What a grid point leaves in the kernel's four result windows. -/
namespace Cert.Ffn

open Cert.KernelIdeal Cert.KernelIdeal.Gen Idealize.ShloMosaic Idealize.ShloMosaic.Pointwise Idealize.ShloMosaic.TcCoe

variable (m : (ℓ : Loc nD τ sig) → Buf (Elt Ideal) ℓ) (c : Dev nD) {P : Data}

theorem o7 (t : Fin cfg0.N) : (outsAt0 m c t.val t.isLt).1
    = kdx (iblk m c 0 t) (iblk m c 2 t) (iblk m c 3 t) (X0_4 m c t) (iblk m c 5 t) (iblk m c 6 t) := by
  by_cases h0 : t.val % 32 = 0
  · rw [outsAt0_A m c t h0]
    frame_out
    rfl
  · rw [outsAt0_B m c t h0]
    frame_out
    rfl

theorem o8 (t : Fin cfg0.N) : (outsAt0 m c t.val t.isLt).2.1
    = View.canon (kda (iblk m c 0 t) (iblk m c 3 t) (X0_4 m c t) (iblk m c 6 t)) := by
  by_cases h0 : t.val % 32 = 0
  · rw [outsAt0_A m c t h0]
    frame_out
    rfl
  · rw [outsAt0_B m c t h0]
    frame_out
    rfl

theorem o9 (t : Fin cfg0.N) : (outsAt0 m c t.val t.isLt).2.2.1 = kdy (iblk m c 0 t) (iblk m c 3 t) := by
  by_cases h0 : t.val % 32 = 0
  · rw [outsAt0_A m c t h0]
    frame_out
    rfl
  · rw [outsAt0_B m c t h0]
    frame_out
    rfl

theorem o10A (t : Fin cfg0.N) (h0 : t.val % 32 = 0) : (outsAt0 m c t.val t.isLt).2.2.2
    = View.canon (krows (iblk m c 0 t) (iblk m c 1 t) (iblk m c 2 t) (iblk m c 3 t) (X0_4 m c t) (iblk m c 5 t) (iblk m c 6 t) (k0_pay2 (F := Ideal))
      ++ [⟨Rect.unit ![0,0] ![8,1024] inb_S8x1024_S8x1024_0_0, k0_pay2 (F := Ideal)⟩]) := by
  rw [outsAt0_A m c t h0]
  frame_open
  simp (disch := decide) only [↓ View.readCov_skip, ↓ View.readCov_cons_toLoadRect, ↓ View.readCov_fill]
  frame_out
  rfl

theorem o10B (t : Fin cfg0.N) (h0 : ¬ t.val % 32 = 0) : (outsAt0 m c t.val t.isLt).2.2.2
    = View.read (Elt Ideal) (ms0_10 t).view ((ms0_10 t).view.writes (Elt Ideal) ((hs0_10 t).unread (outsAt0 m c (t.val - 1) (by omega)).2.2.2)
      (krows (iblk m c 0 t) (iblk m c 1 t) (iblk m c 2 t) (iblk m c 3 t) (X0_4 m c t) (iblk m c 5 t) (iblk m c 6 t) (outsAt0 m c (t.val - 1) (by omega)).2.2.2)) := by
  rw [outsAt0_B m c t h0]
  frame_out
  rfl

end Cert.Ffn

end
-- ==== Proof.KerIn.lean ====
module

public import Idealize.ShloMosaic.Lib.Pipeline.ValueKit
public import Idealize.ShloMosaic.Lib.Pipeline.ReadBack
public import proofs.«01_k».proof.Proof.KerOut

@[expose] public section

set_option maxRecDepth 16384

noncomputable section

/-! What the kernel's blocks hold at a grid point. -/
namespace Cert.Ffn

open Cert.KernelIdeal Cert.KernelIdeal.Gen Idealize.ShloMosaic Idealize.ShloMosaic.Pointwise Idealize.ShloMosaic.TcCoe

variable (m : (ℓ : Loc nD τ sig) → Buf (Elt Ideal) ℓ) (c : Dev nD) {P : Data}

/-- The tokens of grid point `t`. -/
def tok (t : Fin cfg0.N) (r : Fin 256) : Fin 8192 := ⟨t.val * 256 + r.val, by have := t.isLt; have e : cfg0.N = 32 := N_0; omega⟩

theorem ix0_0 : ∀ t : Fin cfg0.N, win0_0.index t = ![t.val, 0] := (by decide +kernel : ∀ t : Fin grid0.N, win0_0.index t = ![t.val, 0])
theorem ix0_1 : ∀ t : Fin cfg0.N, win0_1.index t = ![t.val, 0] := (by decide +kernel : ∀ t : Fin grid0.N, win0_1.index t = ![t.val, 0])
theorem ix0_2 : ∀ t : Fin cfg0.N, win0_2.index t = ![t.val, 0] := (by decide +kernel : ∀ t : Fin grid0.N, win0_2.index t = ![t.val, 0])
theorem ix0_3 : ∀ t : Fin cfg0.N, win0_3.index t = ![0, 0] := (by decide +kernel : ∀ t : Fin grid0.N, win0_3.index t = ![0, 0])
theorem ix0_4 : ∀ t : Fin cfg0.N, win0_4.index t = ![0, 0, t.val, 0] := (by decide +kernel : ∀ t : Fin grid0.N, win0_4.index t = ![0, 0, t.val, 0])
theorem ix0_5 : ∀ t : Fin cfg0.N, win0_5.index t = ![0, 0, 0, 0] := (by decide +kernel : ∀ t : Fin grid0.N, win0_5.index t = ![0, 0, 0, 0])
theorem ix0_6 : ∀ t : Fin cfg0.N, win0_6.index t = ![0, 0, 0] := (by decide +kernel : ∀ t : Fin grid0.N, win0_6.index t = ![0, 0, 0])
theorem ix0_7 : ∀ t : Fin cfg0.N, win0_7.index t = ![t.val, 0] := (by decide +kernel : ∀ t : Fin grid0.N, win0_7.index t = ![t.val, 0])
theorem ix0_8 : ∀ t : Fin cfg0.N, win0_8.index t = ![0, 0, t.val, 0] := (by decide +kernel : ∀ t : Fin grid0.N, win0_8.index t = ![0, 0, t.val, 0])
theorem ix0_9 : ∀ t : Fin cfg0.N, win0_9.index t = ![t.val, 0] := (by decide +kernel : ∀ t : Fin grid0.N, win0_9.index t = ![t.val, 0])
theorem ix0_10 : ∀ t : Fin cfg0.N, win0_10.index t = ![0, 0] := (by decide +kernel : ∀ t : Fin grid0.N, win0_10.index t = ![0, 0])

theorem X0 (t : Fin cfg0.N) (r : Fin 256) (d : Fin 1024) : iblk m c 0 t (ix2 r d) = V m c main_arg7 (ix2 (tok t r) d) := by
  show V m c main_arg7 (((cfg0.win 0).blk t).view.emb (ix2 r d)) = _
  generalize V m c main_arg7 = A
  blk_ext [ix0_0 t, tok]

theorem X1 (t : Fin cfg0.N) (r : Fin 256) (d : Fin 1024) : iblk m c 1 t (ix2 r d) = V m c main_v44 (ix2 (tok t r) d) := by
  show V m c main_v44 (((cfg0.win 1).blk t).view.emb (ix2 r d)) = _
  generalize V m c main_v44 = A
  blk_ext [ix0_1 t, tok]

theorem X2 (t : Fin cfg0.N) (r : Fin 256) (d : Fin 1024) : iblk m c 2 t (ix2 r d) = V m c main_arg0 (ix2 (tok t r) d) := by
  show V m c main_arg0 (((cfg0.win 2).blk t).view.emb (ix2 r d)) = _
  generalize V m c main_arg0 = A
  blk_ext [ix0_2 t, tok]

theorem X3 (t : Fin cfg0.N) (r : Fin 8) (d : Fin 1024) : iblk m c 3 t (ix2 r d) = V m c main_v5 (ix2 r d) := by
  show V m c main_v5 (((cfg0.win 3).blk t).view.emb (ix2 r d)) = _
  generalize V m c main_v5 = A
  blk_ext [ix0_3 t]

theorem X5 (t : Fin cfg0.N) (a : Fin 2) (j : Fin 4) (d : Fin 1024) (k : Fin 704) : iblk m c 5 t (ix4 a j d k) = V m c main_v60 (ix4 a j d k) := by
  show V m c main_v60 (((cfg0.win 5).blk t).view.emb (ix4 a j d k)) = _
  generalize V m c main_v60 = A
  blk_ext [ix0_5 t]

theorem X6 (t : Fin cfg0.N) (a : Fin 8) (r : Fin 352) (d : Fin 1024) : iblk m c 6 t (ix3 a r d) = V m c main_v10 (ix3 a r d) := by
  show V m c main_v10 (((cfg0.win 6).blk t).view.emb (ix3 a r d)) = _
  generalize V m c main_v10 = A
  blk_ext [ix0_6 t]

/-- A block filled into a buffer, read at an index that the block covers, is the array there. -/
theorem fill_at {sg : RefSig} {G : Pipeline.Grid} {Val : EltTy → Type} (w : Pipeline.Window sg G) (hk : w.kind = .blocked) (t : Fin G.N)
    (d : w.block.Idx → Val w.elt) (f : w.arr.view.ref.ty.Contents Val) (j : w.block.Idx) (hm : w.moved (G.coords t) j = true) (i : w.shape.Idx)
    (hi : ∀ a, (i a).val = w.index t a * w.size a + (j a).val) :
    w.fill (G.coords t) d (View.read Val (w.blk t).view f) j = View.read Val w.arr.view f i := by
  unfold Pipeline.Window.fill
  rw [dif_pos hm]
  refine congrArg (View.read Val w.arr.view f) (funext fun a => Fin.ext ?_)
  rw [Pipeline.Window.rect_emb_val w t _ a hk, hi]

theorem fill4 (A : main_v59.ty.Contents (Elt Ideal)) (t : Fin cfg0.N) (a : Fin 2) (j : Fin 4) (r : Fin 256) (k : Fin 704) :
    (cfg0.win 4).fill (cfg0.grid.coords t) (dflt0_4 (F := Ideal)) (View.read (Elt Ideal) ((cfg0.win 4).blk t).view A) (ix4 a j r k)
      = A (ix4 (⟨a.val, by omega⟩ : Fin 3) j (tok t r) k) := by
  refine (fill_at (cfg0.win 4) rfl t _ A (ix4 a j r k) (moved0_4 t _) (ix4 (⟨a.val, by omega⟩ : Fin 3) j (tok t r) k) fun x => ?_).trans rfl
  rw [ix0_4 t]
  fin_cases x
  · show a.val = 0 * _ + a.val; omega
  · show j.val = 0 * _ + j.val; omega
  · show t.val * 256 + r.val = t.val * 256 + r.val; rfl
  · show k.val = 0 * _ + k.val; omega

theorem X4 (t : Fin cfg0.N) (a : Fin 2) (j : Fin 4) (r : Fin 256) (k : Fin 704) :
    X0_4 m c t (ix4 a j r k) = V m c main_v59 (ix4 (⟨a.val, by omega⟩ : Fin 3) j (tok t r) k) := by
  unfold X0_4 iblk
  exact fill4 (V m c main_v59) t a j r k

theorem blk_of (h : Args P m c) (t : Fin cfg0.N) :
    Blk P (tok t) (iblk m c 0 t) (iblk m c 1 t) (iblk m c 2 t) (iblk m c 3 t) (X0_4 m c t) (iblk m c 5 t) (iblk m c 6 t) where
  h0 r d := by rw [X0, V_main_arg7]; exact h.h7 _ _
  h1 r d := by rw [X1]; exact V_y m c h _ _
  h2 r d := by rw [X2, V_main_arg0]; exact h.h0 _ _
  p0 d := by rw [X3]; exact V_prm0 m c h _
  p2 d := by rw [X3]; exact V_prm2 m c h _
  p3 d := by rw [X3]; exact V_prm3 m c h _
  h4 a j r k := by rw [X4]; exact V_act m c h _ _ _ _
  h5 a j d k := by rw [X5]; exact V_w1 m c h _ _ _ _
  h6 a r d := by rw [X6]; exact V_w2 m c h _ _ _

end Cert.Ffn

end
-- ==== Proof.KerVal.lean ====
module

public import Idealize.ShloMosaic.Lib.Pipeline.ValueKit
public import Idealize.ShloMosaic.Lib.Pipeline.ReadBack
public import proofs.«01_k».proof.Proof.KerIn

@[expose] public section

set_option maxRecDepth 16384

noncomputable section

/-! What the kernel's four result arrays hold after the run. -/
namespace Cert.Ffn

open Cert.KernelIdeal Cert.KernelIdeal.Gen Idealize.ShloMosaic Idealize.ShloMosaic.Pointwise Idealize.ShloMosaic.TcCoe

variable (m : (ℓ : Loc nD τ sig) → Buf (Elt Ideal) ℓ) (c : Dev nD) {P : Data}

theorem arr7 (h : Args P m c) (t : Fin 8192) (d : Fin 1024) :
    (dats m 0 c).arrAt 7 cfg0.N (ix2 t d) = ((P.dx t d : ℝ) : EReal) := by
  have e : (dats m 0 c).arrAt 7 cfg0.N = (fun i : S8192x1024.Idx => ((P.dx (i 0) (i 1) : ℝ) : EReal)) := by
    refine (dats m 0 c).arrAt_eq_of_covers 7 _ (by decide +kernel) fun t hf y => ?_
    blk_simp
    rw [after0_7, o7]
    idx_vars y
    rw [b_dx (blk_of m c h t)]
    refine congrArg (fun z : ℝ => (z : EReal)) (congrArg₂ P.dx (Fin.ext ?_) (Fin.ext ?_))
    · blk_simp [ix0_7 t, tok]
    · blk_simp [ix0_7 t, tok]
  rw [e]; rfl

theorem arr9 (h : Args P m c) (t : Fin 8192) (d : Fin 1024) :
    (dats m 0 c).arrAt 9 cfg0.N (ix2 t d) = ((P.dy t d : ℝ) : EReal) := by
  have e : (dats m 0 c).arrAt 9 cfg0.N = (fun i : S8192x1024.Idx => ((P.dy (i 0) (i 1) : ℝ) : EReal)) := by
    refine (dats m 0 c).arrAt_eq_of_covers 9 _ (by decide +kernel) fun t hf y => ?_
    blk_simp
    rw [after0_9, o9]
    idx_vars y
    rw [b_dy (blk_of m c h t)]
    refine congrArg (fun z : ℝ => (z : EReal)) (congrArg₂ P.dy (Fin.ext ?_) (Fin.ext ?_))
    · blk_simp [ix0_9 t, tok]
    · blk_simp [ix0_9 t, tok]
  rw [e]; rfl

omit m c in
theorem da_congr {a a' : Fin 2} {t t' : Fin 8192} {j j' : Fin 4} {k k' : Fin 704} (ha : a.val = a'.val) (ht : t.val = t'.val)
    (hj : j.val = j'.val) (hk : k.val = k'.val) : daAt P a t (part j k) = daAt P a' t' (part j' k') := by
  rw [Fin.ext ha, Fin.ext ht, Fin.ext hj, Fin.ext hk]

theorem arr8 (h : Args P m c) (a : Fin 2) (j : Fin 4) (t : Fin 8192) (k : Fin 704) :
    (dats m 0 c).arrAt 8 cfg0.N (ix4 a j t k) = ((daAt P a t (part j k) : ℝ) : EReal) := by
  have e : (dats m 0 c).arrAt 8 cfg0.N = (fun i : S2x4x8192x704.Idx => ((daAt P (i 0) (i 2) (part (i 1) (i 3)) : ℝ) : EReal)) := by
    refine (dats m 0 c).arrAt_eq_of_covers 8 _ (by decide +kernel) fun t hf y => ?_
    blk_simp
    rw [after0_8, o8]
    idx_vars y
    rw [b_da (blk_of m c h t)]
    have e0 : (((cfg0.win 8).blk t).view.emb (ix4 y0 y1 y2 y3) 0).val = y0.val := by blk_simp [ix0_8 t]
    have e1 : (((cfg0.win 8).blk t).view.emb (ix4 y0 y1 y2 y3) 1).val = y1.val := by blk_simp [ix0_8 t]
    have e2 : (((cfg0.win 8).blk t).view.emb (ix4 y0 y1 y2 y3) 2).val = (tok t y2).val := by blk_simp [ix0_8 t, tok]
    have e3 : (((cfg0.win 8).blk t).view.emb (ix4 y0 y1 y2 y3) 3).val = y3.val := by blk_simp [ix0_8 t]
    exact congrArg (fun z : ℝ => (z : EReal)) (da_congr e0.symm e2.symm e1.symm e3.symm)
  rw [e]; rfl

/-- The four rows written over contents that already hold `st`: each row grows by its block's sum. -/
theorem rows_read {T : Fin 256 → Fin 8192} {x0 : Vec Ideal S256x1024 .f32} {x1 : Vec Ideal S256x1024 .bf16}
    {x2 : Vec Ideal S256x1024 .f32} {x3 : Vec Ideal S8x1024 .f32} {x4 : Vec Ideal S2x4x256x704 .bf16}
    {x5 : Vec Ideal S2x4x1024x704 .bf16} {x6 : Vec Ideal S8x352x1024 .bf16} (b : Blk P T x0 x1 x2 x3 x4 x5 x6)
    {κ : Kind} {sp : Space} (v : View sig κ sp S8x1024 .f32) (f : v.ty.Contents (Elt Ideal)) (L : List (View.Piece (Elt Ideal) S8x1024 .f32))
    (st : Vec Ideal S8x1024 .f32) (r : Fin 8) (d : Fin 1024) (hL : v.read (Elt Ideal) (v.writes (Elt Ideal) f L) (ix2 r d) = st (ix2 r d)) :
    v.read (Elt Ideal) (v.writes (Elt Ideal) f (krows x0 x1 x2 x3 x4 x5 x6 st ++ L)) (ix2 r d)
      = st (ix2 r d) + ((bst P T r d : ℝ) : EReal) := by
  have at0 : ∀ i : ℕ, r.val ≠ i → ((ix2 r d : S8x1024.Idx) 0).val < i ∨ i + 1 ≤ ((ix2 r d : S8x1024.Idx) 0).val := fun i hi => by
    show r.val < i ∨ i + 1 ≤ r.val; omega
  unfold krows
  simp only [List.cons_append, List.nil_append]
  by_cases h2 : r.val = 2
  · obtain rfl : r = 2 := Fin.ext h2
    rw [View.read_writes_cons_hit_of_coords (x := ix2 0 d) (hx := fun a => by fin_cases a <;> simp)]
    exact b_row b st 2 d
  rw [View.read_writes_cons_miss_of_axis v f _ _ _ 0 2 1 rfl rfl rfl (at0 2 h2)]
  by_cases h1 : r.val = 1
  · obtain rfl : r = 1 := Fin.ext h1
    rw [View.read_writes_cons_hit_of_coords (x := ix2 0 d) (hx := fun a => by fin_cases a <;> simp)]
    exact b_row b st 1 d
  rw [View.read_writes_cons_miss_of_axis v f _ _ _ 0 1 1 rfl rfl rfl (at0 1 h1)]
  by_cases h0 : r.val = 0
  · obtain rfl : r = 0 := Fin.ext h0
    rw [View.read_writes_cons_hit_of_coords (x := ix2 0 d) (hx := fun a => by fin_cases a <;> simp)]
    exact b_row b st 0 d
  rw [View.read_writes_cons_miss_of_axis v f _ _ _ 0 0 1 rfl rfl rfl (at0 0 h0)]
  by_cases h3 : r.val = 3
  · obtain rfl : r = 3 := Fin.ext h3
    rw [View.read_writes_cons_hit_of_coords (x := ix2 0 d) (hx := fun a => by fin_cases a <;> simp)]
    exact b_row b st 3 d
  rw [View.read_writes_cons_miss_of_axis v f _ _ _ 0 3 1 rfl rfl rfl (at0 3 h3), hL]
  have e : bst P T r d = 0 := by
    unfold bst
    rw [if_neg (fun h => h0 (congrArg Fin.val h)), if_neg (fun h => h1 (congrArg Fin.val h)), if_neg (fun h => h2 (congrArg Fin.val h)),
      if_neg (fun h => h3 (congrArg Fin.val h))]
  rw [e, EReal.coe_zero, add_zero]

theorem pay2_zero (i : S8x1024.Idx) : k0_pay2 (F := Ideal) i = 0 := by pointwise [k0_pay2]

theorem st_first (h : Args P m c) (t : Fin cfg0.N) (h0 : t.val % 32 = 0) (r : Fin 8) (d : Fin 1024) :
    (outsAt0 m c t.val t.isLt).2.2.2 (ix2 r d) = 0 + ((bst P (tok t) r d : ℝ) : EReal) := by
  rw [o10A m c t h0, ← View.read_writes_junk_eq_canon (ms0_10 t).view]
  refine (rows_read (blk_of m c h t) _ _ _ _ r d ?_).trans ?_
  · rw [View.read_writes_cons_hit_of_coords (x := ix2 r d) (hx := fun a => by fin_cases a <;> simp)]
  · rw [pay2_zero]

theorem st_step (h : Args P m c) (t : Fin cfg0.N) (h0 : ¬ t.val % 32 = 0) (r : Fin 8) (d : Fin 1024) :
    (outsAt0 m c t.val t.isLt).2.2.2 (ix2 r d) = (outsAt0 m c (t.val - 1) (by omega)).2.2.2 (ix2 r d) + ((bst P (tok t) r d : ℝ) : EReal) := by
  rw [o10B m c t h0, ← List.append_nil (krows _ _ _ _ _ _ _ _)]
  refine rows_read (blk_of m c h t) _ _ _ _ r d ?_
  rw [View.writes_nil, (hs0_10 t).read_unread]

/-- After the last point the rows hold the sums over all blocks. -/
theorem st_last (h : Args P m c) (t : Fin cfg0.N) (ht : t.val + 1 = cfg0.N) (r : Fin 8) (d : Fin 1024) :
    (outsAt0 m c t.val t.isLt).2.2.2 (ix2 r d) = 0 + ∑ p : Fin cfg0.N, ((bst P (tok p) r d : ℝ) : EReal) :=
  Pipeline.eq_sum_fin_of_reset_step_apply_last (fun n hn => fun i : Fin 8 × Fin 1024 => (outsAt0 m c n hn).2.2.2 (ix2 i.1 i.2)) 32 (fun _ => 0)
    (fun p i => ((bst P (tok p) i.1 i.2 : ℝ) : EReal)) (fun t h0 i => st_first m c h t h0 i.1 i.2) (fun t h0 i => st_step m c h t h0 i.1 i.2)
    (le_of_eq N_0) t ht (r, d)

theorem sum_tok (g : Fin 8192 → ℝ) : ∑ p : Fin cfg0.N, ∑ i, g (tok p i) = ∑ t, g t := by
  rw [← Fintype.sum_prod_type' (f := fun p i => g (tok p i))]
  refine Fintype.sum_equiv ((Equiv.prodCongr (finCongr N_0) (Equiv.refl _)).trans (finProdFinEquiv (m := 32) (n := 256))) _ _ fun x => ?_
  refine congrArg g (Fin.ext ?_)
  show x.1.val * 256 + x.2.val = x.2.val + 256 * x.1.val
  omega

theorem sum_bst (r : Fin 8) (d : Fin 1024) : ∑ p : Fin cfg0.N, bst P (tok p) r d = stAt P r d := by
  unfold bst stAt
  split_ifs
  · exact sum_tok (fun t => P.tshift t d)
  · exact sum_tok (fun t => P.tscale t d)
  · exact sum_tok (fun t => P.tgain t d)
  · exact sum_tok (fun t => P.tgate t d)
  · exact Finset.sum_const_zero

theorem arr10 (h : Args P m c) (r : Fin 8) (d : Fin 1024) :
    (dats m 0 c).arrAt 10 cfg0.N (ix2 r d) = ((stAt P r d : ℝ) : EReal) := by
  have e : (dats m 0 c).arrAt 10 cfg0.N = (fun i : S8x1024.Idx => ((stAt P (i 0) (i 1) : ℝ) : EReal)) := by
    refine (dats m 0 c).arrAt_eq_of_covers 10 _ (by decide +kernel) fun t hf y => ?_
    have ht : t.val + 1 = cfg0.N := by
      have := (flush0_10 t).mp hf; have e : cfg0.N = 32 := N_0; have := t.isLt; omega
    blk_simp
    rw [after0_10]
    idx_vars y
    rw [st_last m c h t ht, zero_add, coe_sum, sum_bst]
    refine congrArg (fun z : ℝ => (z : EReal)) (congrArg₂ (stAt P) (Fin.ext ?_) (Fin.ext ?_))
    · blk_simp [ix0_10 t]
    · blk_simp [ix0_10 t]
  rw [e]; rfl

end Cert.Ffn

end
-- ==== Proof.Finite.lean ====
module

public import Idealize.ShloMosaic.Lib.Pointwise

@[expose] public section

noncomputable section

/-! An array all of whose magnitudes are below infinity holds reals. -/
namespace Cert.Ffn

open Idealize.ShloMosaic

theorem lit_inf : Ideal.ofBits .f32 0x7F800000#32 = ⊤ := by simp [Ideal.ofBits, Ideal.ieee]

/-- The real an entry of an array stands for. -/
def re {S : Shape} (x : FVec Ideal S .f32) (i : S.Idx) : ℝ := EReal.toReal (x i)

/-- Where the comparison of the magnitude with infinity holds, the entry is the real it stands for. -/
theorem eq_re {S : Shape} {x y : FVec Ideal S .f32} (hy : ∀ i, y i = (⊤ : EReal))
    (h : cmpf .olt (Host.absf x) y = fun _ => 1#1) (i : S.Idx) : x i = ((re x i : ℝ) : EReal) := by
  have h1 : Ideal.cmp .olt (max (x i : EReal) (-(x i : EReal))) (y i) = 1#1 := congrFun h i
  rw [hy i] at h1
  unfold Ideal.cmp at h1
  have h2 : max (x i : EReal) (-(x i : EReal)) < ⊤ := by
    by_contra hn
    simp [hn] at h1
  rw [max_lt_iff] at h2
  refine (EReal.coe_toReal (ne_of_lt h2.1) fun hb => ?_).symm
  rw [hb] at h2
  simp at h2

end Cert.Ffn

end
-- ==== Proof.FfnBwd.lean ====
module

public import proofs.«01_k».proof.Defs
public import proofs.«01_k».proof.Proof.Gen.Pre_finite
public import proofs.«01_k».proof.Proof.KerVal
public import proofs.«01_k».proof.Proof.RefVal
public import proofs.«01_k».proof.Proof.Finite
public import Idealize.ShloMosaic.Lib.Quiescent

@[expose] public section

noncomputable section

/-! The layer's gradient: the kernel's results are the reference's. -/
namespace Cert.Ffn

open Idealize.ShloMosaic Idealize.ShloMosaic.Pointwise Idealize.SL.Sem

section
open Cert.KernelIdeal

variable (m : (ℓ : Loc nD τ sig) → Buf (Elt Ideal) ℓ)

/-- The reals in the kernel's arguments. -/
def dataOf (c : Dev nD) : Data where
  X t d := re (S := S8192x1024) (m ((c.tc : Thread nD τ).loc main_arg0)) (ix2 t d)
  NG d := re (S := S1024) (m ((c.tc : Thread nD τ).loc main_arg1)) (ix1 d)
  SH d := re (S := S1024) (m ((c.tc : Thread nD τ).loc main_arg2)) (ix1 d)
  SC d := re (S := S1024) (m ((c.tc : Thread nD τ).loc main_arg3)) (ix1 d)
  G d := re (S := S1024) (m ((c.tc : Thread nD τ).loc main_arg4)) (ix1 d)
  W1 d k := re (S := S1024x5632) (m ((c.tc : Thread nD τ).loc main_arg5)) (ix2 d k)
  W2 f d := re (S := S2816x1024) (m ((c.tc : Thread nD τ).loc main_arg6)) (ix2 f d)
  D t d := re (S := S8192x1024) (m ((c.tc : Thread nD τ).loc main_arg7)) (ix2 t d)

/-- Finite arguments hold the reals of `dataOf`. -/
theorem args_of (hp : Cert.Pre_KernelIdeal_finite (hPre_finite := Cert.Pre_finite.Gen.facts) m) (c : Dev nD) :
    Args (dataOf m c) m c := by
  obtain ⟨p0, p1, p2, p3, p4, p5, p6, p7⟩ := hp c
  exact ⟨fun _ _ => eq_re (fun _ => lit_inf) p0 _, fun _ => eq_re (fun _ => lit_inf) p1 _,
    fun _ => eq_re (fun _ => lit_inf) p2 _, fun _ => eq_re (fun _ => lit_inf) p3 _,
    fun _ => eq_re (fun _ => lit_inf) p4 _, fun _ _ => eq_re (fun _ => lit_inf) p5 _,
    fun _ _ => eq_re (fun _ => lit_inf) p6 _, fun _ _ => eq_re (fun _ => lit_inf) p7 _⟩

end

/-- Two arrays of two axes that agree at every index are the same. -/
theorem ext2 {n0 n1 : Nat} {α : Type} {f g : (⟨2, ![n0, n1]⟩ : Shape).Idx → α} (h : ∀ a b, f (ix2 a b) = g (ix2 a b)) : f = g :=
  funext fun j => by rw [eq_ix2 j]; exact h _ _

/-- Two arrays of four axes that agree at every index are the same. -/
theorem ext4 {n0 n1 n2 n3 : Nat} {α : Type} {f g : (⟨4, ![n0, n1, n2, n3]⟩ : Shape).Idx → α}
    (h : ∀ a b c d, f (ix4 a b c d) = g (ix4 a b c d)) : f = g :=
  funext fun j => by rw [eq_ix4 j]; exact h _ _ _ _

/-- The reference ends with its arguments unchanged and, as it has none, every counter at zero. -/
theorem frame_ref : Cert.quiescent_ReferenceIdeal (hReferenceIdeal := Cert.ReferenceIdeal.Gen.facts) := fun m ρ _ =>
  (θ_run _ _ _).mono (fun r h => ⟨fun c => (h c).2.2.2.2, sem_eq_zero_of_no_sems rfl r.2⟩) (Cert.ReferenceIdeal.Value.run m ρ)

/-- The algebraic claim of the layer's gradient. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g,
    (θ_run _ _ _).mono (fun r h c => ?_) (Cert.ReferenceIdeal.Value.run m' g')⟩
  have hA := args_of m hp c
  have hk := hA
  obtain ⟨a0, a1, a2, a3, a4, a5, a6, a7⟩ := ha c
  unfold Args at hA
  rw [← a0, ← a1, ← a2, ← a3, ← a4, ← a5, ← a6, ← a7] at hA
  obtain ⟨r0, r1, r2, r3, rest⟩ := h c
  refine ⟨r0.trans ?_, r1.trans ?_, r2.trans ?_, r3.trans ?_, rest⟩
  · rw [Cert.ReferenceIdeal.Read.val_main_v89_eq]
    exact ext2 fun _ _ => (r_v89 hA _ _).trans (arr7 m c hk _ _).symm
  · rw [Cert.ReferenceIdeal.Read.val_main_v82_eq]
    exact ext4 fun _ _ _ _ => (r_v82 hA _ _ _ _).trans (arr8 m c hk _ _ _ _).symm
  · rw [Cert.ReferenceIdeal.Read.val_main_v90_eq]
    exact ext2 fun _ _ => (r_v90 hA _ _).trans (arr9 m c hk _ _).symm
  · rw [Cert.ReferenceIdeal.Read.val_main_v88_eq]
    exact ext2 fun _ _ => (r_v88 hA _ _).trans (arr10 m c hk _ _).symm

end Cert.Ffn

end
-- ==== Proof.GradW2Block.lean ====
module

public import Idealize.ShloMosaic.Lib.Pipeline.ValueKit
public import Idealize.ShloMosaic.Lib.Pipeline.ReadBack
public import proofs.«01_k».proof.Proof.Gen.Kernel2Ideal.Value

@[expose] public section

set_option maxRecDepth 16384

noncomputable section

/-! The gradient of the second weight matrix: what a grid point leaves in the accumulator and in the result's block. -/
namespace Cert.GradW2

open Cert.Kernel2Ideal Cert.Kernel2Ideal.Gen Idealize.ShloMosaic Idealize.ShloMosaic.Pointwise Idealize.ShloMosaic.TcCoe

variable (m : (ℓ : Loc nD τ sig) → Buf (Elt Ideal) ℓ) (c : Dev nD)

/-- The two column halves a grid point stores, over an accumulator that held `st`. -/
def halves (st : Vec Ideal S704x1024 .f32) (x0 : Vec Ideal S1x1x4096x704 .bf16) (x1 : Vec Ideal S4096x1024 .bf16) :
    List (View.Piece (Elt Ideal) S704x1024 .f32) :=
  [⟨Rect.unit ![0,512] ![704,512] inb_S704x1024_S704x512_0_512, k0_pay3 (View.ld st (Rect.unit ![0,512] ![704,512] inb_S704x1024_S704x512_0_512)) x0
      (View.ld x1 (Rect.unit ![0,512] ![4096,512] inb_S4096x1024_S4096x512_0_512))⟩,
    ⟨Rect.unit ![0,0] ![704,512] inb_S704x1024_S704x512_0_0, k0_pay2 (View.ld st (Rect.unit ![0,0] ![704,512] inb_S704x1024_S704x512_0_0)) x0
      (View.ld x1 (Rect.unit ![0,0] ![4096,512] inb_S4096x1024_S4096x512_0_0))⟩]

/-- The accumulator after the first of a column part's two points. -/
theorem sA (t : Fin cfg0.N) (h0 : t.val % 2 = 0) (h1 : ¬ t.val % 2 = 1) : (outsAt0 m c t.val t.isLt).2
    = View.canon (halves (k0_pay1 (F := Ideal)) (iblk m c 0 t) (iblk m c 1 t) ++ [⟨Rect.unit ![0,0] ![704,1024] inb_S704x1024_S704x1024_0_0, k0_pay1 (F := Ideal)⟩]) := by
  rw [outsAt0_A m c t h0 h1]
  frame_open
  simp (disch := decide) only [↓ View.readCov_skip, ↓ View.readCov_cons_toLoadRect, ↓ View.readCov_fill]
  frame_out
  rfl

/-- The result's block after the second point. -/
theorem oB (t : Fin cfg0.N) (h0 : ¬ t.val % 2 = 0) (h1 : t.val % 2 = 1) : (outsAt0 m c t.val t.isLt).1
    = k0_pay4 (F := Ideal) (View.canon (halves (outsAt0 m c (t.val - 1) (by omega)).2 (iblk m c 0 t) (iblk m c 1 t))) := by
  rw [outsAt0_B m c t h0 h1]
  frame_open
  simp (disch := decide) only [↓ View.readCov_skip, ↓ View.readCov_cons_toLoadRect, ↓ View.readCov_fill]
  frame_out
  rw [View.readCov_eq_canon', (Memref.isWhole_whole cc0_scratch0).read_unread]
  unfold halves
  refine congrArg k0_pay4 (funext fun j => congrArg _ (funext fun a => Fin.ext ?_))
  fin_cases a <;> simp

/-- One point's product. -/
def part (x0 : Vec Ideal S1x1x4096x704 .bf16) (x1 : Vec Ideal S4096x1024 .bf16) (r : Fin 704) (d : Fin 1024) : EReal :=
  ∑ k : Fin 4096, x0 (ix4 0 0 k r) * x1 (ix2 k d)

theorem halves_at (st : Vec Ideal S704x1024 .f32) (x0 : Vec Ideal S1x1x4096x704 .bf16) (x1 : Vec Ideal S4096x1024 .bf16)
    (L : List (View.Piece (Elt Ideal) S704x1024 .f32)) (r : Fin 704) (d : Fin 1024) :
    View.canon (halves st x0 x1 ++ L) (ix2 r d) = st (ix2 r d) + part x0 x1 r d := by
  rw [← View.read_writes_junk_eq_canon (View.whole cc0_scratch0)]
  unfold halves part
  simp only [List.cons_append, List.nil_append]
  by_cases h : 512 ≤ d.val
  · rw [View.read_writes_cons_hit_of_coords (x := ix2 r (⟨d.val - 512, by omega⟩ : Fin 512)) (hx := fun a => by fin_cases a <;> simp; omega)]
    pointwise [k0_pay3]
    have e : (⟨512 + (d.val - 512), by omega⟩ : Fin 1024) = d := Fin.ext (by show 512 + (d.val - 512) = d.val; omega)
    simp only [e]
  · rw [View.read_writes_cons_miss_of_axis _ _ _ _ _ 1 512 512 rfl rfl rfl (Or.inl (by show d.val < 512; omega)),
      View.read_writes_cons_hit_of_coords (x := ix2 r (⟨d.val, by omega⟩ : Fin 512)) (hx := fun a => by fin_cases a <;> simp)]
    pointwise [k0_pay2]

theorem pay1_zero (i : S704x1024.Idx) : k0_pay1 (F := Ideal) i = 0 := by pointwise [k0_pay1]

theorem at_A (t : Fin cfg0.N) (h0 : t.val % 2 = 0) (r : Fin 704) (d : Fin 1024) :
    (outsAt0 m c t.val t.isLt).2 (ix2 r d) = part (iblk m c 0 t) (iblk m c 1 t) r d := by
  rw [sA m c t h0 (by omega), halves_at, pay1_zero, zero_add]

theorem at_B (t s : Fin cfg0.N) (h1 : t.val % 2 = 1) (hs : s.val = t.val - 1) (r : Fin 704) (d : Fin 1024) :
    (outsAt0 m c t.val t.isLt).1 (ix3 0 r d)
      = part (iblk m c 0 s) (iblk m c 1 s) r d + part (iblk m c 0 t) (iblk m c 1 t) r d := by
  have e : (outsAt0 m c (t.val - 1) (by omega)).2 = (outsAt0 m c s.val s.isLt).2 := by congr 1; congr 1; exact hs.symm
  rw [oB m c t (by omega) h1, e]
  pointwise [k0_pay4]
  have h := halves_at (outsAt0 m c s.val s.isLt).2 (iblk m c 0 t) (iblk m c 1 t) [] r d
  rw [List.append_nil] at h
  rw [h, at_A m c s (by omega)]

end Cert.GradW2

end
-- ==== Proof.GradW2.lean ====
module

public import proofs.«01_k».proof.Proof.GradW2Block

@[expose] public section

set_option maxRecDepth 16384

noncomputable section

/-! The gradient of the second weight matrix: the result array. -/
namespace Cert.GradW2

open Cert.Kernel2Ideal Cert.Kernel2Ideal.Gen Idealize.ShloMosaic Idealize.ShloMosaic.Pointwise Idealize.ShloMosaic.TcCoe

variable (m : (ℓ : Loc nD τ sig) → Buf (Elt Ideal) ℓ) (c : Dev nD)

/-- The tokens of grid point `t`. -/
def tok (t : Fin cfg0.N) (k : Fin 4096) : Fin 8192 := ⟨t.val % 2 * 4096 + k.val, by omega⟩

/-- The part of the hidden columns of grid point `t`. -/
def col (t : Fin cfg0.N) : Fin 4 := ⟨t.val / 2, by have := t.isLt; have e : cfg0.N = 8 := N_0; omega⟩

theorem ix0_0 : ∀ t : Fin cfg0.N, win0_0.index t = ![2, t.val / 2, t.val % 2, 0] :=
  (by decide +kernel : ∀ t : Fin grid0.N, win0_0.index t = ![2, t.val / 2, t.val % 2, 0])
theorem ix0_1 : ∀ t : Fin cfg0.N, win0_1.index t = ![t.val % 2, 0] :=
  (by decide +kernel : ∀ t : Fin grid0.N, win0_1.index t = ![t.val % 2, 0])
theorem ix0_2 : ∀ t : Fin cfg0.N, win0_2.index t = ![t.val / 2, 0, 0] :=
  (by decide +kernel : ∀ t : Fin grid0.N, win0_2.index t = ![t.val / 2, 0, 0])

/-- The saved arrays of the gated unit, and the incoming gradient, as the call finds them. -/
def act : Vec Ideal S3x4x8192x704 .bf16 := V m c main_v47
def gy : Vec Ideal S8192x1024 .bf16 := V m c main_v48

theorem rd0 (A : main_v47.ty.Contents (Elt Ideal)) (t : Fin cfg0.N) (k : Fin 4096) (r : Fin 704) :
    View.read (Elt Ideal) ((cfg0.win 0).blk t).view A (ix4 0 0 k r) = A (ix4 2 (col t) (tok t k) r) := by
  refine congrArg A (funext fun x => Fin.ext ((Pipeline.Window.rect_emb_val (cfg0.win 0) t (ix4 0 0 k r) x rfl).trans ?_))
  rw [ix0_0 t]
  fin_cases x
  · rfl
  · show t.val / 2 * 1 + 0 = t.val / 2; omega
  · show t.val % 2 * 4096 + k.val = t.val % 2 * 4096 + k.val; rfl
  · show 0 * _ + r.val = r.val; omega

theorem X0 (t : Fin cfg0.N) (k : Fin 4096) (r : Fin 704) : iblk m c 0 t (ix4 0 0 k r) = act m c (ix4 2 (col t) (tok t k) r) := by
  unfold iblk act
  exact rd0 (V m c main_v47) t k r

theorem X1 (t : Fin cfg0.N) (k : Fin 4096) (d : Fin 1024) : iblk m c 1 t (ix2 k d) = gy m c (ix2 (tok t k) d) := by
  show V m c main_v48 (((cfg0.win 1).blk t).view.emb (ix2 k d)) = _
  unfold gy
  generalize V m c main_v48 = A
  blk_ext [ix0_1 t, tok]

/-- A sum over the two halves of the tokens is the sum over them all. -/
theorem sum_halves (g : Fin 8192 → EReal) (a b : Fin 4096 → Fin 8192) (ha : ∀ k, (a k).val = k.val) (hb : ∀ k, (b k).val = 4096 + k.val) :
    (∑ k, g (a k)) + (∑ k, g (b k)) = ∑ t, g t := by
  obtain rfl : a = fun k => ⟨k.val, by omega⟩ := funext fun k => Fin.ext (ha k)
  obtain rfl : b = fun k => ⟨4096 + k.val, by omega⟩ := funext fun k => Fin.ext (hb k)
  exact (Fin.sum_univ_add (a := 4096) (b := 4096) g).symm

/-- The result of the call is, at every index, the sum over all tokens. -/
theorem arr2 : (dats m 0 c).arrAt 2 cfg0.N = fun i : S4x704x1024.Idx =>
    ∑ t : Fin 8192, act m c (ix4 2 (i 0) t (i 1)) * gy m c (ix2 t (i 2)) := by
  refine (dats m 0 c).arrAt_eq_of_covers 2 _ (by decide +kernel) fun t hf y => ?_
  have h1 := (flush0_2 t).mp hf
  have hN : cfg0.N = 8 := N_0
  have ht := t.isLt
  blk_simp
  rw [after0_2]
  idx_vars y
  obtain rfl : y0 = 0 := Subsingleton.elim _ _
  rw [at_B m c t ⟨t.val - 1, by omega⟩ h1 rfl]
  unfold part
  simp only [X0, X1]
  have e0 : (((cfg0.win 2).blk t).view.emb (ix3 0 y1 y2) 0).val = (col t).val := by blk_simp [ix0_2 t, col]; rfl
  have e1 : (((cfg0.win 2).blk t).view.emb (ix3 0 y1 y2) 1).val = y1.val := by blk_simp [ix0_2 t]
  have e2 : (((cfg0.win 2).blk t).view.emb (ix3 0 y1 y2) 2).val = y2.val := by blk_simp [ix0_2 t]
  generalize act m c = A
  generalize gy m c = B
  have ea : (((cfg0.win 2).blk t).view.emb (ix3 0 y1 y2) 0) = col t := Fin.ext e0
  have eb : (((cfg0.win 2).blk t).view.emb (ix3 0 y1 y2) 1) = y1 := Fin.ext e1
  have ec : (((cfg0.win 2).blk t).view.emb (ix3 0 y1 y2) 2) = y2 := Fin.ext e2
  have ed : col ⟨t.val - 1, by omega⟩ = col t := Fin.ext (by show (t.val - 1) / 2 = t.val / 2; omega)
  rw [ed]
  refine (sum_halves (fun s => A (ix4 2 (col t) s y1) * B (ix2 s y2)) _ _ (fun k => ?_) (fun k => ?_)).trans ?_
  · show (t.val - 1) % 2 * 4096 + k.val = k.val; omega
  · show t.val % 2 * 4096 + k.val = 4096 + k.val; omega
  · rw [ea, eb, ec]

end Cert.GradW2

end
-- ==== Proof.GradW2Host.lean ====
module

public import proofs.«01_k».proof.Defs
public import Idealize.ShloMosaic.Lib.Quiescent
public import Idealize.ShloMosaic.Lib.StableHlo.ReadAt
public import proofs.«01_k».proof.Proof.Gen.Reference2Ideal.Read
public import proofs.«01_k».proof.Proof.GradW2

@[expose] public section

noncomputable section

/-! The gradient of the second weight matrix: the operand arrays, and the claim. -/
namespace Cert.GradW2

open Cert.Kernel2Ideal Cert.Kernel2Ideal.Gen Idealize.ShloMosaic Idealize.ShloMosaic.Pointwise Idealize.ShloMosaic.TcCoe
open Cert.Reference2Ideal.Read

variable (m : (ℓ : Loc nD τ sig) → Buf (Elt Ideal) ℓ) (c : Dev nD)

/-- The gated unit, by the reference's lines. -/
abbrev unit : FVec Ideal S8192x2816 .f32 :=
  val_main_v25 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem gy_at (t : Fin 8192) (d : Fin 1024) : gy m c (ix2 t d) = m ((c : Thread nD τ).loc main_arg6) (ix2 t d) := by
  unfold gy V
  after_reads_at

/-- Three joined arrays laid out in four parts. -/
def actOf (u v w : FVec Ideal S1x8192x2816 .f32) : FVec Ideal S3x4x8192x704 .bf16 :=
  truncf .bf16 (transpose S3x4x8192x704 [0, 2, 1, 3] (shapeCast S3x8192x4x704 (concatenate S3x8192x2816 0
    [⟨S1x8192x2816, u⟩, ⟨S1x8192x2816, v⟩, ⟨S1x8192x2816, w⟩]
    concatenates_S1x8192x2816_S1x8192x2816_S1x8192x2816_S3x8192x2816_d0)
    shapeCasts_S3x8192x2816_S3x8192x4x704) transposes_S3x8192x4x704_S3x4x8192x704_0_2_1_3) bitsLt_bf16_f32

theorem act_eq : ∃ u v : FVec Ideal S1x8192x2816 .f32,
    act m c = actOf u v (broadcastInDim S1x8192x2816 ![1, 2] bcast_S8192x2816_S1x8192x2816_1_2 (unit m c)) := by
  have e2 : @Eq (FVec Ideal S1x8192x2816 .f32) (StableHlo.upto (List.flatten [hostOps0, hostOps0_1, hostOps0_2]) (fun b => m (c, b)) 61 (Proc.devRef .tc main_v43))
      (broadcastInDim S1x8192x2816 ![1, 2] bcast_S8192x2816_S1x8192x2816_1_2 (unit m c)) := by
    after_reads_simp
    rfl
  refine ⟨StableHlo.upto (List.flatten [hostOps0, hostOps0_1, hostOps0_2]) (fun b => m (c, b)) 61 (Proc.devRef .tc main_v41),
    StableHlo.upto (List.flatten [hostOps0, hostOps0_1, hostOps0_2]) (fun b => m (c, b)) 61 (Proc.devRef .tc main_v42), ?_⟩
  unfold act V
  after_reads_simp
  dsimp only [Matrix.cons_val]
  unfold actOf
  rw [← e2]
  rfl

theorem act_at (p : Fin 4) (t : Fin 8192) (r : Fin 704) : act m c (ix4 2 p t r) = unit m c (ix2 t ⟨p.val * 704 + r.val, by omega⟩) := by
  obtain ⟨u, v, e⟩ := act_eq m c
  rw [e]
  generalize unit m c = w
  pointwise [actOf]

/-- The reference's result, at every index, is the same sum. -/
theorem ref_at (x0 : FVec Ideal S8192x1024 .f32) (x1 x2 x3 : FVec Ideal S1024 .f32) (x4 : FVec Ideal S1024x5632 .f32) (x6 : FVec Ideal S8192x1024 .f32)
    (p : Fin 4) (r : Fin 704) (d : Fin 1024) : val_main_v30 (F := Ideal) x0 x1 x2 x3 x4 x6 (ix3 p r d)
      = ∑ t : Fin 8192, x6 (ix2 t d) * val_main_v25 (F := Ideal) x0 x1 x2 x3 x4 (ix2 t ⟨p.val * 704 + r.val, by omega⟩) := by
  unfold val_main_v30 val_main_v29 val_main_v28 val_main_v27
  generalize val_main_v25 (F := Ideal) x0 x1 x2 x3 x4 = w
  pointwise

/-- Two arrays of three axes that agree at every index are the same. -/
theorem ext3 {n0 n1 n2 : Nat} {α : Type} {f g : (⟨3, ![n0, n1, n2]⟩ : Shape).Idx → α} (h : ∀ a b c, f (ix3 a b c) = g (ix3 a b c)) : f = g :=
  funext fun j => by rw [eq_ix3 j]; exact h _ _ _

open Idealize.SL.Sem

/-- The reference ends with its arguments unchanged and, as it has none, every counter at zero. -/
theorem frame_ref : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

/-- The algebraic claim of the second matrix's gradient. -/
theorem algebraic : Cert.algebraic_Kernel2Ideal_Reference2Ideal (hKernel2Ideal := Cert.Kernel2Ideal.Gen.facts)
    (hReference2Ideal := Cert.Reference2Ideal.Gen.facts) := by
  intro m g m' g' _ ha
  refine ⟨fun c => (dats m 0 c).arrAt 2 cfg0.N, Cert.Kernel2Ideal.Value.run_blocks m g,
    (θ_run _ _ _).mono (fun r h c => ?_) (Cert.Reference2Ideal.Value.run m' g')⟩
  obtain ⟨a0, a1, a2, a3, a4, a5, a6⟩ := ha c
  obtain ⟨r0, rest⟩ := h c
  refine ⟨r0.trans ?_, rest⟩
  rw [val_main_v30_eq, a0, a1, a2, a3, a4, a6]
  refine Eq.trans ?_ (arr2 m c).symm
  refine ext3 fun p q d => (ref_at _ _ _ _ _ _ p q d).trans (Finset.sum_congr rfl fun t _ => ?_)
  show _ = act m c (ix4 2 p t q) * gy m c (ix2 t d)
  rw [act_at, gy_at]
  exact mul_comm _ _

end Cert.GradW2

end
-- ==== Proof.GradW1.lean ====
module

public import Idealize.ShloMosaic.Lib.Pipeline.ValueKit
public import Idealize.ShloMosaic.Lib.Pipeline.ReadBack
public import proofs.«01_k».proof.Proof.Gen.Kernel3Ideal.Value
public import proofs.«01_k».proof.Proof.GradW2

@[expose] public section

set_option maxRecDepth 16384

noncomputable section

/-! The gradient of the first weight matrix: the result array. -/
namespace Cert.GradW1

open Cert.Kernel3Ideal Cert.Kernel3Ideal.Gen Idealize.ShloMosaic Idealize.ShloMosaic.Pointwise Idealize.ShloMosaic.TcCoe

variable (m : (ℓ : Loc nD τ sig) → Buf (Elt Ideal) ℓ) (c : Dev nD)

/-- The two column halves a grid point stores, over an accumulator that held `st`. -/
def halves (st : Vec Ideal S704x1024 .f32) (x0 : Vec Ideal S1x4096x704 .bf16) (x1 : Vec Ideal S4096x1024 .bf16) :
    List (View.Piece (Elt Ideal) S704x1024 .f32) :=
  [⟨Rect.unit ![0,512] ![704,512] inb_S704x1024_S704x512_0_512, k0_pay3 (View.ld st (Rect.unit ![0,512] ![704,512] inb_S704x1024_S704x512_0_512)) x0
      (View.ld x1 (Rect.unit ![0,512] ![4096,512] inb_S4096x1024_S4096x512_0_512))⟩,
    ⟨Rect.unit ![0,0] ![704,512] inb_S704x1024_S704x512_0_0, k0_pay2 (View.ld st (Rect.unit ![0,0] ![704,512] inb_S704x1024_S704x512_0_0)) x0
      (View.ld x1 (Rect.unit ![0,0] ![4096,512] inb_S4096x1024_S4096x512_0_0))⟩]

/-- The accumulator after the first of a part's two points. -/
theorem sA (t : Fin cfg0.N) (h0 : t.val % 2 = 0) (h1 : ¬ t.val % 2 = 1) : (outsAt0 m c t.val t.isLt).2
    = View.canon (halves (k0_pay1 (F := Ideal)) (iblk m c 0 t) (iblk m c 1 t) ++ [⟨Rect.unit ![0,0] ![704,1024] inb_S704x1024_S704x1024_0_0, k0_pay1 (F := Ideal)⟩]) := by
  rw [outsAt0_A m c t h0 h1]
  frame_open
  simp (disch := decide) only [↓ View.readCov_skip, ↓ View.readCov_cons_toLoadRect, ↓ View.readCov_fill]
  frame_out
  rfl

/-- The result's block after the second point. -/
theorem oB (t : Fin cfg0.N) (h0 : ¬ t.val % 2 = 0) (h1 : t.val % 2 = 1) : (outsAt0 m c t.val t.isLt).1
    = k0_pay4 (F := Ideal) (View.canon (halves (outsAt0 m c (t.val - 1) (by omega)).2 (iblk m c 0 t) (iblk m c 1 t))) := by
  rw [outsAt0_B m c t h0 h1]
  frame_open
  simp (disch := decide) only [↓ View.readCov_skip, ↓ View.readCov_cons_toLoadRect, ↓ View.readCov_fill]
  frame_out
  rw [View.readCov_eq_canon', (Memref.isWhole_whole cc0_scratch0).read_unread]
  unfold halves
  refine congrArg k0_pay4 (funext fun j => congrArg _ (funext fun a => Fin.ext ?_))
  fin_cases a <;> simp

/-- One point's product. -/
def part (x0 : Vec Ideal S1x4096x704 .bf16) (x1 : Vec Ideal S4096x1024 .bf16) (r : Fin 704) (d : Fin 1024) : EReal :=
  ∑ k : Fin 4096, x0 (ix3 0 k r) * x1 (ix2 k d)

theorem halves_at (st : Vec Ideal S704x1024 .f32) (x0 : Vec Ideal S1x4096x704 .bf16) (x1 : Vec Ideal S4096x1024 .bf16)
    (L : List (View.Piece (Elt Ideal) S704x1024 .f32)) (r : Fin 704) (d : Fin 1024) :
    View.canon (halves st x0 x1 ++ L) (ix2 r d) = st (ix2 r d) + part x0 x1 r d := by
  rw [← View.read_writes_junk_eq_canon (View.whole cc0_scratch0)]
  unfold halves part
  simp only [List.cons_append, List.nil_append]
  by_cases h : 512 ≤ d.val
  · rw [View.read_writes_cons_hit_of_coords (x := ix2 r (⟨d.val - 512, by omega⟩ : Fin 512)) (hx := fun a => by fin_cases a <;> simp; omega)]
    pointwise [k0_pay3]
    have e : (⟨512 + (d.val - 512), by omega⟩ : Fin 1024) = d := Fin.ext (by show 512 + (d.val - 512) = d.val; omega)
    simp only [e]
  · rw [View.read_writes_cons_miss_of_axis _ _ _ _ _ 1 512 512 rfl rfl rfl (Or.inl (by show d.val < 512; omega)),
      View.read_writes_cons_hit_of_coords (x := ix2 r (⟨d.val, by omega⟩ : Fin 512)) (hx := fun a => by fin_cases a <;> simp)]
    pointwise [k0_pay2]

theorem pay1_zero (i : S704x1024.Idx) : k0_pay1 (F := Ideal) i = 0 := by pointwise [k0_pay1]

theorem at_A (t : Fin cfg0.N) (h0 : t.val % 2 = 0) (r : Fin 704) (d : Fin 1024) :
    (outsAt0 m c t.val t.isLt).2 (ix2 r d) = part (iblk m c 0 t) (iblk m c 1 t) r d := by
  rw [sA m c t h0 (by omega), halves_at, pay1_zero, zero_add]

theorem at_B (t s : Fin cfg0.N) (h1 : t.val % 2 = 1) (hs : s.val = t.val - 1) (r : Fin 704) (d : Fin 1024) :
    (outsAt0 m c t.val t.isLt).1 (ix3 0 r d)
      = part (iblk m c 0 s) (iblk m c 1 s) r d + part (iblk m c 0 t) (iblk m c 1 t) r d := by
  have e : (outsAt0 m c (t.val - 1) (by omega)).2 = (outsAt0 m c s.val s.isLt).2 := by congr 1; congr 1; exact hs.symm
  rw [oB m c t (by omega) h1, e]
  pointwise [k0_pay4]
  have h := halves_at (outsAt0 m c s.val s.isLt).2 (iblk m c 0 t) (iblk m c 1 t) [] r d
  rw [List.append_nil] at h
  rw [h, at_A m c s (by omega)]

/-- The tokens of grid point `t`. -/
def tok (t : Fin cfg0.N) (k : Fin 4096) : Fin 8192 := ⟨t.val % 2 * 4096 + k.val, by omega⟩

/-- The part of the hidden columns of grid point `t`. -/
def col (t : Fin cfg0.N) : Fin 8 := ⟨t.val / 2, by have := t.isLt; have e : cfg0.N = 16 := N_0; omega⟩

theorem ix0_0 : ∀ t : Fin cfg0.N, win0_0.index t = ![t.val / 2, t.val % 2, 0] :=
  (by decide +kernel : ∀ t : Fin grid0.N, win0_0.index t = ![t.val / 2, t.val % 2, 0])
theorem ix0_1 : ∀ t : Fin cfg0.N, win0_1.index t = ![t.val % 2, 0] :=
  (by decide +kernel : ∀ t : Fin grid0.N, win0_1.index t = ![t.val % 2, 0])
theorem ix0_2 : ∀ t : Fin cfg0.N, win0_2.index t = ![t.val / 2, 0, 0] :=
  (by decide +kernel : ∀ t : Fin grid0.N, win0_2.index t = ![t.val / 2, 0, 0])

/-- The gradient of the first product, and the layer's normalised input, as the call finds them. -/
def da : Vec Ideal S8x8192x704 .bf16 := V m c main_v25
def hin : Vec Ideal S8192x1024 .bf16 := V m c main_v26

theorem rd0 (A : main_v25.ty.Contents (Elt Ideal)) (t : Fin cfg0.N) (k : Fin 4096) (r : Fin 704) :
    View.read (Elt Ideal) ((cfg0.win 0).blk t).view A (ix3 0 k r) = A (ix3 (col t) (tok t k) r) := by
  refine congrArg A (funext fun x => Fin.ext ((Pipeline.Window.rect_emb_val (cfg0.win 0) t (ix3 0 k r) x rfl).trans ?_))
  rw [ix0_0 t]
  fin_cases x
  · show t.val / 2 * 1 + 0 = t.val / 2; omega
  · show t.val % 2 * 4096 + k.val = t.val % 2 * 4096 + k.val; rfl
  · show 0 * _ + r.val = r.val; omega

theorem rd1 (A : main_v26.ty.Contents (Elt Ideal)) (t : Fin cfg0.N) (k : Fin 4096) (d : Fin 1024) :
    View.read (Elt Ideal) ((cfg0.win 1).blk t).view A (ix2 k d) = A (ix2 (tok t k) d) := by
  refine congrArg A (funext fun x => Fin.ext ((Pipeline.Window.rect_emb_val (cfg0.win 1) t (ix2 k d) x rfl).trans ?_))
  rw [ix0_1 t]
  fin_cases x
  · show t.val % 2 * 4096 + k.val = t.val % 2 * 4096 + k.val; rfl
  · show 0 * _ + d.val = d.val; omega

theorem X0 (t : Fin cfg0.N) (k : Fin 4096) (r : Fin 704) : iblk m c 0 t (ix3 0 k r) = da m c (ix3 (col t) (tok t k) r) := by
  unfold iblk da
  exact rd0 (V m c main_v25) t k r

theorem X1 (t : Fin cfg0.N) (k : Fin 4096) (d : Fin 1024) : iblk m c 1 t (ix2 k d) = hin m c (ix2 (tok t k) d) := by
  unfold iblk hin
  exact rd1 (V m c main_v26) t k d

/-- The result of the call is, at every index, the sum over all tokens. -/
theorem arr2 : (dats m 0 c).arrAt 2 cfg0.N = fun i : S8x704x1024.Idx =>
    ∑ t : Fin 8192, da m c (ix3 (i 0) t (i 1)) * hin m c (ix2 t (i 2)) := by
  refine (dats m 0 c).arrAt_eq_of_covers 2 _ (by decide +kernel) fun t hf y => ?_
  have h1 := (flush0_2 t).mp hf
  have hN : cfg0.N = 16 := N_0
  have ht := t.isLt
  blk_simp
  rw [after0_2]
  idx_vars y
  obtain rfl : y0 = 0 := Subsingleton.elim _ _
  rw [at_B m c t ⟨t.val - 1, by omega⟩ h1 rfl]
  unfold part
  simp only [X0, X1]
  have e0 : (((cfg0.win 2).blk t).view.emb (ix3 0 y1 y2) 0).val = (col t).val := by blk_simp [ix0_2 t, col]; rfl
  have e1 : (((cfg0.win 2).blk t).view.emb (ix3 0 y1 y2) 1).val = y1.val := by blk_simp [ix0_2 t]
  have e2 : (((cfg0.win 2).blk t).view.emb (ix3 0 y1 y2) 2).val = y2.val := by blk_simp [ix0_2 t]
  generalize da m c = A
  generalize hin m c = B
  have ea : (((cfg0.win 2).blk t).view.emb (ix3 0 y1 y2) 0) = col t := Fin.ext e0
  have eb : (((cfg0.win 2).blk t).view.emb (ix3 0 y1 y2) 1) = y1 := Fin.ext e1
  have ec : (((cfg0.win 2).blk t).view.emb (ix3 0 y1 y2) 2) = y2 := Fin.ext e2
  have ed : col ⟨t.val - 1, by omega⟩ = col t := Fin.ext (by show (t.val - 1) / 2 = t.val / 2; omega)
  rw [ed]
  refine (Cert.GradW2.sum_halves (fun s => A (ix3 (col t) s y1) * B (ix2 s y2)) _ _ (fun k => ?_) (fun k => ?_)).trans ?_
  · show (t.val - 1) % 2 * 4096 + k.val = k.val; omega
  · show t.val % 2 * 4096 + k.val = 4096 + k.val; omega
  · rw [ea, eb, ec]

end Cert.GradW1

end
-- ==== Proof.GradW1Host.lean ====
module

public import proofs.«01_k».proof.Defs
public import Idealize.ShloMosaic.Lib.Quiescent
public import Idealize.ShloMosaic.Lib.StableHlo.ReadAt
public import proofs.«01_k».proof.Proof.Gen.Reference3Ideal.Read
public import proofs.«01_k».proof.Proof.GradW1
public import proofs.«01_k».proof.Proof.GradW2Host

@[expose] public section

noncomputable section

/-! The gradient of the first weight matrix: the operand arrays, and the claim. -/
namespace Cert.GradW1

open Cert.Kernel3Ideal Cert.Kernel3Ideal.Gen Idealize.ShloMosaic Idealize.ShloMosaic.Pointwise Idealize.ShloMosaic.TcCoe
open Cert.Reference3Ideal.Read Idealize.SL.Sem

variable (m : (ℓ : Loc nD τ sig) → Buf (Elt Ideal) ℓ) (c : Dev nD)

/-- The layer's normalised input, by the reference's lines. -/
abbrev input : FVec Ideal S8192x1024 .f32 :=
  val_main_v20 (F := Ideal) (m ((c : Thread nD τ).loc main_arg0)) (m ((c : Thread nD τ).loc main_arg1)) (m ((c : Thread nD τ).loc main_arg2))
    (m ((c : Thread nD τ).loc main_arg3))

theorem hin_eq : hin m c = truncf .bf16 (input m c) bitsLt_bf16_f32 := by
  unfold hin V
  after_reads_simp
  rfl

theorem hin_at (t : Fin 8192) (d : Fin 1024) : hin m c (ix2 t d) = input m c (ix2 t d) := by
  rw [hin_eq]
  generalize input m c = w
  pointwise

theorem da_at (p : Fin 8) (t : Fin 8192) (r : Fin 704) :
    da m c (ix3 p t r) = m ((c : Thread nD τ).loc main_arg5) (ix2 t (⟨p.val * 704 + r.val, by omega⟩ : Fin 5632)) := by
  unfold da V
  after_reads_at
  refine congrArg (m (c, Proc.devRef .tc main_arg5)) (congrArg (fun q : Fin 5632 => (ix2 t q : S8192x5632.Idx)) (Fin.ext ?_))
  show p.val / 4 * 2816 + p.val % 4 * 704 + r.val = p.val * 704 + r.val
  omega

/-- The reference's result, at every index, is the same sum. -/
theorem ref_at (x0 : FVec Ideal S8192x1024 .f32) (x1 x2 x3 : FVec Ideal S1024 .f32) (x5 : FVec Ideal S8192x5632 .f32)
    (p : Fin 8) (r : Fin 704) (d : Fin 1024) : val_main_v26 (F := Ideal) x0 x1 x2 x3 x5 (ix3 p r d)
      = ∑ t : Fin 8192, x5 (ix2 t ⟨p.val * 704 + r.val, by omega⟩) * val_main_v20 (F := Ideal) x0 x1 x2 x3 (ix2 t d) := by
  unfold val_main_v26 val_main_v25 val_main_v24 val_main_v23 val_main_v22
  generalize val_main_v20 (F := Ideal) x0 x1 x2 x3 = w
  pointwise

/-- The reference ends with its arguments unchanged and, as it has none, every counter at zero. -/
theorem frame_ref : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)

/-- The algebraic claim of the first matrix's gradient. -/
theorem algebraic : Cert.algebraic_Kernel3Ideal_Reference3Ideal (hKernel3Ideal := Cert.Kernel3Ideal.Gen.facts)
    (hReference3Ideal := Cert.Reference3Ideal.Gen.facts) := by
  intro m g m' g' _ ha
  refine ⟨fun c => (dats m 0 c).arrAt 2 cfg0.N, Cert.Kernel3Ideal.Value.run_blocks m g,
    (θ_run _ _ _).mono (fun r h c => ?_) (Cert.Reference3Ideal.Value.run m' g')⟩
  obtain ⟨a0, a1, a2, a3, a4, a5⟩ := ha c
  obtain ⟨r0, rest⟩ := h c
  refine ⟨r0.trans ?_, rest⟩
  rw [val_main_v26_eq, a0, a1, a2, a3, a5]
  refine Eq.trans ?_ (arr2 m c).symm
  refine Cert.GradW2.ext3 fun p q d => (ref_at _ _ _ _ _ p q d).trans (Finset.sum_congr rfl fun t _ => ?_)
  show _ = da m c (ix3 p t q) * hin m c (ix2 t d)
  rw [da_at, hin_at]

end Cert.GradW1

end
-- ==== Proof.FfnFwdOut.lean ====
module

public import Idealize.ShloMosaic.Lib.Pipeline.ValueKit
public import Idealize.ShloMosaic.Lib.Pipeline.ReadBack
public import proofs.«01_k».proof.Proof.Gen.Kernel4Ideal.Frame
public import Idealize.ShloMosaic.Lib.Pipeline.Value

@[expose] public section

set_option maxRecDepth 16384

noncomputable section

/-! The layer's forward pass: what a grid point leaves in the call's four result windows and in the carried scratch. -/
namespace Cert.FfnFwd

open Cert.Kernel4Ideal Cert.Kernel4Ideal.Gen Idealize.ShloMosaic Idealize.ShloMosaic.Pointwise Idealize.ShloMosaic.TcCoe

section
variable (H : Vec Ideal S256x1024 .bf16) (x0 : Vec Ideal S256x1024 .f32) (x2 : Vec Ideal S8x1024 .f32)
  (x3 : Vec Ideal S2x4x1024x704 .bf16) (x4 : Vec Ideal S8x352x1024 .bf16)

/-- The two halves of the first product over a block, part by part. -/
def kg : Fin 4 → FVec Ideal S256x704 .f32
  | 0 => k0_pay6 H (View.ld x3 (Rect.unit ![0, 0, 0, 0] ![1, 1, 1024, 704] inb_S2x4x1024x704_S1x1x1024x704_0_0_0_0))
  | 1 => k0_pay8 H (View.ld x3 (Rect.unit ![0, 1, 0, 0] ![1, 1, 1024, 704] inb_S2x4x1024x704_S1x1x1024x704_0_1_0_0))
  | 2 => k0_pay18 H (View.ld x3 (Rect.unit ![0, 2, 0, 0] ![1, 1, 1024, 704] inb_S2x4x1024x704_S1x1x1024x704_0_2_0_0))
  | 3 => k0_pay28 H (View.ld x3 (Rect.unit ![0, 3, 0, 0] ![1, 1, 1024, 704] inb_S2x4x1024x704_S1x1x1024x704_0_3_0_0))
def ku : Fin 4 → FVec Ideal S256x704 .f32
  | 0 => k0_pay7 H (View.ld x3 (Rect.unit ![1, 0, 0, 0] ![1, 1, 1024, 704] inb_S2x4x1024x704_S1x1x1024x704_1_0_0_0))
  | 1 => k0_pay9 H (View.ld x3 (Rect.unit ![1, 1, 0, 0] ![1, 1, 1024, 704] inb_S2x4x1024x704_S1x1x1024x704_1_1_0_0))
  | 2 => k0_pay19 H (View.ld x3 (Rect.unit ![1, 2, 0, 0] ![1, 1, 1024, 704] inb_S2x4x1024x704_S1x1x1024x704_1_2_0_0))
  | 3 => k0_pay29 H (View.ld x3 (Rect.unit ![1, 3, 0, 0] ![1, 1, 1024, 704] inb_S2x4x1024x704_S1x1x1024x704_1_3_0_0))

/-- The gated product over a block, part by part. -/
def ks : Fin 4 → FVec Ideal S256x704 .bf16
  | 0 => k0_pay12 H (View.ld x3 (Rect.unit ![0, 0, 0, 0] ![1, 1, 1024, 704] inb_S2x4x1024x704_S1x1x1024x704_0_0_0_0))
    (View.ld x3 (Rect.unit ![1, 0, 0, 0] ![1, 1, 1024, 704] inb_S2x4x1024x704_S1x1x1024x704_1_0_0_0))
  | 1 => k0_pay22 (kg H x3 1) (ku H x3 1)
  | 2 => k0_pay32 (kg H x3 2) (ku H x3 2)
  | 3 => k0_pay42 (kg H x3 3) (ku H x3 3)

/-- What is kept of each part: the slope at the gate, the slope at the other half, the product. -/
def kact (a : Fin 3) (j : Fin 4) : FVec Ideal S1x1x256x704 .bf16 := match a, j with
  | 0, 0 => k0_pay14 (k0_pay13 H (View.ld x3 (Rect.unit ![0, 0, 0, 0] ![1, 1, 1024, 704] inb_S2x4x1024x704_S1x1x1024x704_0_0_0_0))
    (View.ld x3 (Rect.unit ![1, 0, 0, 0] ![1, 1, 1024, 704] inb_S2x4x1024x704_S1x1x1024x704_1_0_0_0)))
  | 1, 0 => k0_pay15 (k0_pay11 H (View.ld x3 (Rect.unit ![0, 0, 0, 0] ![1, 1, 1024, 704] inb_S2x4x1024x704_S1x1x1024x704_0_0_0_0)))
  | 2, 0 => k0_pay16 (ks H x3 0)
  | 0, 1 => k0_pay24 (ku H x3 1) (k0_pay20 (kg H x3 1)) (k0_pay23 (kg H x3 1))
  | 1, 1 => k0_pay25 (k0_pay21 (kg H x3 1))
  | 2, 1 => k0_pay26 (ks H x3 1)
  | 0, 2 => k0_pay34 (kg H x3 2) (ku H x3 2) (k0_pay30 (kg H x3 2)) (k0_pay33 (kg H x3 2))
  | 1, 2 => k0_pay35 (k0_pay31 (kg H x3 2))
  | 2, 2 => k0_pay36 (ks H x3 2)
  | 0, 3 => k0_pay43 (kg H x3 3) (ku H x3 3)
  | 1, 3 => k0_pay44 (kg H x3 3)
  | 2, 3 => k0_pay45 (kg H x3 3) (ku H x3 3)

/-- The pieces of what is kept, the last written first. -/
def kacts : List (View.Piece (Elt Ideal) S3x4x256x704 .bf16) :=
  [⟨Rect.unit ![2, 3, 0, 0] ![1, 1, 256, 704] inb_S3x4x256x704_S1x1x256x704_2_3_0_0, kact H x3 2 3⟩,
    ⟨Rect.unit ![1, 3, 0, 0] ![1, 1, 256, 704] inb_S3x4x256x704_S1x1x256x704_1_3_0_0, kact H x3 1 3⟩,
    ⟨Rect.unit ![0, 3, 0, 0] ![1, 1, 256, 704] inb_S3x4x256x704_S1x1x256x704_0_3_0_0, kact H x3 0 3⟩,
    ⟨Rect.unit ![2, 2, 0, 0] ![1, 1, 256, 704] inb_S3x4x256x704_S1x1x256x704_2_2_0_0, kact H x3 2 2⟩,
    ⟨Rect.unit ![1, 2, 0, 0] ![1, 1, 256, 704] inb_S3x4x256x704_S1x1x256x704_1_2_0_0, kact H x3 1 2⟩,
    ⟨Rect.unit ![0, 2, 0, 0] ![1, 1, 256, 704] inb_S3x4x256x704_S1x1x256x704_0_2_0_0, kact H x3 0 2⟩,
    ⟨Rect.unit ![2, 1, 0, 0] ![1, 1, 256, 704] inb_S3x4x256x704_S1x1x256x704_2_1_0_0, kact H x3 2 1⟩,
    ⟨Rect.unit ![1, 1, 0, 0] ![1, 1, 256, 704] inb_S3x4x256x704_S1x1x256x704_1_1_0_0, kact H x3 1 1⟩,
    ⟨Rect.unit ![0, 1, 0, 0] ![1, 1, 256, 704] inb_S3x4x256x704_S1x1x256x704_0_1_0_0, kact H x3 0 1⟩,
    ⟨Rect.unit ![2, 0, 0, 0] ![1, 1, 256, 704] inb_S3x4x256x704_S1x1x256x704_2_0_0_0, kact H x3 2 0⟩,
    ⟨Rect.unit ![1, 0, 0, 0] ![1, 1, 256, 704] inb_S3x4x256x704_S1x1x256x704_1_0_0_0, kact H x3 1 0⟩,
    ⟨Rect.unit ![0, 0, 0, 0] ![1, 1, 256, 704] inb_S3x4x256x704_S1x1x256x704_0_0_0_0, kact H x3 0 0⟩]

/-- The second product over a block: the sum of the first three parts, the whole, and the layer's result. -/
def ky3 : FVec Ideal S256x1024 .f32 :=
  k0_pay37 (k0_pay27 (k0_pay17 (ks H x3 0) (View.ld x4 (Rect.unit ![0, 0, 0] ![2, 352, 1024] inb_S8x352x1024_S2x352x1024_0_0_0)))
    (ks H x3 1) (View.ld x4 (Rect.unit ![2, 0, 0] ![2, 352, 1024] inb_S8x352x1024_S2x352x1024_2_0_0)))
    (ks H x3 2) (View.ld x4 (Rect.unit ![4, 0, 0] ![2, 352, 1024] inb_S8x352x1024_S2x352x1024_4_0_0))
def ky : FVec Ideal S256x1024 .bf16 :=
  k0_pay2 (ky3 H x3 x4) (ks H x3 3) (View.ld x4 (Rect.unit ![6, 0, 0] ![2, 352, 1024] inb_S8x352x1024_S2x352x1024_6_0_0))
def kxo : FVec Ideal S256x1024 .f32 :=
  k0_pay3 (ky3 H x3 x4) (ks H x3 3) (View.ld x4 (Rect.unit ![6, 0, 0] ![2, 352, 1024] inb_S8x352x1024_S2x352x1024_6_0_0)) x0
    (View.ld x2 (Rect.unit ![3, 0] ![1, 1024] inb_S8x1024_S1x1024_3_0))

/-- The normalised input over a block, as the first point computes it for itself and as each point does for the next. -/
def kh : FVec Ideal S256x1024 .bf16 := k0_pay5 x0 (View.ld x2 (Rect.unit ![0, 0] ![1, 1024] inb_S8x1024_S1x1024_0_0))
  (View.ld x2 (Rect.unit ![2, 0] ![1, 1024] inb_S8x1024_S1x1024_2_0)) (View.ld x2 (Rect.unit ![1, 0] ![1, 1024] inb_S8x1024_S1x1024_1_0))
def khn : FVec Ideal S256x1024 .bf16 := k0_pay4 (k0_pay39 (k0_pay38 x0) (View.ld x2 (Rect.unit ![0, 0] ![1, 1024] inb_S8x1024_S1x1024_0_0))
  (View.ld x2 (Rect.unit ![2, 0] ![1, 1024] inb_S8x1024_S1x1024_2_0)) (View.ld x2 (Rect.unit ![1, 0] ![1, 1024] inb_S8x1024_S1x1024_1_0)))
end

variable (m : (ℓ : Loc nD τ sig) → Buf (Elt Ideal) ℓ) (c : Dev nD)

/-- The normalised input that point `t` works with. -/
def kin (t : Fin cfg0.N) : Vec Ideal S256x1024 .bf16 :=
  if t.val % 32 = 0 then kh (iblk m c 0 t) (iblk m c 2 t) else (outsAt0 m c (t.val - 1) (by omega)).2.2.2.2

theorem o5 (t : Fin cfg0.N) : (outsAt0 m c t.val t.isLt).1 = View.canon (kacts (kin m c t) (iblk m c 3 t)) := by
  unfold kin
  split
  · rename_i h0
    rw [outsAt0_A m c t h0]
    frame_open
    simp (disch := decide) only [↓ View.readCov_skip, ↓ View.readCov_cons_toLoadRect, ↓ View.readCov_fill]
    frame_out
    rfl
  · rename_i h0
    rw [outsAt0_B m c t h0]
    frame_out
    simp only [(Memref.isWhole_whole cc0_scratch0).read_unread]
    rfl

theorem o6 (t : Fin cfg0.N) : (outsAt0 m c t.val t.isLt).2.1 = kin m c t := by
  unfold kin
  split
  · rename_i h0
    rw [outsAt0_A m c t h0]
    frame_open
    simp (disch := decide) only [↓ View.readCov_skip, ↓ View.readCov_cons_toLoadRect, ↓ View.readCov_fill]
    frame_out
    rfl
  · rename_i h0
    rw [outsAt0_B m c t h0]
    frame_out
    exact (Memref.isWhole_whole cc0_scratch0).read_unread _

theorem o7 (t : Fin cfg0.N) : (outsAt0 m c t.val t.isLt).2.2.1 = ky (kin m c t) (iblk m c 3 t) (iblk m c 4 t) := by
  unfold kin
  split
  · rename_i h0
    rw [outsAt0_A m c t h0]
    frame_open
    simp (disch := decide) only [↓ View.readCov_skip, ↓ View.readCov_cons_toLoadRect, ↓ View.readCov_fill]
    frame_out
    rfl
  · rename_i h0
    rw [outsAt0_B m c t h0]
    frame_out
    simp only [(Memref.isWhole_whole cc0_scratch0).read_unread]
    rfl

theorem o8 (t : Fin cfg0.N) : (outsAt0 m c t.val t.isLt).2.2.2.1
    = kxo (kin m c t) (iblk m c 0 t) (iblk m c 2 t) (iblk m c 3 t) (iblk m c 4 t) := by
  unfold kin
  split
  · rename_i h0
    rw [outsAt0_A m c t h0]
    frame_open
    simp (disch := decide) only [↓ View.readCov_skip, ↓ View.readCov_cons_toLoadRect, ↓ View.readCov_fill]
    frame_out
    rfl
  · rename_i h0
    rw [outsAt0_B m c t h0]
    frame_out
    simp only [(Memref.isWhole_whole cc0_scratch0).read_unread]
    rfl

theorem o9 (t : Fin cfg0.N) : (outsAt0 m c t.val t.isLt).2.2.2.2 = khn (iblk m c 1 t) (iblk m c 2 t) := by
  by_cases h0 : t.val % 32 = 0
  · rw [outsAt0_A m c t h0]
    frame_out
    rfl
  · rw [outsAt0_B m c t h0]
    frame_out
    rfl

end Cert.FfnFwd

end
-- ==== Proof.FfnFwdBlock.lean ====
module

public import proofs.«01_k».proof.Proof.Gen.Reference4Ideal.Read
public import proofs.«01_k».proof.Proof.Math
public import proofs.«01_k».proof.Proof.FfnFwdOut

@[expose] public section

set_option maxRecDepth 16384

noncomputable section

/-! The layer's forward pass: a block's values are the reference's stages at the block's tokens. -/
namespace Cert.FfnFwd

open Cert.Kernel4Ideal Cert.Kernel4Ideal.Gen Cert.Reference4Ideal.Read Cert.Ffn Idealize.ShloMosaic Idealize.ShloMosaic.Pointwise

variable {X : FVec Ideal S8192x1024 .f32} {NG SH SC G : FVec Ideal S1024 .f32} {W1 : FVec Ideal S1024x5632 .f32} {W2 : FVec Ideal S2816x1024 .f32}

/-- The rows of the parameters' block. -/
structure Prm (NG SH SC G : FVec Ideal S1024 .f32) (x2 : Vec Ideal S8x1024 .f32) : Prop where
  p0 : ∀ d, x2 (ix2 0 d) = NG (ix1 d)
  p1 : ∀ d, x2 (ix2 1 d) = SH (ix1 d)
  p2 : ∀ d, x2 (ix2 2 d) = SC (ix1 d)
  p3 : ∀ d, x2 (ix2 3 d) = G (ix1 d)

theorem ref_h (t : Fin 8192) (d : Fin 1024) : val_main_v20 (F := Ideal) X NG SH SC (ix2 t d)
    = X (ix2 t d) * Ideal.rsqrt (Ideal.div (∑ k : Fin 1024, X (ix2 t k) * X (ix2 t k)) (Scalar.ofBits .f32 0x44800000#32 : Ideal .f32)
        + (Scalar.ofBits .f32 0x358637BD#32 : Ideal .f32)) * NG (ix1 d) * (1 + SC (ix1 d)) + SH (ix1 d) := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2]

theorem kh_at {x0 : Vec Ideal S256x1024 .f32} {x2 : Vec Ideal S8x1024 .f32} (hp : Prm NG SH SC G x2) (T : Fin 256 → Fin 8192)
    (hx : ∀ r d, x0 (ix2 r d) = X (ix2 (T r) d)) (r : Fin 256) (d : Fin 1024) :
    kh x0 x2 (ix2 r d) = val_main_v20 (F := Ideal) X NG SH SC (ix2 (T r) d) := by
  rw [ref_h]
  pointwise [kh, k0_pay5]
  simp only [hx, hp.p0, hp.p1, hp.p2]

theorem khn_at {x0 : Vec Ideal S256x1024 .f32} {x2 : Vec Ideal S8x1024 .f32} (hp : Prm NG SH SC G x2) (T : Fin 256 → Fin 8192)
    (hx : ∀ r d, x0 (ix2 r d) = X (ix2 (T r) d)) (r : Fin 256) (d : Fin 1024) :
    khn x0 x2 (ix2 r d) = val_main_v20 (F := Ideal) X NG SH SC (ix2 (T r) d) := by
  rw [ref_h]
  pointwise [khn, k0_pay4, k0_pay38, k0_pay39]
  simp only [hx, hp.p0, hp.p1, hp.p2]

/-- Hidden column `k` of part `j`. -/
def part (j : Fin 4) (k : Fin 704) : Fin 2816 := ⟨j.val * 704 + k.val, by omega⟩

/-- The normalised input and the weights of a block. -/
structure Blk (X : FVec Ideal S8192x1024 .f32) (NG SH SC : FVec Ideal S1024 .f32) (W1 : FVec Ideal S1024x5632 .f32) (W2 : FVec Ideal S2816x1024 .f32)
    (T : Fin 256 → Fin 8192) (H : Vec Ideal S256x1024 .bf16) (x3 : Vec Ideal S2x4x1024x704 .bf16) (x4 : Vec Ideal S8x352x1024 .bf16) : Prop where
  hh : ∀ r d, H (ix2 r d) = val_main_v20 (F := Ideal) X NG SH SC (ix2 (T r) d)
  h3 : ∀ (j : Fin 4) d k, x3 (ix4 0 j d k) = W1 (ix2 d (lo (part j k)))
  h3' : ∀ (j : Fin 4) d k, x3 (ix4 1 j d k) = W1 (ix2 d (hi (part j k)))
  h4 : ∀ (a : Fin 8) (r : Fin 352) d, x4 (ix3 a r d) = W2 (ix2 ⟨a.val * 352 + r.val, by omega⟩ d)

variable {T : Fin 256 → Fin 8192} {H : Vec Ideal S256x1024 .bf16} {x3 : Vec Ideal S2x4x1024x704 .bf16} {x4 : Vec Ideal S8x352x1024 .bf16}

section
variable (b : Blk X NG SH SC W1 W2 T H x3 x4)
include b

theorem kg_at (j : Fin 4) (r : Fin 256) (k : Fin 704) :
    kg H x3 j (ix2 r k) = val_main_v22 (F := Ideal) X NG SH SC W1 (ix2 (T r) (part j k)) := by
  have e : val_main_v22 (F := Ideal) X NG SH SC W1 (ix2 (T r) (part j k))
      = ∑ d : Fin 1024, val_main_v20 (F := Ideal) X NG SH SC (ix2 (T r) d) * W1 (ix2 d (lo (part j k))) := by
    pointwise [val_main_v22, val_main_v21]
    rfl
  rw [e]
  simp only [← b.hh, ← b.h3]
  fin_cases j
  · pointwise [kg, k0_pay6]
  · pointwise [kg, k0_pay8]
  · pointwise [kg, k0_pay18]
  · pointwise [kg, k0_pay28]

theorem ku_at (j : Fin 4) (r : Fin 256) (k : Fin 704) :
    ku H x3 j (ix2 r k) = val_main_v23 (F := Ideal) X NG SH SC W1 (ix2 (T r) (part j k)) := by
  have e : val_main_v23 (F := Ideal) X NG SH SC W1 (ix2 (T r) (part j k))
      = ∑ d : Fin 1024, val_main_v20 (F := Ideal) X NG SH SC (ix2 (T r) d) * W1 (ix2 d (hi (part j k))) := by
    pointwise [val_main_v23, val_main_v21]
    rfl
  rw [e]
  simp only [← b.hh, ← b.h3']
  fin_cases j
  · pointwise [ku, k0_pay7]
  · pointwise [ku, k0_pay9]
  · pointwise [ku, k0_pay19]
  · pointwise [ku, k0_pay29]

end

/-- The gated product at an index, from the two halves there. -/
def silu (g : EReal) : EReal := g * Ideal.logistic g
def slope (g u : EReal) : EReal := u * (Ideal.logistic g * (1 + g * (1 - Ideal.logistic g)))

theorem ref_silu (t : Fin 8192) (f : Fin 2816) : val_main_v24 (F := Ideal) X NG SH SC W1 (ix2 t f)
    = silu (val_main_v22 (F := Ideal) X NG SH SC W1 (ix2 t f)) := by
  pointwise [val_main_v24, val_main_call0_v5, val_main_call0_v4, val_main_call0_v3, val_main_call0_v2, val_main_call0_v1, val_main_call0_v0,
    val_main_call0_cst, val_main_call0_cst_0]
  rfl

theorem ref_s (t : Fin 8192) (f : Fin 2816) : val_main_v25 (F := Ideal) X NG SH SC W1 (ix2 t f)
    = silu (val_main_v22 (F := Ideal) X NG SH SC W1 (ix2 t f)) * val_main_v23 (F := Ideal) X NG SH SC W1 (ix2 t f) := by
  rw [← ref_silu]
  pointwise [val_main_v25]

theorem ref_slope (t : Fin 8192) (f : Fin 2816) : val_main_v45 (F := Ideal) X NG SH SC W1 (ix2 t f)
    = slope (val_main_v22 (F := Ideal) X NG SH SC W1 (ix2 t f)) (val_main_v23 (F := Ideal) X NG SH SC W1 (ix2 t f)) := by
  pointwise [val_main_v45, val_main_v44, val_main_v43, val_main_v42, val_main_v41, val_main_v40, val_main_v39, val_main_v38, val_main_v37,
    val_main_v36, val_main_v35, val_main_v34, val_main_v33, val_main_cst_4, val_main_cst_5, val_main_cst_6, val_main_cst_7]
  rfl

theorem ref_silu' (t : Fin 8192) (f : Fin 2816) : val_main_v46 (F := Ideal) X NG SH SC W1 (ix2 t f)
    = silu (val_main_v22 (F := Ideal) X NG SH SC W1 (ix2 t f)) := by
  pointwise [val_main_v46, val_main_call1_v5, val_main_call1_v4, val_main_call1_v3, val_main_call1_v2, val_main_call1_v1, val_main_call1_v0,
    val_main_call1_cst, val_main_call1_cst_0]
  rfl

theorem ks_eq (j : Fin 4) (r : Fin 256) (k : Fin 704) : ks H x3 j (ix2 r k) = silu (kg H x3 j (ix2 r k)) * ku H x3 j (ix2 r k) := by
  fin_cases j
  · have e : ks H x3 0 = k0_pay22 (kg H x3 0) (ku H x3 0) := rfl
    show ks H x3 0 _ = silu (kg H x3 0 _) * ku H x3 0 _
    rw [e]
    generalize kg H x3 0 = g
    generalize ku H x3 0 = u
    pointwise [k0_pay22, k0_pay21, k0_pay20]
    rfl
  · show k0_pay22 (kg H x3 1) (ku H x3 1) _ = silu (kg H x3 1 _) * ku H x3 1 _
    generalize kg H x3 1 = g
    generalize ku H x3 1 = u
    pointwise [k0_pay22, k0_pay21, k0_pay20]
    rfl
  · show k0_pay32 (kg H x3 2) (ku H x3 2) _ = silu (kg H x3 2 _) * ku H x3 2 _
    generalize kg H x3 2 = g
    generalize ku H x3 2 = u
    pointwise [k0_pay32, k0_pay31, k0_pay30]
    rfl
  · show k0_pay42 (kg H x3 3) (ku H x3 3) _ = silu (kg H x3 3 _) * ku H x3 3 _
    generalize kg H x3 3 = g
    generalize ku H x3 3 = u
    pointwise [k0_pay42, k0_pay41, k0_pay40]
    rfl

/-- What is kept of a part, from the two halves. -/
def keep (a : Fin 3) (g u : EReal) : EReal := match a with
  | 0 => slope g u
  | 1 => silu g
  | 2 => silu g * u

theorem kact_eq (a : Fin 3) (j : Fin 4) (r : Fin 256) (k : Fin 704) :
    kact H x3 a j (ix4 0 0 r k) = keep a (kg H x3 j (ix2 r k)) (ku H x3 j (ix2 r k)) := by
  fin_cases j
  · fin_cases a
    · have e : kact H x3 0 0 = k0_pay24 (ku H x3 0) (k0_pay20 (kg H x3 0)) (k0_pay23 (kg H x3 0)) := rfl
      show kact H x3 0 0 _ = slope (kg H x3 0 _) (ku H x3 0 _)
      rw [e]
      generalize kg H x3 0 = g
      generalize ku H x3 0 = u
      pointwise [k0_pay24, k0_pay23, k0_pay20]
      rfl
    · have e : kact H x3 1 0 = k0_pay25 (k0_pay21 (kg H x3 0)) := rfl
      show kact H x3 1 0 _ = silu (kg H x3 0 _)
      rw [e]
      generalize kg H x3 0 = g
      pointwise [k0_pay25, k0_pay21, k0_pay20]
      rfl
    · refine Eq.trans ?_ (ks_eq 0 r k)
      show k0_pay16 (ks H x3 0) _ = _
      generalize ks H x3 0 = s
      pointwise [k0_pay16]
  · fin_cases a
    · show k0_pay24 (ku H x3 1) (k0_pay20 (kg H x3 1)) (k0_pay23 (kg H x3 1)) _ = slope (kg H x3 1 _) (ku H x3 1 _)
      generalize kg H x3 1 = g
      generalize ku H x3 1 = u
      pointwise [k0_pay24, k0_pay23, k0_pay20]
      rfl
    · show k0_pay25 (k0_pay21 (kg H x3 1)) _ = silu (kg H x3 1 _)
      generalize kg H x3 1 = g
      pointwise [k0_pay25, k0_pay21, k0_pay20]
      rfl
    · refine Eq.trans ?_ (ks_eq 1 r k)
      show k0_pay26 (ks H x3 1) _ = _
      generalize ks H x3 1 = s
      pointwise [k0_pay26]
  · fin_cases a
    · show k0_pay34 (kg H x3 2) (ku H x3 2) (k0_pay30 (kg H x3 2)) (k0_pay33 (kg H x3 2)) _ = slope (kg H x3 2 _) (ku H x3 2 _)
      generalize kg H x3 2 = g
      generalize ku H x3 2 = u
      pointwise [k0_pay34, k0_pay33, k0_pay30]
      rfl
    · show k0_pay35 (k0_pay31 (kg H x3 2)) _ = silu (kg H x3 2 _)
      generalize kg H x3 2 = g
      pointwise [k0_pay35, k0_pay31, k0_pay30]
      rfl
    · refine Eq.trans ?_ (ks_eq 2 r k)
      show k0_pay36 (ks H x3 2) _ = _
      generalize ks H x3 2 = s
      pointwise [k0_pay36]
  · fin_cases a
    · show k0_pay43 (kg H x3 3) (ku H x3 3) _ = slope (kg H x3 3 _) (ku H x3 3 _)
      generalize kg H x3 3 = g
      generalize ku H x3 3 = u
      pointwise [k0_pay43, k0_pay40]
      rfl
    · show k0_pay44 (kg H x3 3) _ = silu (kg H x3 3 _)
      generalize kg H x3 3 = g
      pointwise [k0_pay44, k0_pay41, k0_pay40]
      rfl
    · show k0_pay45 (kg H x3 3) (ku H x3 3) _ = silu (kg H x3 3 _) * ku H x3 3 _
      generalize kg H x3 3 = g
      generalize ku H x3 3 = u
      pointwise [k0_pay45, k0_pay42, k0_pay41, k0_pay40]
      rfl

theorem kact_piece (a : Fin 3) (j : Fin 4) (y : S3x4x256x704.Idx) (x : S1x1x256x704.Idx) (ha : a.val = (y 0).val) (hj : j.val = (y 1).val)
    (h0 : (x 0).val < 1) (h1 : (x 1).val < 1) (h2 : (y 2).val = (x 2).val) (h3 : (y 3).val = (x 3).val) :
    kact H x3 a j x = kact H x3 (y 0) (y 1) (ix4 0 0 (y 2) (y 3)) := by
  obtain rfl : a = y 0 := Fin.ext ha
  obtain rfl : j = y 1 := Fin.ext hj
  refine congrArg (kact H x3 (y 0) (y 1)) (funext fun i => Fin.ext ?_)
  fin_cases i
  · show (x 0).val = 0; omega
  · show (x 1).val = 0; omega
  · exact h2.symm
  · exact h3.symm

theorem acts_idx (y : S3x4x256x704.Idx) : View.canon (kacts H x3) y = kact H x3 (y 0) (y 1) (ix4 0 0 (y 2) (y 3)) := by
  unfold kacts
  canon_tiles x h
  all_goals
    refine kact_piece _ _ y x ?_ ?_ x0_lt x1_lt h2 h3
    · rw [h0]; simp
    · rw [h1]; simp

theorem acts_at (a : Fin 3) (j : Fin 4) (r : Fin 256) (k : Fin 704) :
    View.canon (kacts H x3) (ix4 a j r k) = keep a (kg H x3 j (ix2 r k)) (ku H x3 j (ix2 r k)) :=
  (acts_idx (ix4 a j r k)).trans (kact_eq a j r k)

/-- A sum over four parts of 704 columns is the sum over them all. -/
theorem sum_four (g : Fin 2816 → EReal) : (∑ k, g (part 0 k)) + (∑ k, g (part 1 k)) + (∑ k, g (part 2 k)) + (∑ k, g (part 3 k)) = ∑ f, g f := by
  rw [← Fin.sum_univ_four (fun j => ∑ k, g (part j k)), ← Fintype.sum_prod_type' (f := fun j k => g (part j k))]
  refine Fintype.sum_equiv (finProdFinEquiv (m := 4) (n := 704)) _ _ fun x => congrArg g (Fin.ext ?_)
  show x.1.val * 704 + x.2.val = x.2.val + 704 * x.1.val
  omega

section
variable (b : Blk X NG SH SC W1 W2 T H x3 x4)
include b

theorem ks_at (j : Fin 4) (r : Fin 256) (k : Fin 704) :
    ks H x3 j (ix2 r k) = val_main_v25 (F := Ideal) X NG SH SC W1 (ix2 (T r) (part j k)) := by
  rw [ks_eq, kg_at b, ku_at b, ref_s]

theorem ref_y (t : Fin 8192) (d : Fin 1024) : val_main_v26 (F := Ideal) X NG SH SC W1 W2 (ix2 t d)
    = ∑ f : Fin 2816, val_main_v25 (F := Ideal) X NG SH SC W1 (ix2 t f) * W2 (ix2 f d) := by
  pointwise [val_main_v26]

theorem y_at (r : Fin 256) (d : Fin 1024) : ky H x3 x4 (ix2 r d) = val_main_v26 (F := Ideal) X NG SH SC W1 W2 (ix2 (T r) d) := by
  rw [ref_y b, ← sum_four]
  simp only [← ks_at b]
  unfold ky ky3
  generalize ks H x3 0 = s0
  generalize ks H x3 1 = s1
  generalize ks H x3 2 = s2
  generalize ks H x3 3 = s3
  pointwise [k0_pay2, k0_pay1, k0_pay37, k0_pay27, k0_pay17]
  have e0 (x : ℕ) : x / 352 * 352 + x % 352 = 0 * 704 + x := by omega
  have e1 (x : ℕ) : (2 + x / 352) * 352 + x % 352 = 1 * 704 + x := by omega
  have e2 (x : ℕ) : (4 + x / 352) * 352 + x % 352 = 2 * 704 + x := by omega
  have e3 (x : ℕ) : (6 + x / 352) * 352 + x % 352 = 3 * 704 + x := by omega
  simp only [b.h4, part, e0, e1, e2, e3]
  rfl

theorem xo_at {x0 : Vec Ideal S256x1024 .f32} {x2 : Vec Ideal S8x1024 .f32} (hp : Prm NG SH SC G x2)
    (hx : ∀ r d, x0 (ix2 r d) = X (ix2 (T r) d)) (r : Fin 256) (d : Fin 1024) :
    kxo H x0 x2 x3 x4 (ix2 r d) = val_main_v32 (F := Ideal) X NG SH SC G W1 W2 (ix2 (T r) d) := by
  have e : kxo H x0 x2 x3 x4 (ix2 r d) = x0 (ix2 r d) + (Scalar.ofBits .f32 0x3F000000#32 : Ideal .f32) * x2 (ix2 3 d) * ky H x3 x4 (ix2 r d) := by
    unfold kxo ky
    generalize ky3 H x3 x4 = y3
    generalize ks H x3 3 = s3
    pointwise [k0_pay3, k0_pay2, k0_pay1]
  rw [e, y_at b, hp.p3, hx]
  pointwise [val_main_v32, val_main_v31, val_main_v30, val_main_v29, val_main_v28, val_main_v27, val_main_cst_3]

end

/-- The reference's saved arrays are these values, part by part. -/
theorem ref_act (a : Fin 3) (j : Fin 4) (t : Fin 8192) (k : Fin 704) : val_main_v53 (F := Ideal) X NG SH SC W1 (ix4 a j t k)
    = keep a (val_main_v22 (F := Ideal) X NG SH SC W1 (ix2 t (part j k))) (val_main_v23 (F := Ideal) X NG SH SC W1 (ix2 t (part j k))) := by
  fin_cases a
  · pointwise [val_main_v53, val_main_v52, val_main_v51, val_main_v50, val_main_v47]
    exact ref_slope t (part j k)
  · pointwise [val_main_v53, val_main_v52, val_main_v51, val_main_v50, val_main_v48]
    exact ref_silu' t (part j k)
  · pointwise [val_main_v53, val_main_v52, val_main_v51, val_main_v50, val_main_v49]
    exact ref_s t (part j k)

end Cert.FfnFwd

end
-- ==== Proof.FfnFwd.lean ====
module

public import proofs.«01_k».proof.Proof.FfnFwdBlock

@[expose] public section

set_option maxRecDepth 16384

noncomputable section

/-! The layer's forward pass: the call's result arrays. -/
namespace Cert.FfnFwd

open Cert.Kernel4Ideal Cert.Kernel4Ideal.Gen Cert.Reference4Ideal.Read Cert.Ffn Idealize.ShloMosaic Idealize.ShloMosaic.Pointwise Idealize.ShloMosaic.TcCoe

variable (m : (ℓ : Loc nD τ sig) → Buf (Elt Ideal) ℓ) (c : Dev nD)

/-- The tokens of grid point `t`, and those of the point after it. -/
def tok (t : Fin cfg0.N) (r : Fin 256) : Fin 8192 := ⟨t.val * 256 + r.val, by have := t.isLt; have e : cfg0.N = 32 := N_0; omega⟩
def next (t : Fin cfg0.N) (r : Fin 256) : Fin 8192 := ⟨min (t.val + 1) 31 * 256 + r.val, by omega⟩

theorem ix0_0 : ∀ t : Fin cfg0.N, win0_0.index t = ![t.val, 0] :=
  (by decide +kernel : ∀ t : Fin grid0.N, win0_0.index t = ![t.val, 0])
theorem ix0_1 : ∀ t : Fin cfg0.N, win0_1.index t = ![min (t.val + 1) 31, 0] :=
  (by decide +kernel : ∀ t : Fin grid0.N, win0_1.index t = ![min (t.val + 1) 31, 0])
theorem ix0_2 : ∀ t : Fin cfg0.N, win0_2.index t = ![0, 0] :=
  (by decide +kernel : ∀ t : Fin grid0.N, win0_2.index t = ![0, 0])
theorem ix0_3 : ∀ t : Fin cfg0.N, win0_3.index t = ![0, 0, 0, 0] :=
  (by decide +kernel : ∀ t : Fin grid0.N, win0_3.index t = ![0, 0, 0, 0])
theorem ix0_4 : ∀ t : Fin cfg0.N, win0_4.index t = ![0, 0, 0] :=
  (by decide +kernel : ∀ t : Fin grid0.N, win0_4.index t = ![0, 0, 0])
theorem ix0_5 : ∀ t : Fin cfg0.N, win0_5.index t = ![0, 0, t.val, 0] :=
  (by decide +kernel : ∀ t : Fin grid0.N, win0_5.index t = ![0, 0, t.val, 0])
theorem ix0_6 : ∀ t : Fin cfg0.N, win0_6.index t = ![t.val, 0] :=
  (by decide +kernel : ∀ t : Fin grid0.N, win0_6.index t = ![t.val, 0])
theorem ix0_7 : ∀ t : Fin cfg0.N, win0_7.index t = ![t.val, 0] :=
  (by decide +kernel : ∀ t : Fin grid0.N, win0_7.index t = ![t.val, 0])
theorem ix0_8 : ∀ t : Fin cfg0.N, win0_8.index t = ![t.val, 0] :=
  (by decide +kernel : ∀ t : Fin grid0.N, win0_8.index t = ![t.val, 0])

/-- The arrays the call reads, as it finds them. -/
def vx : Vec Ideal S8192x1024 .f32 := V m c main_arg0
def vp : Vec Ideal S8x1024 .f32 := V m c main_v5
def vw1 : Vec Ideal S2x4x1024x704 .bf16 := V m c main_v11
def vw2 : Vec Ideal S8x352x1024 .bf16 := V m c main_v10

theorem rd0 (A : main_arg0.ty.Contents (Elt Ideal)) (t : Fin cfg0.N) (r : Fin 256) (d : Fin 1024) :
    View.read (Elt Ideal) ((cfg0.win 0).blk t).view A (ix2 r d) = A (ix2 (tok t r) d) := by
  refine congrArg A (funext fun x => Fin.ext ((Pipeline.Window.rect_emb_val (cfg0.win 0) t (ix2 r d) x rfl).trans ?_))
  rw [ix0_0 t]
  fin_cases x
  · rfl
  · show 0 * _ + d.val = d.val; omega

theorem rd1 (A : main_arg0.ty.Contents (Elt Ideal)) (t : Fin cfg0.N) (r : Fin 256) (d : Fin 1024) :
    View.read (Elt Ideal) ((cfg0.win 1).blk t).view A (ix2 r d) = A (ix2 (next t r) d) := by
  refine congrArg A (funext fun x => Fin.ext ((Pipeline.Window.rect_emb_val (cfg0.win 1) t (ix2 r d) x rfl).trans ?_))
  rw [ix0_1 t]
  fin_cases x
  · rfl
  · show 0 * _ + d.val = d.val; omega

theorem rd2 (A : main_v5.ty.Contents (Elt Ideal)) (t : Fin cfg0.N) (r : Fin 8) (d : Fin 1024) :
    View.read (Elt Ideal) ((cfg0.win 2).blk t).view A (ix2 r d) = A (ix2 r d) := by
  refine congrArg A (funext fun x => Fin.ext ((Pipeline.Window.rect_emb_val (cfg0.win 2) t (ix2 r d) x rfl).trans ?_))
  rw [ix0_2 t]
  fin_cases x
  · show 0 * _ + r.val = r.val; omega
  · show 0 * _ + d.val = d.val; omega

theorem rd3 (A : main_v11.ty.Contents (Elt Ideal)) (t : Fin cfg0.N) (a : Fin 2) (j : Fin 4) (d : Fin 1024) (k : Fin 704) :
    View.read (Elt Ideal) ((cfg0.win 3).blk t).view A (ix4 a j d k) = A (ix4 a j d k) := by
  refine congrArg A (funext fun x => Fin.ext ((Pipeline.Window.rect_emb_val (cfg0.win 3) t (ix4 a j d k) x rfl).trans ?_))
  rw [ix0_3 t]
  fin_cases x
  · show 0 * _ + a.val = a.val; omega
  · show 0 * _ + j.val = j.val; omega
  · show 0 * _ + d.val = d.val; omega
  · show 0 * _ + k.val = k.val; omega

theorem rd4 (A : main_v10.ty.Contents (Elt Ideal)) (t : Fin cfg0.N) (a : Fin 8) (r : Fin 352) (d : Fin 1024) :
    View.read (Elt Ideal) ((cfg0.win 4).blk t).view A (ix3 a r d) = A (ix3 a r d) := by
  refine congrArg A (funext fun x => Fin.ext ((Pipeline.Window.rect_emb_val (cfg0.win 4) t (ix3 a r d) x rfl).trans ?_))
  rw [ix0_4 t]
  fin_cases x
  · show 0 * _ + a.val = a.val; omega
  · show 0 * _ + r.val = r.val; omega
  · show 0 * _ + d.val = d.val; omega

theorem X0 (t : Fin cfg0.N) (r : Fin 256) (d : Fin 1024) : iblk m c 0 t (ix2 r d) = vx m c (ix2 (tok t r) d) := by
  unfold iblk vx
  exact rd0 (V m c main_arg0) t r d
theorem X1 (t : Fin cfg0.N) (r : Fin 256) (d : Fin 1024) : iblk m c 1 t (ix2 r d) = vx m c (ix2 (next t r) d) := by
  unfold iblk vx
  exact rd1 (V m c main_arg0) t r d
theorem X2 (t : Fin cfg0.N) (r : Fin 8) (d : Fin 1024) : iblk m c 2 t (ix2 r d) = vp m c (ix2 r d) := by
  unfold iblk vp
  exact rd2 (V m c main_v5) t r d
theorem X3 (t : Fin cfg0.N) (a : Fin 2) (j : Fin 4) (d : Fin 1024) (k : Fin 704) : iblk m c 3 t (ix4 a j d k) = vw1 m c (ix4 a j d k) := by
  unfold iblk vw1
  exact rd3 (V m c main_v11) t a j d k
theorem X4 (t : Fin cfg0.N) (a : Fin 8) (r : Fin 352) (d : Fin 1024) : iblk m c 4 t (ix3 a r d) = vw2 m c (ix3 a r d) := by
  unfold iblk vw2
  exact rd4 (V m c main_v10) t a r d

variable {X : FVec Ideal S8192x1024 .f32} {NG SH SC G : FVec Ideal S1024 .f32} {W1 : FVec Ideal S1024x5632 .f32} {W2 : FVec Ideal S2816x1024 .f32}

/-- The call's operand arrays are the arguments, laid out. -/
structure Ops (X : FVec Ideal S8192x1024 .f32) (NG SH SC G : FVec Ideal S1024 .f32) (W1 : FVec Ideal S1024x5632 .f32) (W2 : FVec Ideal S2816x1024 .f32) : Prop where
  hx : ∀ t d, vx m c (ix2 t d) = X (ix2 t d)
  hp : Prm NG SH SC G (vp m c)
  h3 : ∀ (j : Fin 4) d k, vw1 m c (ix4 0 j d k) = W1 (ix2 d (lo (part j k)))
  h3' : ∀ (j : Fin 4) d k, vw1 m c (ix4 1 j d k) = W1 (ix2 d (hi (part j k)))
  h4 : ∀ (a : Fin 8) (r : Fin 352) d, vw2 m c (ix3 a r d) = W2 (ix2 ⟨a.val * 352 + r.val, by omega⟩ d)

variable {m c}

section
variable (h : Ops m c X NG SH SC G W1 W2)
include h

theorem prm_of (t : Fin cfg0.N) : Prm NG SH SC G (iblk m c 2 t) where
  p0 d := (X2 m c t 0 d).trans (h.hp.p0 d)
  p1 d := (X2 m c t 1 d).trans (h.hp.p1 d)
  p2 d := (X2 m c t 2 d).trans (h.hp.p2 d)
  p3 d := (X2 m c t 3 d).trans (h.hp.p3 d)

/-- The input a point works with is that of its own tokens: computed by the first point, carried to every other. -/
theorem kin_at (t : Fin cfg0.N) (r : Fin 256) (d : Fin 1024) :
    kin m c t (ix2 r d) = val_main_v20 (F := Ideal) X NG SH SC (ix2 (tok t r) d) := by
  unfold kin
  split
  · exact kh_at (prm_of h t) (tok t) (fun r d => (X0 m c t r d).trans (h.hx _ _)) r d
  · rename_i h0
    have hN : cfg0.N = 32 := N_0
    have ht := t.isLt
    rw [o9 m c ⟨t.val - 1, by omega⟩]
    refine (khn_at (prm_of h _) (next ⟨t.val - 1, by omega⟩) (fun r d => (X1 m c _ r d).trans (h.hx _ _)) r d).trans ?_
    refine congrArg (fun s => val_main_v20 (F := Ideal) X NG SH SC (ix2 s d)) (Fin.ext ?_)
    show min (t.val - 1 + 1) 31 * 256 + r.val = t.val * 256 + r.val
    omega

theorem blk_of (t : Fin cfg0.N) : Blk X NG SH SC W1 W2 (tok t) (kin m c t) (iblk m c 3 t) (iblk m c 4 t) where
  hh := kin_at h t
  h3 j d k := (X3 m c t 0 j d k).trans (h.h3 j d k)
  h3' j d k := (X3 m c t 1 j d k).trans (h.h3' j d k)
  h4 a r d := (X4 m c t a r d).trans (h.h4 a r d)

theorem arr5 : (dats m 0 c).arrAt 5 cfg0.N = val_main_v53 (F := Ideal) X NG SH SC W1 := by
  refine (dats m 0 c).arrAt_eq_of_covers 5 _ (by decide +kernel) fun t hf y => ?_
  blk_simp
  rw [after0_5, o5]
  idx_vars y
  rw [acts_at, kg_at (blk_of h t), ku_at (blk_of h t), ← ref_act]
  refine congrArg (val_main_v53 (F := Ideal) X NG SH SC W1) (funext fun x => Fin.ext ?_)
  fin_cases x <;> blk_simp [ix0_5 t, tok] <;> rfl

theorem arr6 : (dats m 0 c).arrAt 6 cfg0.N = val_main_v54 (F := Ideal) X NG SH SC := by
  refine (dats m 0 c).arrAt_eq_of_covers 6 _ (by decide +kernel) fun t hf y => ?_
  blk_simp
  rw [after0_6, o6]
  idx_vars y
  rw [kin_at h t]
  refine congrArg (val_main_v20 (F := Ideal) X NG SH SC) (funext fun x => Fin.ext ?_)
  fin_cases x <;> blk_simp [ix0_6 t, tok] <;> rfl

theorem arr7 : (dats m 0 c).arrAt 7 cfg0.N = val_main_v55 (F := Ideal) X NG SH SC W1 W2 := by
  refine (dats m 0 c).arrAt_eq_of_covers 7 _ (by decide +kernel) fun t hf y => ?_
  blk_simp
  rw [after0_7, o7]
  idx_vars y
  rw [y_at (blk_of h t)]
  refine congrArg (val_main_v26 (F := Ideal) X NG SH SC W1 W2) (funext fun x => Fin.ext ?_)
  fin_cases x <;> blk_simp [ix0_7 t, tok] <;> rfl

theorem arr8 : (dats m 0 c).arrAt 8 cfg0.N = val_main_v32 (F := Ideal) X NG SH SC G W1 W2 := by
  refine (dats m 0 c).arrAt_eq_of_covers 8 _ (by decide +kernel) fun t hf y => ?_
  blk_simp
  rw [after0_8, o8]
  idx_vars y
  rw [xo_at (blk_of h t) (prm_of h t) (fun r d => (X0 m c t r d).trans (h.hx _ _))]
  refine congrArg (val_main_v32 (F := Ideal) X NG SH SC G W1 W2) (funext fun x => Fin.ext ?_)
  fin_cases x <;> blk_simp [ix0_8 t, tok] <;> rfl

end

end Cert.FfnFwd

end
-- ==== Proof.FfnFwdHost.lean ====
module

public import proofs.«01_k».proof.Defs
public import Idealize.ShloMosaic.Lib.Quiescent
public import Idealize.ShloMosaic.Lib.StableHlo.ReadAt
public import proofs.«01_k».proof.Proof.Gen.Reference4Ideal.Run
public import proofs.«01_k».proof.Proof.FfnFwd

@[expose] public section

noncomputable section

/-! The layer's forward pass: the operand arrays, and the claim. -/
namespace Cert.FfnFwd

open Cert.Kernel4Ideal Cert.Kernel4Ideal.Gen Idealize.ShloMosaic Idealize.ShloMosaic.Pointwise Idealize.ShloMosaic.TcCoe
open Cert.Reference4Ideal.Read Idealize.SL.Sem

variable (m : (ℓ : Loc nD τ sig) → Buf (Elt Ideal) ℓ) (c : Dev nD)

theorem vp0 (d : Fin 1024) : vp m c (ix2 0 d) = m ((c : Thread nD τ).loc main_arg1) (ix1 d) := by
  unfold vp V
  after_reads_at
  after_reads_at

theorem vp1 (d : Fin 1024) : vp m c (ix2 1 d) = m ((c : Thread nD τ).loc main_arg2) (ix1 d) := by
  unfold vp V
  after_reads_at
  after_reads_at

theorem vp2 (d : Fin 1024) : vp m c (ix2 2 d) = m ((c : Thread nD τ).loc main_arg3) (ix1 d) := by
  unfold vp V
  after_reads_at
  after_reads_at

theorem vp3 (d : Fin 1024) : vp m c (ix2 3 d) = m ((c : Thread nD τ).loc main_arg4) (ix1 d) := by
  unfold vp V
  after_reads_at
  after_reads_at

theorem vw1_at (a : Fin 2) (j : Fin 4) (d : Fin 1024) (k : Fin 704) (q : Fin 5632) (hq : q.val = a.val * 2816 + (part j k).val) :
    vw1 m c (ix4 a j d k) = m ((c : Thread nD τ).loc main_arg5) (ix2 d q) := by
  unfold vw1 V
  after_reads_at
  refine congrArg (fun q => m ((c : Thread nD τ).loc main_arg5) (ix2 d q)) (Fin.ext ?_)
  rw [hq]
  show _ = a.val * 2816 + (j.val * 704 + k.val)
  simp; omega

theorem vw2_at (a : Fin 8) (r : Fin 352) (d : Fin 1024) :
    vw2 m c (ix3 a r d) = m ((c : Thread nD τ).loc main_arg6) (ix2 ⟨a.val * 352 + r.val, by omega⟩ d) := by
  unfold vw2 V
  after_reads_at

theorem ops_of : Ops m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) where
  hx t d := congrFun (V_main_arg0 m c) (ix2 t d)
  hp := ⟨vp0 m c, vp1 m c, vp2 m c, vp3 m c⟩
  h3 j d k := vw1_at m c 0 j d k _ (by show _ = 0 * 2816 + _; simp [Cert.Ffn.lo])
  h3' j d k := vw1_at m c 1 j d k _ (by show _ = 1 * 2816 + _; simp [Cert.Ffn.hi])
  h4 := vw2_at m c

/-- An argument that no window stages is as it was. -/
theorem kept (b : Ref sig .tc) (hb : b ∈ Pipeline.restRefs sig spec0) (e : V m c b = m ((c : Thread nD τ).loc b))
    (r : PUnit × MemSt nD τ sig (Elt Ideal)) (h : Pipeline.FramePost cfgs (dats m) 0 (V m) r) :
    r.2.mem ((c : Thread nD τ).loc b) = m ((c : Thread nD τ).loc b) :=
  ((h c).2 b hb).trans e

/-- The reference ends with its arguments unchanged and, as it has none, every counter at zero. -/
theorem frame_ref : Cert.quiescent_Reference4Ideal (hReference4Ideal := Cert.Reference4Ideal.Gen.facts) := fun m ρ _ =>
  (θ_run _ _ _).mono (fun r h => ⟨fun c => (h c).2.2.2.2, sem_eq_zero_of_no_sems rfl r.2⟩) (Cert.Reference4Ideal.Value.run m ρ)

/-- The algebraic claim of the forward pass. -/
theorem algebraic : Cert.algebraic_Kernel4Ideal_Reference4Ideal (hKernel4Ideal := Cert.Kernel4Ideal.Gen.facts)
    (hReference4Ideal := Cert.Reference4Ideal.Gen.facts) := by
  intro m g m' g' _ ha
  refine ⟨fun c => (dats m 0 c).arrAt 5 cfg0.N, fun c => (dats m 0 c).arrAt 6 cfg0.N, fun c => (dats m 0 c).arrAt 7 cfg0.N,
    fun c => (dats m 0 c).arrAt 8 cfg0.N,
    (θ_run _ _ _).mono (fun r h c => ⟨(h c).1 5, (h c).1 6, (h c).1 7, (h c).1 8,
      ((h c).1 1).trans (((dats m 0 c).arrAt_in 1 rfl _).trans ((A_eq m c 1).trans (V_main_arg0 m c))),
      kept m c main_arg1 (Pipeline.mem_restRefs_of main_arg1 (by decide) (by decide)) (V_main_arg1 m c) r h,
      kept m c main_arg2 (Pipeline.mem_restRefs_of main_arg2 (by decide) (by decide)) (V_main_arg2 m c) r h,
      kept m c main_arg3 (Pipeline.mem_restRefs_of main_arg3 (by decide) (by decide)) (V_main_arg3 m c) r h,
      kept m c main_arg4 (Pipeline.mem_restRefs_of main_arg4 (by decide) (by decide)) (V_main_arg4 m c) r h,
      kept m c main_arg5 (Pipeline.mem_restRefs_of main_arg5 (by decide) (by decide)) (V_main_arg5 m c) r h,
      kept m c main_arg6 (Pipeline.mem_restRefs_of main_arg6 (by decide) (by decide)) (V_main_arg6 m c) r h⟩) (run_main m g),
    (θ_run _ _ _).mono (fun r h c => ?_) (Cert.Reference4Ideal.Value.run m' g')⟩
  obtain ⟨a0, a1, a2, a3, a4, a5, a6⟩ := ha c
  obtain ⟨r0, r1, r2, r3, rest⟩ := h c
  rw [val_main_v53_eq, a0, a1, a2, a3, a5] at r0
  rw [val_main_v54_eq, a0, a1, a2, a3] at r1
  rw [val_main_v55_eq, a0, a1, a2, a3, a5, a6] at r2
  rw [val_main_v32_eq, a0, a1, a2, a3, a4, a5, a6] at r3
  exact ⟨r0.trans (arr5 (ops_of m c)).symm, r1.trans (arr6 (ops_of m c)).symm, r2.trans (arr7 (ops_of m c)).symm,
    r3.trans (arr8 (ops_of m c)).symm, rest⟩

end Cert.FfnFwd

end
-- ==== Proof.GradWin.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Gen.Kernel5Ideal.Value
public import proofs.«01_k».proof.Proof.Gen.Reference5Ideal.Run
public import proofs.«01_k».proof.Proof.Gen.Reference5Ideal.Read
public import proofs.«01_k».proof.Proof.GradW2Host

@[expose] public section

set_option maxRecDepth 16384

noncomputable section

/-! The gradient of the mixer's input matrix. -/
namespace Cert.GradWin

open Cert.Kernel5Ideal Cert.Kernel5Ideal.Gen Idealize.ShloMosaic Idealize.ShloMosaic.Pointwise Idealize.ShloMosaic.TcCoe
open Cert.Reference5Ideal.Read Idealize.SL.Sem

variable (m : (ℓ : Loc nD τ sig) → Buf (Elt Ideal) ℓ) (c : Dev nD)

/-- The two row halves a grid point stores, over an accumulator that held `st`. -/
def halves (st : Vec Ideal S1024x1536 .f32) (x0 : Vec Ideal S4096x1024 .bf16) (x1 : Vec Ideal S4096x1536 .bf16) : List (View.Piece (Elt Ideal) S1024x1536 .f32) :=
  [⟨Rect.unit ![512,0] ![512,1536] inb_S1024x1536_S512x1536_512_0, k0_pay3 (View.ld st (Rect.unit ![512,0] ![512,1536] inb_S1024x1536_S512x1536_512_0))
      (View.ld x0 (Rect.unit ![0,512] ![4096,512] inb_S4096x1024_S4096x512_0_512)) x1⟩,
    ⟨Rect.unit ![0,0] ![512,1536] inb_S1024x1536_S512x1536_0_0, k0_pay2 (View.ld st (Rect.unit ![0,0] ![512,1536] inb_S1024x1536_S512x1536_0_0))
      (View.ld x0 (Rect.unit ![0,0] ![4096,512] inb_S4096x1024_S4096x512_0_0)) x1⟩]

/-- The four column parts of the result's block that are stored from an accumulator that holds `A`. -/
def four (A : Vec Ideal S1024x1536 .f32) : List (View.Piece (Elt Ideal) S4x1024x384 .bf16) :=
  [⟨Rect.unit ![3,0,0] ![1,1024,384] inb_S4x1024x384_S1x1024x384_3_0_0, k0_pay7 (View.ld A (Rect.unit ![0,1152] ![1024,384] inb_S1024x1536_S1024x384_0_1152))⟩,
    ⟨Rect.unit ![2,0,0] ![1,1024,384] inb_S4x1024x384_S1x1024x384_2_0_0, k0_pay6 (View.ld A (Rect.unit ![0,768] ![1024,384] inb_S1024x1536_S1024x384_0_768))⟩,
    ⟨Rect.unit ![1,0,0] ![1,1024,384] inb_S4x1024x384_S1x1024x384_1_0_0, k0_pay5 (View.ld A (Rect.unit ![0,384] ![1024,384] inb_S1024x1536_S1024x384_0_384))⟩,
    ⟨Rect.unit ![0,0,0] ![1,1024,384] inb_S4x1024x384_S1x1024x384_0_0_0, k0_pay4 (View.ld A (Rect.unit ![0,0] ![1024,384] inb_S1024x1536_S1024x384_0_0))⟩]

/-- The accumulator after the first of the two points. -/
theorem sA (t : Fin cfg0.N) (h0 : t.val % 2 = 0) (h1 : ¬ t.val % 2 = 1) : (outsAt0 m c t.val t.isLt).2
    = View.canon (halves (k0_pay1 (F := Ideal)) (iblk m c 0 t) (iblk m c 1 t) ++ [⟨Rect.unit ![0,0] ![1024,1536] inb_S1024x1536_S1024x1536_0_0, k0_pay1 (F := Ideal)⟩]) := by
  rw [outsAt0_A m c t h0 h1]
  frame_open
  simp (disch := decide) only [↓ View.readCov_skip, ↓ View.readCov_cons_toLoadRect, ↓ View.readCov_fill]
  frame_out
  rfl

/-- The result's block after the second point. -/
theorem oB (t : Fin cfg0.N) (h0 : ¬ t.val % 2 = 0) (h1 : t.val % 2 = 1) : (outsAt0 m c t.val t.isLt).1
    = View.canon (four (View.canon (halves (outsAt0 m c (t.val - 1) (by omega)).2 (iblk m c 0 t) (iblk m c 1 t)))) := by
  rw [outsAt0_B m c t h0 h1]
  frame_open
  simp (disch := decide) only [↓ View.readCov_skip, ↓ View.readCov_cons_toLoadRect, ↓ View.readCov_fill]
  frame_out
  simp only [View.readCov_eq_canon', (Memref.isWhole_whole cc0_scratch0).read_unread]
  rfl

/-- The part of the columns is a row of the result's leading axis. -/
def split (A : Vec Ideal S1024x1536 .f32) (q : Fin 4) (r : Fin 1024) (d : Fin 384) : EReal := A (ix2 r ⟨q.val * 384 + d.val, by omega⟩)

theorem four_at (A : Vec Ideal S1024x1536 .f32) (y : S4x1024x384.Idx) : View.canon (four A) y = split A (y 0) (y 1) (y 2) := by
  unfold four
  canon_tiles x h
  all_goals
    idx_vars x
    obtain rfl : x0 = 0 := Subsingleton.elim _ _
    pointwise [k0_pay4, k0_pay5, k0_pay6, k0_pay7]
    refine congrArg A (funext fun a => Fin.ext ?_)
    fin_cases a
    · simp_all
    · simp_all

theorem four_ix (A : Vec Ideal S1024x1536 .f32) (q : Fin 4) (r : Fin 1024) (d : Fin 384) :
    View.canon (four A) (ix3 q r d) = A (ix2 r ⟨q.val * 384 + d.val, by omega⟩) := four_at A (ix3 q r d)

/-- One point's product. -/
def part (x0 : Vec Ideal S4096x1024 .bf16) (x1 : Vec Ideal S4096x1536 .bf16) (r : Fin 1024) (d : Fin 1536) : EReal := ∑ k : Fin 4096, x0 (ix2 k r) * x1 (ix2 k d)

theorem halves_at (st : Vec Ideal S1024x1536 .f32) (x0 : Vec Ideal S4096x1024 .bf16) (x1 : Vec Ideal S4096x1536 .bf16)
    (L : List (View.Piece (Elt Ideal) S1024x1536 .f32)) (r : Fin 1024) (d : Fin 1536) :
    View.canon (halves st x0 x1 ++ L) (ix2 r d) = st (ix2 r d) + part x0 x1 r d := by
  rw [← View.read_writes_junk_eq_canon (View.whole cc0_scratch0)]
  unfold halves part
  simp only [List.cons_append, List.nil_append]
  by_cases h : 512 ≤ r.val
  · rw [View.read_writes_cons_hit_of_coords (x := ix2 (⟨r.val - 512, by omega⟩ : Fin 512) d) (hx := fun a => by fin_cases a <;> simp; omega)]
    pointwise [k0_pay3]
    have e : (⟨512 + (r.val - 512), by omega⟩ : Fin 1024) = r := Fin.ext (by show 512 + (r.val - 512) = r.val; omega)
    simp only [e]
  · rw [View.read_writes_cons_miss_of_axis _ _ _ _ _ 0 512 512 rfl rfl rfl (Or.inl (by show r.val < 512; omega)),
      View.read_writes_cons_hit_of_coords (x := ix2 (⟨r.val, by omega⟩ : Fin 512) d) (hx := fun a => by fin_cases a <;> simp)]
    pointwise [k0_pay2]

theorem pay1_zero (i : S1024x1536.Idx) : k0_pay1 (F := Ideal) i = 0 := by pointwise [k0_pay1]

theorem at_A (t : Fin cfg0.N) (h0 : t.val % 2 = 0) (r : Fin 1024) (d : Fin 1536) :
    (outsAt0 m c t.val t.isLt).2 (ix2 r d) = part (iblk m c 0 t) (iblk m c 1 t) r d := by
  rw [sA m c t h0 (by omega), halves_at, pay1_zero, zero_add]

theorem at_B (t s : Fin cfg0.N) (h1 : t.val % 2 = 1) (hs : s.val = t.val - 1) (q : Fin 4) (r : Fin 1024) (d : Fin 384) :
    (outsAt0 m c t.val t.isLt).1 (ix3 q r d) = part (iblk m c 0 s) (iblk m c 1 s) r ⟨q.val * 384 + d.val, by omega⟩
      + part (iblk m c 0 t) (iblk m c 1 t) r ⟨q.val * 384 + d.val, by omega⟩ := by
  have e : (outsAt0 m c (t.val - 1) (by omega)).2 = (outsAt0 m c s.val s.isLt).2 := by congr 1; congr 1; exact hs.symm
  rw [oB m c t (by omega) h1, e, four_ix]
  have h := halves_at (outsAt0 m c s.val s.isLt).2 (iblk m c 0 t) (iblk m c 1 t) [] r ⟨q.val * 384 + d.val, by omega⟩
  rw [List.append_nil] at h
  rw [h, at_A m c s (by omega)]

/-- The tokens of grid point `t`. -/
def tok (t : Fin cfg0.N) (k : Fin 4096) : Fin 8192 := ⟨t.val % 2 * 4096 + k.val, by omega⟩

/-- The columns of the matrix that part `q` of grid point `t` holds. -/
def col (t : Fin cfg0.N) (d : Fin 1536) : Fin 3072 := ⟨t.val / 2 * 1536 + d.val, by have := t.isLt; have e : cfg0.N = 4 := N_0; omega⟩

theorem ix0_0 : ∀ t : Fin cfg0.N, win0_0.index t = ![t.val % 2, 0] :=
  (by decide +kernel : ∀ t : Fin grid0.N, win0_0.index t = ![t.val % 2, 0])
theorem ix0_1 : ∀ t : Fin cfg0.N, win0_1.index t = ![t.val % 2, t.val / 2] :=
  (by decide +kernel : ∀ t : Fin grid0.N, win0_1.index t = ![t.val % 2, t.val / 2])
theorem ix0_2 : ∀ t : Fin cfg0.N, win0_2.index t = ![t.val / 2, 0, 0] :=
  (by decide +kernel : ∀ t : Fin grid0.N, win0_2.index t = ![t.val / 2, 0, 0])

/-- The mixer's normalised input, and the gradient at the product, as the call finds them. -/
def hin : Vec Ideal S8192x1024 .bf16 := V m c main_v22
def gp : Vec Ideal S8192x3072 .bf16 := V m c main_v23

theorem X0 (t : Fin cfg0.N) (k : Fin 4096) (r : Fin 1024) : iblk m c 0 t (ix2 k r) = hin m c (ix2 (tok t k) r) := by
  show V m c main_v22 (((cfg0.win 0).blk t).view.emb (ix2 k r)) = _
  unfold hin
  generalize V m c main_v22 = A
  blk_ext [ix0_0 t, tok]

theorem X1 (t : Fin cfg0.N) (k : Fin 4096) (d : Fin 1536) : iblk m c 1 t (ix2 k d) = gp m c (ix2 (tok t k) (col t d)) := by
  show V m c main_v23 (((cfg0.win 1).blk t).view.emb (ix2 k d)) = _
  unfold gp
  generalize V m c main_v23 = A
  blk_ext [ix0_1 t, tok, col]

/-- The result of the call is, at every index, the sum over all tokens. -/
theorem arr2 : (dats m 0 c).arrAt 2 cfg0.N = fun i : S8x1024x384.Idx =>
    ∑ t : Fin 8192, hin m c (ix2 t (i 1)) * gp m c (ix2 t (⟨(i 0).val * 384 + (i 2).val, by have := (i 0).isLt; have := (i 2).isLt; simp at *; omega⟩ : Fin 3072)) := by
  refine (dats m 0 c).arrAt_eq_of_covers 2 _ (by decide +kernel) fun t hf y => ?_
  have h1 := (flush0_2 t).mp hf
  have hN : cfg0.N = 4 := N_0
  have ht := t.isLt
  blk_simp
  rw [after0_2]
  idx_vars y
  rw [at_B m c t ⟨t.val - 1, by omega⟩ h1 rfl]
  unfold part
  simp only [X0, X1]
  have e1 : (((cfg0.win 2).blk t).view.emb (ix3 y0 y1 y2) 1).val = y1.val := by blk_simp [ix0_2 t]
  generalize hin m c = A
  generalize gp m c = B
  have eb : (((cfg0.win 2).blk t).view.emb (ix3 y0 y1 y2) 1) = y1 := Fin.ext e1
  have ed : col ⟨t.val - 1, by omega⟩ = col t := funext fun d => Fin.ext (by show (t.val - 1) / 2 * 1536 + d.val = t.val / 2 * 1536 + d.val; omega)
  rw [ed]
  refine (Cert.GradW2.sum_halves (fun s => A (ix2 s y1) * B (ix2 s (col t ⟨y0.val * 384 + y2.val, by omega⟩))) _ _ (fun k => ?_) (fun k => ?_)).trans ?_
  · show (t.val - 1) % 2 * 4096 + k.val = k.val; omega
  · show t.val % 2 * 4096 + k.val = 4096 + k.val; omega
  · rw [eb]
    refine Finset.sum_congr rfl fun s _ => congrArg (_ * ·) (congrArg B (congrArg (ix2 s) (Fin.ext ?_)))
    have i0 : win0_2.index t 0 = t.val / 2 := by rw [ix0_2 t]; rfl
    have i2 : win0_2.index t 2 = 0 := by rw [ix0_2 t]; rfl
    show t.val / 2 * 1536 + (y0.val * 384 + y2.val) = (win0_2.index t 0 * 4 + y0.val) * 384 + (win0_2.index t 2 * 384 + y2.val)
    rw [i0, i2]
    omega

/-- The mixer's normalised input, by the reference's lines. -/
abbrev input : FVec Ideal S8192x1024 .f32 :=
  val_main_v20 (F := Ideal) (m ((c : Thread nD τ).loc main_arg0)) (m ((c : Thread nD τ).loc main_arg1)) (m ((c : Thread nD τ).loc main_arg2))
    (m ((c : Thread nD τ).loc main_arg3))

theorem hin_eq : hin m c = truncf .bf16 (input m c) bitsLt_bf16_f32 := by
  unfold hin V
  after_reads_simp
  rfl

theorem hin_at (t : Fin 8192) (d : Fin 1024) : hin m c (ix2 t d) = input m c (ix2 t d) := by
  rw [hin_eq]
  generalize input m c = w
  pointwise

theorem gp_at (t : Fin 8192) (d : Fin 3072) : gp m c (ix2 t d) = m ((c : Thread nD τ).loc main_arg5) (ix2 t d) := by
  unfold gp V
  after_reads_at

/-- The reference's result, at every index, is the same sum with its factors exchanged. -/
theorem ref_at (x0 : FVec Ideal S8192x1024 .f32) (x1 x2 x3 : FVec Ideal S1024 .f32) (x5 : FVec Ideal S8192x3072 .f32)
    (p : Fin 8) (r : Fin 1024) (d : Fin 384) : val_main_v26 (F := Ideal) x0 x1 x2 x3 x5 (ix3 p r d)
      = ∑ t : Fin 8192, x5 (ix2 t ⟨p.val * 384 + d.val, by omega⟩) * val_main_v20 (F := Ideal) x0 x1 x2 x3 (ix2 t r) := by
  unfold val_main_v26 val_main_v25 val_main_v24 val_main_v23 val_main_v22
  generalize val_main_v20 (F := Ideal) x0 x1 x2 x3 = w
  pointwise

/-- The reference ends with its arguments unchanged and, as it has none, every counter at zero. -/
theorem frame_ref : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run m ρ)

/-- The algebraic claim of the input matrix's gradient. -/
theorem algebraic : Cert.algebraic_Kernel5Ideal_Reference5Ideal (hKernel5Ideal := Cert.Kernel5Ideal.Gen.facts)
    (hReference5Ideal := Cert.Reference5Ideal.Gen.facts) := by
  intro m g m' g' _ ha
  refine ⟨fun c => (dats m 0 c).arrAt 2 cfg0.N, Cert.Kernel5Ideal.Value.run_blocks m g,
    (θ_run _ _ _).mono (fun r h c => ?_) (Cert.Reference5Ideal.Value.run m' g')⟩
  obtain ⟨a0, a1, a2, a3, a4, a5⟩ := ha c
  obtain ⟨r0, rest⟩ := h c
  refine ⟨r0.trans ?_, rest⟩
  rw [val_main_v26_eq, a0, a1, a2, a3, a5]
  refine Eq.trans ?_ (arr2 m c).symm
  refine Cert.GradW2.ext3 fun p r d => (ref_at _ _ _ _ _ p r d).trans (Finset.sum_congr rfl fun t _ => ?_)
  show _ = hin m c (ix2 t r) * gp m c (ix2 t (⟨p.val * 384 + d.val, by omega⟩ : Fin 3072))
  rw [gp_at, hin_at, mul_comm]

end Cert.GradWin

end
-- ==== Proof.GradWout.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Gen.Kernel6Ideal.Value
public import proofs.«01_k».proof.Proof.Gen.Reference6Ideal.Run
public import proofs.«01_k».proof.Proof.Gen.Reference6Ideal.Read
public import proofs.«01_k».proof.Proof.GradW2

@[expose] public section

set_option maxRecDepth 16384

noncomputable section

/-! The gradient of the mixer's output matrix. -/
namespace Cert.GradWout

open Cert.Kernel6Ideal Cert.Kernel6Ideal.Gen Idealize.ShloMosaic Idealize.ShloMosaic.Pointwise Idealize.ShloMosaic.TcCoe
open Cert.Reference6Ideal.Read Idealize.SL.Sem

variable (m : (ℓ : Loc nD τ sig) → Buf (Elt Ideal) ℓ) (c : Dev nD)

/-- The two row halves a grid point stores, over an accumulator that held `st`. -/
def halves (st : Vec Ideal S1024x1024 .f32) (x0 x1 : Vec Ideal S4096x1024 .bf16) : List (View.Piece (Elt Ideal) S1024x1024 .f32) :=
  [⟨Rect.unit ![512,0] ![512,1024] inb_S1024x1024_S512x1024_512_0, k0_pay3 (View.ld st (Rect.unit ![512,0] ![512,1024] inb_S1024x1024_S512x1024_512_0))
      (View.ld x0 (Rect.unit ![0,512] ![4096,512] inb_S4096x1024_S4096x512_0_512)) x1⟩,
    ⟨Rect.unit ![0,0] ![512,1024] inb_S1024x1024_S512x1024_0_0, k0_pay2 (View.ld st (Rect.unit ![0,0] ![512,1024] inb_S1024x1024_S512x1024_0_0))
      (View.ld x0 (Rect.unit ![0,0] ![4096,512] inb_S4096x1024_S4096x512_0_0)) x1⟩]

/-- The accumulator after the first of the two points. -/
theorem sA (t : Fin cfg0.N) (h0 : t.val % 2 = 0) (h1 : ¬ t.val % 2 = 1) : (outsAt0 m c t.val t.isLt).2
    = View.canon (halves (k0_pay1 (F := Ideal)) (iblk m c 0 t) (iblk m c 1 t) ++ [⟨Rect.unit ![0,0] ![1024,1024] inb_S1024x1024_S1024x1024_0_0, k0_pay1 (F := Ideal)⟩]) := by
  rw [outsAt0_A m c t h0 h1]
  frame_open
  simp (disch := decide) only [↓ View.readCov_skip, ↓ View.readCov_cons_toLoadRect, ↓ View.readCov_fill]
  frame_out
  rfl

/-- The result's block after the second point. -/
theorem oB (t : Fin cfg0.N) (h0 : ¬ t.val % 2 = 0) (h1 : t.val % 2 = 1) : (outsAt0 m c t.val t.isLt).1
    = k0_pay4 (F := Ideal) (View.canon (halves (outsAt0 m c (t.val - 1) (by omega)).2 (iblk m c 0 t) (iblk m c 1 t))) := by
  rw [outsAt0_B m c t h0 h1]
  frame_open
  simp (disch := decide) only [↓ View.readCov_skip, ↓ View.readCov_cons_toLoadRect, ↓ View.readCov_fill]
  frame_out
  rw [View.readCov_eq_canon', (Memref.isWhole_whole cc0_scratch0).read_unread]
  unfold halves
  refine congrArg k0_pay4 (funext fun j => congrArg _ (funext fun a => Fin.ext ?_))
  fin_cases a <;> simp

/-- One point's product. -/
def part (x0 x1 : Vec Ideal S4096x1024 .bf16) (r d : Fin 1024) : EReal := ∑ k : Fin 4096, x0 (ix2 k r) * x1 (ix2 k d)

theorem halves_at (st : Vec Ideal S1024x1024 .f32) (x0 x1 : Vec Ideal S4096x1024 .bf16)
    (L : List (View.Piece (Elt Ideal) S1024x1024 .f32)) (r d : Fin 1024) :
    View.canon (halves st x0 x1 ++ L) (ix2 r d) = st (ix2 r d) + part x0 x1 r d := by
  rw [← View.read_writes_junk_eq_canon (View.whole cc0_scratch0)]
  unfold halves part
  simp only [List.cons_append, List.nil_append]
  by_cases h : 512 ≤ r.val
  · rw [View.read_writes_cons_hit_of_coords (x := ix2 (⟨r.val - 512, by omega⟩ : Fin 512) d) (hx := fun a => by fin_cases a <;> simp; omega)]
    pointwise [k0_pay3]
    have e : (⟨512 + (r.val - 512), by omega⟩ : Fin 1024) = r := Fin.ext (by show 512 + (r.val - 512) = r.val; omega)
    simp only [e]
  · rw [View.read_writes_cons_miss_of_axis _ _ _ _ _ 0 512 512 rfl rfl rfl (Or.inl (by show r.val < 512; omega)),
      View.read_writes_cons_hit_of_coords (x := ix2 (⟨r.val, by omega⟩ : Fin 512) d) (hx := fun a => by fin_cases a <;> simp)]
    pointwise [k0_pay2]

theorem pay1_zero (i : S1024x1024.Idx) : k0_pay1 (F := Ideal) i = 0 := by pointwise [k0_pay1]

theorem at_A (t : Fin cfg0.N) (h0 : t.val % 2 = 0) (r d : Fin 1024) :
    (outsAt0 m c t.val t.isLt).2 (ix2 r d) = part (iblk m c 0 t) (iblk m c 1 t) r d := by
  rw [sA m c t h0 (by omega), halves_at, pay1_zero, zero_add]

theorem at_B (t s : Fin cfg0.N) (h1 : t.val % 2 = 1) (hs : s.val = t.val - 1) (r d : Fin 1024) :
    (outsAt0 m c t.val t.isLt).1 (ix2 r d)
      = part (iblk m c 0 s) (iblk m c 1 s) r d + part (iblk m c 0 t) (iblk m c 1 t) r d := by
  have e : (outsAt0 m c (t.val - 1) (by omega)).2 = (outsAt0 m c s.val s.isLt).2 := by congr 1; congr 1; exact hs.symm
  rw [oB m c t (by omega) h1, e]
  pointwise [k0_pay4]
  have h := halves_at (outsAt0 m c s.val s.isLt).2 (iblk m c 0 t) (iblk m c 1 t) [] r d
  rw [List.append_nil] at h
  rw [h, at_A m c s (by omega)]

/-- The tokens of grid point `t`. -/
def tok (t : Fin cfg0.N) (k : Fin 4096) : Fin 8192 := ⟨t.val % 2 * 4096 + k.val, by omega⟩

theorem ix0_0 : ∀ t : Fin cfg0.N, win0_0.index t = ![t.val % 2, 0] :=
  (by decide +kernel : ∀ t : Fin grid0.N, win0_0.index t = ![t.val % 2, 0])
theorem ix0_1 : ∀ t : Fin cfg0.N, win0_1.index t = ![t.val % 2, 0] :=
  (by decide +kernel : ∀ t : Fin grid0.N, win0_1.index t = ![t.val % 2, 0])
theorem ix0_2 : ∀ t : Fin cfg0.N, win0_2.index t = ![0, 0] :=
  (by decide +kernel : ∀ t : Fin grid0.N, win0_2.index t = ![0, 0])

/-- What the output matrix multiplies, and the gradient at the product, as the call finds them. -/
def cat : Vec Ideal S8192x1024 .bf16 := V m c main_v1
def gy : Vec Ideal S8192x1024 .bf16 := V m c main_v2

theorem X0 (t : Fin cfg0.N) (k : Fin 4096) (r : Fin 1024) : iblk m c 0 t (ix2 k r) = cat m c (ix2 (tok t k) r) := by
  show V m c main_v1 (((cfg0.win 0).blk t).view.emb (ix2 k r)) = _
  unfold cat
  generalize V m c main_v1 = A
  blk_ext [ix0_0 t, tok]

theorem X1 (t : Fin cfg0.N) (k : Fin 4096) (d : Fin 1024) : iblk m c 1 t (ix2 k d) = gy m c (ix2 (tok t k) d) := by
  show V m c main_v2 (((cfg0.win 1).blk t).view.emb (ix2 k d)) = _
  unfold gy
  generalize V m c main_v2 = A
  blk_ext [ix0_1 t, tok]

/-- The result of the call is, at every index, the sum over all tokens. -/
theorem arr2 : (dats m 0 c).arrAt 2 cfg0.N = fun i : S1024x1024.Idx =>
    ∑ t : Fin 8192, cat m c (ix2 t (i 0)) * gy m c (ix2 t (i 1)) := by
  refine (dats m 0 c).arrAt_eq_of_covers 2 _ (by decide +kernel) fun t hf y => ?_
  have h1 := (flush0_2 t).mp hf
  have hN : cfg0.N = 2 := N_0
  have ht := t.isLt
  blk_simp
  rw [after0_2]
  idx_vars y
  rw [at_B m c t ⟨t.val - 1, by omega⟩ h1 rfl]
  unfold part
  simp only [X0, X1]
  have e0 : (((cfg0.win 2).blk t).view.emb (ix2 y0 y1) 0).val = y0.val := by blk_simp [ix0_2 t]
  have e1 : (((cfg0.win 2).blk t).view.emb (ix2 y0 y1) 1).val = y1.val := by blk_simp [ix0_2 t]
  generalize cat m c = A
  generalize gy m c = B
  have ea : (((cfg0.win 2).blk t).view.emb (ix2 y0 y1) 0) = y0 := Fin.ext e0
  have eb : (((cfg0.win 2).blk t).view.emb (ix2 y0 y1) 1) = y1 := Fin.ext e1
  refine (Cert.GradW2.sum_halves (fun s => A (ix2 s y0) * B (ix2 s y1)) _ _ (fun k => ?_) (fun k => ?_)).trans ?_
  · show (t.val - 1) % 2 * 4096 + k.val = k.val; omega
  · show t.val % 2 * 4096 + k.val = 4096 + k.val; omega
  · rw [ea, eb]

theorem cat_at (t : Fin 8192) (r : Fin 1024) : cat m c (ix2 t r) = m ((c : Thread nD τ).loc main_arg0) (ix2 t r) := by
  unfold cat V
  after_reads_at

theorem gy_at (t : Fin 8192) (d : Fin 1024) : gy m c (ix2 t d) = m ((c : Thread nD τ).loc main_arg2) (ix2 t d) := by
  unfold gy V
  after_reads_at

/-- The reference's result, at every index, is the same sum with its factors exchanged. -/
theorem ref_at (x0 x2 : FVec Ideal S8192x1024 .f32) (r d : Fin 1024) :
    val_main_v3 (F := Ideal) x0 x2 (ix2 r d) = ∑ t : Fin 8192, x2 (ix2 t d) * x0 (ix2 t r) := by
  unfold val_main_v3 val_main_v2 val_main_v1
  pointwise

/-- Two matrices with the same entries are the same. -/
theorem ext2 {n k : Nat} {α : Type} {f g : (⟨2, ![n, k]⟩ : Shape).Idx → α} (h : ∀ i j, f (ix2 i j) = g (ix2 i j)) : f = g :=
  funext fun i => (congrArg f (eq_ix2 i)).trans ((h _ _).trans (congrArg g (eq_ix2 i).symm))

/-- The reference ends with its arguments unchanged and, as it has none, every counter at zero. -/
theorem frame_ref : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run m ρ)

/-- The algebraic claim of the output matrix's gradient. -/
theorem algebraic : Cert.algebraic_Kernel6Ideal_Reference6Ideal (hKernel6Ideal := Cert.Kernel6Ideal.Gen.facts)
    (hReference6Ideal := Cert.Reference6Ideal.Gen.facts) := by
  intro m g m' g' _ ha
  refine ⟨fun c => (dats m 0 c).arrAt 2 cfg0.N, Cert.Kernel6Ideal.Value.run_blocks m g,
    (θ_run _ _ _).mono (fun r h c => ?_) (Cert.Reference6Ideal.Value.run m' g')⟩
  obtain ⟨a0, a1, a2⟩ := ha c
  obtain ⟨r0, rest⟩ := h c
  refine ⟨r0.trans ?_, rest⟩
  rw [val_main_v3_eq, a0, a2]
  refine Eq.trans ?_ (arr2 m c).symm
  refine ext2 fun r d => (ref_at _ _ r d).trans (Finset.sum_congr rfl fun t _ => ?_)
  show _ = cat m c (ix2 t r) * gy m c (ix2 t d)
  rw [cat_at, gy_at, mul_comm]

end Cert.GradWout

end
-- ==== Proof.MixerOut.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

/-! The mixer's output projection with its gate and the path around it. -/
namespace Cert.MixerOut

open Cert.Kernel7Ideal Cert.Kernel7Ideal.Gen Idealize.ShloMosaic Idealize.ShloMosaic.Pointwise Idealize.ShloMosaic.TcCoe
open Cert.Reference7Ideal.Read Idealize.SL.Sem

/-- A row of what the matrix multiplies, times a column of the matrix, which is held in 8 parts of rows. -/
def prod (x0 : Vec Ideal S512x1024 .bf16) (x3 : Vec Ideal S8x128x1024 .bf16) (r : Fin 512) (d : Fin 1024) : EReal :=
  ∑ k : Fin 1024, x0 (ix2 r k) * x3 (ix3 ⟨k.val / 128, by omega⟩ ⟨k.val % 128, by omega⟩ d)

theorem y_idx (a : Vec Ideal S512x1024 .bf16) (z : Vec Ideal S512x1024 .f32) (p : Vec Ideal S8x1024 .f32)
    (w : Vec Ideal S8x128x1024 .bf16) (y : S512x1024.Idx) : out0_5 a z p w y = prod a w (y 0) (y 1) := by
  unfold out0_5
  canon_tiles x h
  all_goals
    idx_vars x
    unfold prod
    pointwise [k0_pay3, k0_pay6, k0_pay2, k0_pay5, k0_pay1]
    obtain rfl : x1 = y 1 := Fin.ext h1.symm
    simp only [← h0]
    rfl

theorem xo_idx (a : Vec Ideal S512x1024 .bf16) (z : Vec Ideal S512x1024 .f32) (p : Vec Ideal S8x1024 .f32)
    (w : Vec Ideal S8x128x1024 .bf16) (y : S512x1024.Idx) :
    out0_4 a z p w y = z (ix2 (y 0) (y 1)) + p (ix2 3 (y 1)) * prod a w (y 0) (y 1) := by
  unfold out0_4
  canon_tiles x h
  all_goals
    idx_vars x
    unfold prod
    pointwise [k0_pay4, k0_pay7, k0_pay2, k0_pay5, k0_pay1]
    obtain rfl : x1 = y 1 := Fin.ext h1.symm
    simp only [← h0]
    exact congrArg (· + _) (congrArg z (eq_ix2 y).symm)

variable (m : (ℓ : Loc nD τ sig) → Buf (Elt Ideal) ℓ) (c : Dev nD)

/-- The tokens of grid point `t`. -/
def tok (t : Fin cfg0.N) (r : Fin 512) : Fin 8192 := ⟨t.val * 512 + r.val, by have := t.isLt; have e : cfg0.N = 16 := N_0; omega⟩

theorem ix0_0 : ∀ t : Fin cfg0.N, win0_0.index t = ![t.val, 0] :=
  (by decide +kernel : ∀ t : Fin grid0.N, win0_0.index t = ![t.val, 0])
theorem ix0_1 : ∀ t : Fin cfg0.N, win0_1.index t = ![t.val, 0] :=
  (by decide +kernel : ∀ t : Fin grid0.N, win0_1.index t = ![t.val, 0])
theorem ix0_2 : ∀ t : Fin cfg0.N, win0_2.index t = ![0, 0] :=
  (by decide +kernel : ∀ t : Fin grid0.N, win0_2.index t = ![0, 0])
theorem ix0_3 : ∀ t : Fin cfg0.N, win0_3.index t = ![0, 0, 0] :=
  (by decide +kernel : ∀ t : Fin grid0.N, win0_3.index t = ![0, 0, 0])
theorem ix0_4 : ∀ t : Fin cfg0.N, win0_4.index t = ![t.val, 0] :=
  (by decide +kernel : ∀ t : Fin grid0.N, win0_4.index t = ![t.val, 0])
theorem ix0_5 : ∀ t : Fin cfg0.N, win0_5.index t = ![t.val, 0] :=
  (by decide +kernel : ∀ t : Fin grid0.N, win0_5.index t = ![t.val, 0])

/-- The arguments the claim reads. -/
abbrev ax : FVec Ideal S8192x1024 .f32 := m ((c : Thread nD τ).loc main_arg0)
abbrev ag : FVec Ideal S1024 .f32 := m ((c : Thread nD τ).loc main_arg4)
abbrev aw : FVec Ideal S1024x1024 .f32 := m ((c : Thread nD τ).loc main_arg5)
abbrev ac : FVec Ideal S8192x1024 .f32 := m ((c : Thread nD τ).loc main_arg6)

theorem vc (t : Fin 8192) (k : Fin 1024) : V m c main_v8 (ix2 t k) = ac m c (ix2 t k) := by
  unfold V
  after_reads_at

theorem vp (d : Fin 1024) : V m c main_v5 (ix2 (3 : Fin 8) d) = ag m c (ix1 d) := by
  unfold V
  after_reads_at
  after_reads_at

theorem vw (a : Fin 8) (r : Fin 128) (d : Fin 1024) : V m c main_v7 (ix3 a r d) = aw m c (ix2 ⟨a.val * 128 + r.val, by omega⟩ d) := by
  unfold V
  after_reads_at

theorem X0 (t : Fin cfg0.N) (r : Fin 512) (k : Fin 1024) : iblk m c 0 t (ix2 r k) = ac m c (ix2 (tok t r) k) := by
  refine Eq.trans ?_ (vc m c (tok t r) k)
  show V m c main_v8 (((cfg0.win 0).blk t).view.emb (ix2 r k)) = _
  generalize V m c main_v8 = A
  blk_ext [ix0_0 t, tok]

theorem X1 (t : Fin cfg0.N) (r : Fin 512) (d : Fin 1024) : iblk m c 1 t (ix2 r d) = ax m c (ix2 (tok t r) d) := by
  refine Eq.trans ?_ (congrFun (V_main_arg0 m c) (ix2 (tok t r) d))
  show V m c main_arg0 (((cfg0.win 1).blk t).view.emb (ix2 r d)) = _
  generalize V m c main_arg0 = A
  blk_ext [ix0_1 t, tok]

theorem X2 (t : Fin cfg0.N) (d : Fin 1024) : iblk m c 2 t (ix2 3 d) = ag m c (ix1 d) := by
  refine Eq.trans ?_ (vp m c d)
  show V m c main_v5 (((cfg0.win 2).blk t).view.emb (ix2 3 d)) = _
  generalize V m c main_v5 = A
  blk_ext [ix0_2 t]

theorem X3 (t : Fin cfg0.N) (a : Fin 8) (r : Fin 128) (d : Fin 1024) :
    iblk m c 3 t (ix3 a r d) = aw m c (ix2 ⟨a.val * 128 + r.val, by omega⟩ d) := by
  refine Eq.trans ?_ (vw m c a r d)
  show V m c main_v7 (((cfg0.win 3).blk t).view.emb (ix3 a r d)) = _
  generalize V m c main_v7 = A
  blk_ext [ix0_3 t]

/-- The reference's product, and its result, at an index. -/
theorem ref_y (x5 : FVec Ideal S1024x1024 .f32) (x6 : FVec Ideal S8192x1024 .f32) (t : Fin 8192) (d : Fin 1024) :
    val_main_v5 (F := Ideal) x5 x6 (ix2 t d) = ∑ k : Fin 1024, x6 (ix2 t k) * x5 (ix2 k d) := by
  unfold val_main_v5 val_main_v0
  pointwise

theorem ref_xo (x0 : FVec Ideal S8192x1024 .f32) (x4 : FVec Ideal S1024 .f32) (x5 : FVec Ideal S1024x1024 .f32)
    (x6 : FVec Ideal S8192x1024 .f32) (t : Fin 8192) (d : Fin 1024) :
    val_main_v4 (F := Ideal) x0 x4 x5 x6 (ix2 t d) = x0 (ix2 t d) + x4 (ix1 d) * ∑ k : Fin 1024, x6 (ix2 t k) * x5 (ix2 k d) := by
  unfold val_main_v4 val_main_v3 val_main_v2 val_main_v1 val_main_v0
  pointwise

/-- The product of a grid point's rows is the reference's product at its tokens. -/
theorem prod_at (t : Fin cfg0.N) (r : Fin 512) (d : Fin 1024) :
    prod (iblk m c 0 t) (iblk m c 3 t) r d = ∑ k : Fin 1024, ac m c (ix2 (tok t r) k) * aw m c (ix2 k d) := by
  unfold prod
  refine Finset.sum_congr rfl fun k _ => ?_
  rw [X0, X3]
  exact congrArg (_ * ·) (congrArg (fun q => aw m c (ix2 q d)) (Fin.ext (by show k.val / 128 * 128 + k.val % 128 = k.val; omega)))

theorem arr5 : (dats m 0 c).arrAt 5 cfg0.N = val_main_v5 (F := Ideal) (aw m c) (ac m c) := by
  refine (dats m 0 c).arrAt_eq_of_covers 5 _ (by decide +kernel) fun t hf y => ?_
  blk_simp
  rw [after0_5, y_idx]
  idx_vars y
  refine (prod_at m c t y0 y1).trans ((ref_y _ _ (tok t y0) y1).symm.trans ?_)
  refine congrArg (val_main_v5 (F := Ideal) (aw m c) (ac m c)) (funext fun x => Fin.ext ?_)
  fin_cases x <;> blk_simp [ix0_5 t, tok] <;> rfl

theorem arr4 : (dats m 0 c).arrAt 4 cfg0.N = val_main_v4 (F := Ideal) (ax m c) (ag m c) (aw m c) (ac m c) := by
  refine (dats m 0 c).arrAt_eq_of_covers 4 _ (by decide +kernel) fun t hf y => ?_
  blk_simp
  rw [after0_4, xo_idx]
  idx_vars y
  refine Eq.trans (congrArg₂ (· + ·) (X1 m c t y0 y1) (congrArg₂ (· * ·) (X2 m c t y1) (prod_at m c t y0 y1))) ((ref_xo _ _ _ _ (tok t y0) y1).symm.trans ?_)
  refine congrArg (val_main_v4 (F := Ideal) (ax m c) (ag m c) (aw m c) (ac m c)) (funext fun x => Fin.ext ?_)
  fin_cases x <;> blk_simp [ix0_4 t, tok] <;> rfl

/-- The reference ends with its arguments unchanged and, as it has none, every counter at zero. -/
theorem frame_ref : Cert.quiescent_Reference7Ideal (hReference7Ideal := Cert.Reference7Ideal.Gen.facts) := fun m ρ _ =>
  (θ_run _ _ _).mono (fun r h => ⟨fun c => (h c).2.2, sem_eq_zero_of_no_sems rfl r.2⟩) (Cert.Reference7Ideal.Value.run m ρ)

/-- The algebraic claim of the output projection. -/
theorem algebraic : Cert.algebraic_Kernel7Ideal_Reference7Ideal (hKernel7Ideal := Cert.Kernel7Ideal.Gen.facts)
    (hReference7Ideal := Cert.Reference7Ideal.Gen.facts) := by
  intro m g m' g' _ ha
  refine ⟨fun c => (dats m 0 c).arrAt 4 cfg0.N, fun c => (dats m 0 c).arrAt 5 cfg0.N, Cert.Kernel7Ideal.Value.run_blocks m g,
    (θ_run _ _ _).mono (fun r h c => ?_) (Cert.Reference7Ideal.Value.run m' g')⟩
  obtain ⟨a0, a1, a2, a3, a4, a5, a6⟩ := ha c
  obtain ⟨r0, r1, rest⟩ := h c
  rw [val_main_v4_eq, a0, a4, a5, a6] at r0
  rw [val_main_v5_eq, a5, a6] at r1
  exact ⟨r0.trans (arr4 m c).symm, r1.trans (arr5 m c).symm, rest⟩

end Cert.MixerOut

end
-- ==== Proof.MixerBwdRef.lean ====
module

public import Idealize.ShloMosaic.Lib.Pipeline.ValueKit
public import Idealize.ShloMosaic.Lib.Pipeline.ReadBack
public import Idealize.ShloMosaic.Lib.KernelVsHost
public import proofs.«01_k».proof.Proof.Gen.Reference8Ideal.Read

@[expose] public section

set_option maxRecDepth 16384

noncomputable section

/-! The backward of the mixer's output projection, gate and short convolution: the functions of the arguments that
the claim is about, and the reference's results in them. -/
namespace Cert.MixerBwd

open Cert.Reference8Ideal Cert.Reference8Ideal.Gen Cert.Reference8Ideal.Read Idealize.ShloMosaic Idealize.ShloMosaic.Pointwise Idealize.ShloMosaic.TcCoe

/-- The arrays the claim reads: the gradient reaching the mixer, the gate, the output matrix, the attention's result,
the projection, and the convolution's weight and bias. -/
structure Args where
  x : FVec Ideal S8192x1024 .f32
  gate : FVec Ideal S1024 .f32
  wo : FVec Ideal S1024x1024 .f32
  ya : FVec Ideal S8192x512 .f32
  pr : FVec Ideal S8192x3072 .f32
  cw : FVec Ideal S3x512 .f32
  cb : FVec Ideal S512 .f32

namespace Args

variable (A : Args)

/-- The gate, and the two factors of what the convolution is over. -/
def gb (t : Fin 8192) (d : Fin 512) : EReal := A.pr (ix2 t ⟨1536 + d.val, by omega⟩)
def gc (t : Fin 8192) (d : Fin 512) : EReal := A.pr (ix2 t ⟨2048 + d.val, by omega⟩)
def u (t : Fin 8192) (d : Fin 512) : EReal := A.pr (ix2 t ⟨2560 + d.val, by omega⟩)
def z (t : Fin 8192) (d : Fin 512) : EReal := A.gc t d * A.u t d

/-- What the convolution is over, `k` tokens before: zero before the first token. -/
def zb (k : ℕ) (t : Fin 8192) (d : Fin 512) : EReal := if h : k ≤ t.val then A.z ⟨t.val - k, by omega⟩ d else 0
def w (i : Fin 3) (d : Fin 512) : EReal := A.cw (ix2 i d)
def cv (t : Fin 8192) (d : Fin 512) : EReal := A.w 0 d * A.zb 2 t d + A.w 1 d * A.zb 1 t d + A.w 2 d * A.z t d + A.cb (ix1 d)

/-- What the output matrix multiplies, and the product. -/
def cat (t : Fin 8192) (j : Fin 1024) : EReal :=
  if h : j.val < 512 then A.ya (ix2 t ⟨j.val, h⟩) else A.gb t ⟨j.val - 512, by omega⟩ * A.cv t ⟨j.val - 512, by omega⟩
def y (t : Fin 8192) (j : Fin 1024) : EReal := ∑ k : Fin 1024, A.cat t k * A.wo (ix2 k j)

/-- The gradients at the product, at what the matrix multiplies, at the convolution's result (also `k` tokens after, zero
past the last token), and at what the convolution is over. -/
def dy (t : Fin 8192) (k : Fin 1024) : EReal := A.gate (ix1 k) * A.x (ix2 t k)
def dcat (t : Fin 8192) (j : Fin 1024) : EReal := ∑ k : Fin 1024, A.dy t k * A.wo (ix2 j k)
def dya (t : Fin 8192) (d : Fin 512) : EReal := A.dcat t ⟨d.val, by omega⟩
def dyc (t : Fin 8192) (d : Fin 512) : EReal := A.dcat t ⟨512 + d.val, by omega⟩
def dcv (t : Fin 8192) (d : Fin 512) : EReal := A.dyc t d * A.gb t d
def da (k : ℕ) (t : Fin 8192) (d : Fin 512) : EReal := if h : t.val + k < 8192 then A.dcv ⟨t.val + k, h⟩ d else 0
def dz (t : Fin 8192) (d : Fin 512) : EReal := A.w 2 d * A.dcv t d + A.w 1 d * A.da 1 t d + A.w 0 d * A.da 2 t d

/-- The gradients at gb, gc and u side by side. -/
def dp (t : Fin 8192) (j : Fin 1536) : EReal :=
  if h : j.val < 512 then A.dyc t ⟨j.val, h⟩ * A.cv t ⟨j.val, h⟩
  else if h' : j.val < 1024 then A.dz t ⟨j.val - 512, by omega⟩ * A.u t ⟨j.val - 512, by omega⟩
  else A.dz t ⟨j.val - 1024, by omega⟩ * A.gc t ⟨j.val - 1024, by omega⟩

/-- The rows of sums' terms: the gradient at the gate in row 3; the convolution's weight in rows 0 to 2, its bias in row 3. -/
def tgate (r : Fin 8) (d : Fin 1024) (t : Fin 8192) : EReal := if r.val = 3 then A.x (ix2 t d) * A.y t d else 0
def tconv (r : Fin 8) (d : Fin 512) (t : Fin 8192) : EReal :=
  if r.val = 0 then A.dcv t d * A.zb 2 t d else if r.val = 1 then A.dcv t d * A.zb 1 t d
  else if r.val = 2 then A.dcv t d * A.z t d else if r.val = 3 then A.dcv t d else 0

end Args

variable (A : Args)

theorem r_z (t : Fin 8192) (d : Fin 512) : val_main_v4 (F := Ideal) A.pr (ix2 t d) = A.z t d := by
  unfold val_main_v4 val_main_v2 val_main_v3 val_main_v0 Args.z Args.gc Args.u
  pointwise
  exact congrArg₂ (· * ·) (congrArg (fun q => A.pr (ix2 t q)) (Fin.ext (by show 1536 + (512 + d.val) = 2048 + d.val; omega)))
    (congrArg (fun q => A.pr (ix2 t q)) (Fin.ext (by show 1536 + (1024 + d.val) = 2560 + d.val; omega)))

theorem r_pad (q : Fin 8194) (d : Fin 512) : val_main_v6 (F := Ideal) A.pr (ix2 q d) = if h : 2 ≤ q.val then A.z ⟨q.val - 2, by omega⟩ d else 0 := by
  unfold val_main_v6
  pointwise [val_main_v5, val_main_cst]
  by_cases h : q.val < 2
  · rw [dif_pos h, dif_neg (by omega)]
  · rw [dif_neg h, dif_pos (by omega)]
    exact r_z A _ d

theorem r_z2 (t : Fin 8192) (d : Fin 512) : val_main_v10 (F := Ideal) A.pr (ix2 t d) = A.zb 2 t d := by
  unfold val_main_v10
  pointwise
  exact r_pad A _ d

theorem r_z1 (t : Fin 8192) (d : Fin 512) : val_main_v16 (F := Ideal) A.pr (ix2 t d) = A.zb 1 t d := by
  unfold val_main_v16
  pointwise
  rw [r_pad]
  unfold Args.zb
  by_cases h : 1 ≤ t.val
  · rw [dif_pos h, dif_pos (by show 2 ≤ 1 + t.val; omega)]
    exact congrArg (fun q => A.z q d) (Fin.ext (by show 1 + t.val - 2 = t.val - 1; omega))
  · rw [dif_neg h, dif_neg (by show ¬ 2 ≤ 1 + t.val; omega)]

theorem r_z0 (t : Fin 8192) (d : Fin 512) : val_main_v23 (F := Ideal) A.pr (ix2 t d) = A.z t d := by
  unfold val_main_v23
  pointwise
  rw [r_pad, dif_pos (by show 2 ≤ 2 + t.val; omega)]
  exact congrArg (fun q => A.z q d) (Fin.ext (by show 2 + t.val - 2 = t.val; omega))

theorem r_cv (t : Fin 8192) (d : Fin 512) : val_main_v30 (F := Ideal) A.pr A.cw A.cb (ix2 t d) = A.cv t d := by
  unfold val_main_v30 val_main_v27 val_main_v26 val_main_v20 val_main_v13 val_main_v19 val_main_v29 val_main_v28 val_main_v25 val_main_v24
    val_main_v22 val_main_v21 val_main_v18 val_main_v17 val_main_v15 val_main_v14 val_main_v12 val_main_v11 val_main_v9 val_main_v8
  pointwise
  rw [r_z2, r_z1, r_z0]
  rfl

theorem r_gb (t : Fin 8192) (d : Fin 512) : val_main_v1 (F := Ideal) A.pr (ix2 t d) = A.gb t d := by
  unfold val_main_v1 val_main_v0 Args.gb
  pointwise

theorem r_cat (t : Fin 8192) (j : Fin 1024) : val_main_v32 (F := Ideal) A.ya A.pr A.cw A.cb (ix2 t j) = A.cat t j := by
  unfold val_main_v32 val_main_v31 Args.cat
  pointwise
  by_cases h : j.val < 512
  · rw [dif_pos h, dif_pos h]
  · rw [dif_neg h, dif_neg h, r_gb, r_cv]

theorem r_y (t : Fin 8192) (j : Fin 1024) : val_main_v33 (F := Ideal) A.wo A.ya A.pr A.cw A.cb (ix2 t j) = A.y t j := by
  unfold val_main_v33 Args.y
  pointwise
  simp only [r_cat]

theorem r_dy (t : Fin 8192) (j : Fin 1024) : val_main_v100 (F := Ideal) A.x A.gate (ix2 t j) = A.dy t j := by
  unfold val_main_v100 val_main_v38 val_main_v37 val_main_v34 Args.dy
  pointwise

theorem r_dcat (t : Fin 8192) (j : Fin 1024) : val_main_v43 (F := Ideal) A.x A.gate A.wo (ix2 t j) = A.dcat t j := by
  unfold val_main_v43 val_main_v38 val_main_v37 val_main_v34 Args.dcat Args.dy
  pointwise

theorem r_ya (t : Fin 8192) (d : Fin 512) : val_main_v44 (F := Ideal) A.x A.gate A.wo (ix2 t d) = A.dya t d := by
  unfold val_main_v44 Args.dya
  pointwise
  exact r_dcat A t _

theorem r_dya (t : Fin 8192) (d : Fin 512) : val_main_v97 (F := Ideal) A.x A.gate A.wo (ix2 t d) = A.dya t d := by
  unfold val_main_v97
  pointwise
  exact r_ya A t d

theorem r_res4 (a : Fin 4) (q : Fin 2048) (d : Fin 512) :
    val_main_v93 (F := Ideal) A.x A.gate A.wo (ix3 a q d) = A.dya ⟨q.val * 4 + a.val, by omega⟩ d := by
  unfold val_main_v93 val_main_v92 val_main_v91
  pointwise
  exact r_ya A _ d

theorem r_res16 (a : Fin 16) (q : Fin 512) (d : Fin 512) :
    val_main_v96 (F := Ideal) A.x A.gate A.wo (ix3 a q d) = A.dya ⟨q.val * 16 + a.val, by omega⟩ d := by
  unfold val_main_v96 val_main_v95 val_main_v94
  pointwise
  exact r_ya A _ d

theorem r_dyc (t : Fin 8192) (d : Fin 512) : val_main_v45 (F := Ideal) A.x A.gate A.wo (ix2 t d) = A.dyc t d := by
  unfold val_main_v45 Args.dyc
  pointwise
  exact r_dcat A t _

theorem r_dcv (t : Fin 8192) (d : Fin 512) : val_main_v46 (F := Ideal) A.x A.gate A.wo A.pr (ix2 t d) = A.dcv t d := by
  unfold val_main_v46
  pointwise
  rw [r_gb, r_dyc, mul_comm]
  rfl

theorem r_dz (t : Fin 8192) (d : Fin 512) : val_main_v83 (F := Ideal) A.x A.gate A.wo A.pr A.cw (ix2 t d) = A.dz t d := by
  unfold val_main_v83 val_main_v78 val_main_v77 val_main_v72 val_main_v71 val_main_v67 val_main_v66 val_main_v61 val_main_v60 val_main_v57
    val_main_v52 val_main_v51 val_main_v24 val_main_v22 val_main_v21 val_main_v17 val_main_v15 val_main_v14 val_main_v11 val_main_v9 val_main_v8
  pointwise [val_main_cst_7, val_main_cst_11, val_main_cst_15]
  simp only [r_dcv]
  unfold Args.dz Args.da Args.w
  refine congrArg₂ (· + ·) (congrArg₂ (· + ·) ?_ ?_) ?_
  · rfl
  · by_cases h : t.val + 1 < 8192
    · rw [dif_pos h, dif_pos (by omega)]
      exact congrArg (fun q => _ * A.dcv q d) (Fin.ext (by show 2 + t.val - 1 = t.val + 1; omega))
    · rw [dif_neg h, dif_neg (by omega), mul_zero]
  · by_cases h : t.val + 2 < 8192
    · rw [dif_pos h, dif_pos (by omega)]
      exact congrArg (fun q => _ * A.dcv q d) (Fin.ext (by show 2 + t.val = t.val + 2; omega))
    · rw [dif_neg h, dif_neg (by omega), mul_zero]

theorem r_gc (t : Fin 8192) (d : Fin 512) : val_main_v2 (F := Ideal) A.pr (ix2 t d) = A.gc t d := by
  unfold val_main_v2 val_main_v0 Args.gc
  pointwise
  exact congrArg (fun q => A.pr (ix2 t q)) (Fin.ext (by show 1536 + (512 + d.val) = 2048 + d.val; omega))

theorem r_u (t : Fin 8192) (d : Fin 512) : val_main_v3 (F := Ideal) A.pr (ix2 t d) = A.u t d := by
  unfold val_main_v3 val_main_v0 Args.u
  pointwise
  exact congrArg (fun q => A.pr (ix2 t q)) (Fin.ext (by show 1536 + (1024 + d.val) = 2560 + d.val; omega))

theorem r_dp (t : Fin 8192) (j : Fin 1536) : val_main_v99 (F := Ideal) A.x A.gate A.wo A.pr A.cw A.cb (ix2 t j) = A.dp t j := by
  unfold val_main_v99 val_main_v98 val_main_v47 val_main_v85 val_main_v84 Args.dp
  pointwise
  simp only [r_dyc, r_cv, r_dz, r_u, r_gc]
  by_cases h : j.val < 512
  · rw [dif_pos h, dif_pos h]
  · rw [dif_neg h, dif_neg h]
    by_cases h' : j.val < 1024
    · rw [dif_pos h', dif_pos (by omega)]
    · rw [dif_neg h', dif_neg (by omega), mul_comm]
      exact congrArg (fun q => A.dz t q * A.gc t q) (Fin.ext (by show j.val - 512 - 512 = j.val - 1024; omega))

theorem word_zero : (FloatOps.sitofp FTy.f32 (0#32 : BitVec 32) : Ideal .f32) = 0 := by
  show (((0#32 : BitVec 32).toInt : ℝ) : EReal) = 0
  simp

theorem r_sums (r : Fin 8) (d : Fin 1024) : val_main_v87 (F := Ideal) A.x A.wo A.ya A.pr A.cw A.cb (ix2 r d) = ∑ t, A.tgate r d t := by
  unfold val_main_v87 val_main_v86 val_main_v42 val_main_v41 val_main_v40 val_main_v39
  pointwise [val_main_cst_1, val_main_cst_2, val_main_call0_v0, val_main_c]
  simp only [r_y, word_zero, Fin.sum_univ_one]
  unfold Args.tgate
  by_cases h : r.val = 3
  · rw [dif_pos (by omega)]
    exact Finset.sum_congr rfl fun t _ => (if_pos h).symm
  · rw [dif_neg (by omega)]
    exact (Finset.sum_eq_zero fun t _ => if_neg h).symm

theorem r_conv (r : Fin 8) (d : Fin 512) : val_main_v90 (F := Ideal) A.x A.gate A.wo A.pr (ix2 r d) = ∑ t, A.tconv r d t := by
  unfold val_main_v90 val_main_v89 val_main_v88 val_main_v50 val_main_v49 val_main_v48 val_main_v81 val_main_v80 val_main_v79 val_main_v76 val_main_v75
    val_main_v74 val_main_v70 val_main_v69 val_main_v68 val_main_v65 val_main_v64 val_main_v63 val_main_v59 val_main_v58 val_main_v56 val_main_v55
    val_main_v54 val_main_v73 val_main_v62 val_main_v53
  pointwise [val_main_cst_3, val_main_cst_4, val_main_cst_5, val_main_cst_6, val_main_cst_8, val_main_cst_9, val_main_cst_10, val_main_cst_12,
    val_main_cst_13, val_main_cst_14, val_main_cst_16, val_main_call1_v0, val_main_c_17]
  simp only [r_dcv, r_z2, r_z1, r_z0, word_zero, Fin.sum_univ_one]
  unfold Args.tconv
  by_cases h0 : r.val = 0
  · simp [h0]
  by_cases h1 : r.val = 1
  · simp [h1]
  by_cases h2 : r.val = 2
  · simp [h2]
  by_cases h3 : r.val = 3
  · simp [h3]
  · rw [dif_neg (by omega)]
    exact (Finset.sum_eq_zero fun t _ => by rw [if_neg h0, if_neg h1, if_neg h2, if_neg h3]).symm

end Cert.MixerBwd

end
-- ==== Proof.MixerBwdBlock.lean ====
module

public import Idealize.ShloMosaic.Lib.Pipeline.ValueKit
public import Idealize.ShloMosaic.Lib.Pipeline.ReadBack
public import Idealize.ShloMosaic.Lib.WordCmp
public import proofs.«01_k».proof.Proof.Gen.Kernel8Ideal.Skeleton
public import proofs.«01_k».proof.Proof.MixerBwdRef

@[expose] public section

set_option maxRecDepth 16384

noncomputable section

/-! One tile of 512 tokens of the mixer's backward: what the kernel makes of its blocks, in the functions of the
arguments. -/
namespace Cert.MixerBwd

open Cert.Kernel8Ideal Cert.Kernel8Ideal.Gen Idealize.ShloMosaic Idealize.ShloMosaic.Pointwise Idealize.ShloMosaic.TcCoe

/-- The blocks one point works on, and what the point before it (the tile after) left for it. -/
structure Ins where
  v0 : BitVec 32
  x0 : Vec Ideal S512x1024 .f32
  x1 : Vec Ideal S512x1024 .bf16
  x2 : Vec Ideal S8x1024 .f32
  x3 : Vec Ideal S8x128x1024 .bf16
  x4 : Vec Ideal S512x1536 .bf16
  x5 : Vec Ideal S8x1536 .bf16
  x6 : Vec Ideal S8x512 .f32
  k : FVec Ideal S8x512 .f32

namespace Ins

variable (I : Ins)

def p3 : Vec Ideal S1x1024 .f32 := View.ld I.x2 (Rect.unit ![3, 0] ![1, 1024] inb_S8x1024_S1x1024_3_0)
def gb : Vec Ideal S512x512 .bf16 := View.ld I.x4 (Rect.unit ![0, 0] ![512, 512] inb_S512x1536_S512x512_0_0)
def gc : Vec Ideal S512x512 .bf16 := View.ld I.x4 (Rect.unit ![0, 512] ![512, 512] inb_S512x1536_S512x512_0_512)
def u : Vec Ideal S512x512 .bf16 := View.ld I.x4 (Rect.unit ![0, 1024] ![512, 512] inb_S512x1536_S512x512_0_1024)
def hc : Vec Ideal S8x512 .bf16 := View.ld I.x5 (Rect.unit ![0, 512] ![8, 512] inb_S8x1536_S8x512_0_512)
def hu : Vec Ideal S8x512 .bf16 := View.ld I.x5 (Rect.unit ![0, 1024] ![8, 512] inb_S8x1536_S8x512_0_1024)
def w0 : Vec Ideal S1x512 .f32 := View.ld I.x6 (Rect.unit ![0, 0] ![1, 512] inb_S8x512_S1x512_0_0)
def w1 : Vec Ideal S1x512 .f32 := View.ld I.x6 (Rect.unit ![1, 0] ![1, 512] inb_S8x512_S1x512_1_0)
def w2 : Vec Ideal S1x512 .f32 := View.ld I.x6 (Rect.unit ![2, 0] ![1, 512] inb_S8x512_S1x512_2_0)
def w3 : Vec Ideal S1x512 .f32 := View.ld I.x6 (Rect.unit ![3, 0] ![1, 512] inb_S8x512_S1x512_3_0)
def dcat : FVec Ideal S512x1024 .f32 := k0_pay8 I.x0 I.p3 I.x3
def dyc : FVec Ideal S512x512 .f32 := k0_pay102 I.dcat
def dcv : FVec Ideal S512x512 .f32 := k0_pay114 I.dyc (k0_pay103 I.gb)
def z : FVec Ideal S512x512 .f32 := k0_pay106 I.gc I.u
def z1 : FVec Ideal S512x512 .f32 := k0_pay108 I.v0 I.gc I.u I.hc I.hu
def z2 : FVec Ideal S512x512 .f32 := k0_pay109 I.v0 I.gc I.u I.hc I.hu
def cv : FVec Ideal S512x512 .f32 := k0_pay113 I.z I.z1 I.z2 (k0_pay110 I.w0) (k0_pay111 I.w1) I.w2 I.w3
def dz : FVec Ideal S512x512 .f32 := k0_pay119 (k0_pay110 I.w0) (k0_pay111 I.w1) (k0_pay112 I.w2) I.dcv I.k

/-- The three parts of the projection's gradient. -/
def parts : List (View.Piece (Elt Ideal) S512x1536 .bf16) := [
  ⟨Rect.unit ![0, 1024] ![512, 512] inb_S512x1536_S512x512_0_1024,
    k0_pay1 (k0_pay122 (k0_pay104 I.gc) (k0_pay110 I.w0) (k0_pay111 I.w1) (k0_pay112 I.w2) I.dcv I.k)⟩,
  ⟨Rect.unit ![0, 512] ![512, 512] inb_S512x1536_S512x512_0_512,
    k0_pay121 (k0_pay105 I.u) (k0_pay110 I.w0) (k0_pay111 I.w1) (k0_pay112 I.w2) I.dcv I.k⟩,
  ⟨Rect.unit ![0, 0] ![512, 512] inb_S512x1536_S512x512_0_0, k0_pay120 I.dyc I.cv⟩]

/-- The four rows of sums, added to the rows `st` held. -/
def rows (st : Vec Ideal S8x512 .f32) : List (View.Piece (Elt Ideal) S8x512 .f32) := [
  ⟨Rect.unit ![3, 0] ![1, 512] inb_S8x512_S1x512_3_0,
    k0_pay118 I.dcv (View.ld st (Rect.unit ![3, 0] ![1, 512] inb_S8x512_S1x512_3_0))⟩,
  ⟨Rect.unit ![2, 0] ![1, 512] inb_S8x512_S1x512_2_0,
    k0_pay117 I.dyc (k0_pay103 I.gb) I.z (View.ld st (Rect.unit ![2, 0] ![1, 512] inb_S8x512_S1x512_2_0))⟩,
  ⟨Rect.unit ![1, 0] ![1, 512] inb_S8x512_S1x512_1_0,
    k0_pay116 I.dyc (k0_pay103 I.gb) I.z1 (View.ld st (Rect.unit ![1, 0] ![1, 512] inb_S8x512_S1x512_1_0))⟩,
  ⟨Rect.unit ![0, 0] ![1, 512] inb_S8x512_S1x512_0_0,
    k0_pay115 I.dyc (k0_pay103 I.gb) I.z2 (View.ld st (Rect.unit ![0, 0] ![1, 512] inb_S8x512_S1x512_0_0))⟩]

/-- The row of the gate's sums, added to the row `st` held. -/
def grow (st : Vec Ideal S8x1024 .f32) : List (View.Piece (Elt Ideal) S8x1024 .f32) := [
  ⟨Rect.unit ![3, 0] ![1, 1024] inb_S8x1024_S1x1024_3_0,
    k0_pay7 I.x0 (View.ld st (Rect.unit ![3, 0] ![1, 1024] inb_S8x1024_S1x1024_3_0)) I.x1⟩]

end Ins

/-- Token `r` of tile `b`. -/
def tk (b : Fin 16) (r : Fin 512) : Fin 8192 := ⟨b.val * 512 + r.val, by omega⟩

/-- The blocks are tile `b`'s. -/
structure Ok (A : Args) (b : Fin 16) (I : Ins) : Prop where
  v0 : I.v0 = BitVec.ofNat 32 b.val
  x0 : ∀ r k, I.x0 (ix2 r k) = A.x (ix2 (tk b r) k)
  x1 : ∀ r k, I.x1 (ix2 r k) = A.y (tk b r) k
  x2 : ∀ k, I.x2 (ix2 3 k) = A.gate (ix1 k)
  x3 : ∀ (a : Fin 8) (r : Fin 128) k, I.x3 (ix3 a r k) = A.wo (ix2 ⟨a.val * 128 + r.val, by omega⟩ k)
  x4 : ∀ r (j : Fin 1536), I.x4 (ix2 r j) = A.pr (ix2 (tk b r) ⟨1536 + j.val, by omega⟩)
  x5 : ∀ (i : Fin 8) (j : Fin 1536) (h : 0 < b.val), I.x5 (ix2 i j) = A.pr (ix2 ⟨b.val * 512 - 8 + i.val, by omega⟩ ⟨1536 + j.val, by omega⟩)
  x6 : ∀ (i : Fin 3) d, I.x6 (ix2 ⟨i.val, by omega⟩ d) = A.w i d
  x63 : ∀ d, I.x6 (ix2 3 d) = A.cb (ix1 d)

theorem sel (n c : ℕ) (hn : n < 512) (hc : c < 512) (x y : EReal) :
    Scalar.select (IntOp.cmpi .eq (BitVec.ofNat 32 n) (BitVec.ofNat 32 c)) x y = if n = c then x else y := by
  rw [WordCmp.cmpi_eq_ofNat (by omega) (by omega), WordCmp.select_decide]

theorem sel_pos (n : Fin 16) (x y : EReal) :
    Scalar.select (Scalar.cmpi .sgt (BitVec.ofNat 32 n.val) 0#32) x y = if 0 < n.val then x else y := by
  have e : ∀ n : Fin 16, Scalar.cmpi .sgt (BitVec.ofNat 32 n.val) 0#32 = BitVec.ofBool (decide (0 < n.val)) := by decide
  rw [e n]
  by_cases h : 0 < n.val
  · rw [if_pos h, decide_eq_true h]; rfl
  · rw [if_neg h, decide_eq_false h]; rfl

namespace Ok

variable {A : Args} {b : Fin 16} {I : Ins} (h : Ok A b I)
include h

theorem p3 (k : Fin 1024) : I.p3 (ix2 0 k) = A.gate (ix1 k) := by
  unfold Ins.p3
  pointwise
  exact h.x2 k

theorem gb (r d : Fin 512) : I.gb (ix2 r d) = A.gb (tk b r) d := by
  unfold Ins.gb
  pointwise
  rw [h.x4]
  rfl

theorem gc (r d : Fin 512) : I.gc (ix2 r d) = A.gc (tk b r) d := by
  unfold Ins.gc
  pointwise
  rw [h.x4]
  exact congrArg (fun q => A.pr (ix2 (tk b r) q)) (Fin.ext (by show 1536 + (512 + d.val) = 2048 + d.val; omega))

theorem u (r d : Fin 512) : I.u (ix2 r d) = A.u (tk b r) d := by
  unfold Ins.u
  pointwise
  rw [h.x4]
  exact congrArg (fun q => A.pr (ix2 (tk b r) q)) (Fin.ext (by show 1536 + (1024 + d.val) = 2560 + d.val; omega))

theorem w0 (d : Fin 512) : I.w0 (ix2 0 d) = A.w 0 d := by
  unfold Ins.w0
  pointwise
  exact h.x6 0 d
theorem w1 (d : Fin 512) : I.w1 (ix2 0 d) = A.w 1 d := by
  unfold Ins.w1
  pointwise
  exact h.x6 1 d
theorem w2 (d : Fin 512) : I.w2 (ix2 0 d) = A.w 2 d := by
  unfold Ins.w2
  pointwise
  exact h.x6 2 d
theorem w3 (d : Fin 512) : I.w3 (ix2 0 d) = A.cb (ix1 d) := by
  unfold Ins.w3
  pointwise
  exact h.x63 d

theorem dy (r : Fin 512) (k : Fin 1024) : k0_pay6 I.x0 I.p3 (ix2 r k) = A.dy (tk b r) k := by
  pointwise [k0_pay6]
  rw [h.p3, h.x0]
  rfl

theorem dcat (r : Fin 512) (j : Fin 1024) : I.dcat (ix2 r j) = A.dcat (tk b r) j := by
  unfold Ins.dcat
  pointwise [k0_pay8, k0_pay6]
  have e : (⟨j.val / 128 * 128 + j.val % 128, by omega⟩ : Fin 1024) = j := Fin.ext (by show j.val / 128 * 128 + j.val % 128 = j.val; omega)
  by_cases hr : r.val < 256
  · rw [dif_pos hr]
    simp only [h.p3, h.x0, h.x3, e]
    rfl
  · rw [dif_neg hr]
    have er : (⟨256 + (r.val - 256), by omega⟩ : Fin 512) = r := Fin.ext (by show 256 + (r.val - 256) = r.val; omega)
    simp only [h.p3, h.x0, h.x3, e, er]
    rfl

theorem dyc (r d : Fin 512) : I.dyc (ix2 r d) = A.dyc (tk b r) d := by
  unfold Ins.dyc
  pointwise [k0_pay102]
  exact h.dcat r _

theorem dcv (r d : Fin 512) : I.dcv (ix2 r d) = A.dcv (tk b r) d := by
  unfold Ins.dcv
  pointwise [k0_pay114, k0_pay103]
  rw [h.dyc, h.gb]
  rfl

theorem z (r d : Fin 512) : I.z (ix2 r d) = A.z (tk b r) d := by
  unfold Ins.z
  pointwise [k0_pay106, k0_pay104, k0_pay105]
  rw [h.gc, h.u]
  rfl

theorem hc (i : Fin 8) (d : Fin 512) (h0 : 0 < b.val) : I.hc (ix2 i d) = A.gc ⟨b.val * 512 - 8 + i.val, by omega⟩ d := by
  unfold Ins.hc
  pointwise
  rw [h.x5 _ _ h0]
  exact congrArg (fun q => A.pr (ix2 _ q)) (Fin.ext (by show 1536 + (512 + d.val) = 2048 + d.val; omega))

theorem hu (i : Fin 8) (d : Fin 512) (h0 : 0 < b.val) : I.hu (ix2 i d) = A.u ⟨b.val * 512 - 8 + i.val, by omega⟩ d := by
  unfold Ins.hu
  pointwise
  rw [h.x5 _ _ h0]
  exact congrArg (fun q => A.pr (ix2 _ q)) (Fin.ext (by show 1536 + (1024 + d.val) = 2560 + d.val; omega))

/-- The last rows before the tile: zero before the first tile. -/
theorem halo (i : Fin 8) (d : Fin 512) (k : ℕ) (r : Fin 512) (hk : i.val + k = 8 + r.val) (hr : r.val < k) :
    k0_pay107 I.v0 I.hc I.hu (ix2 i d) = A.zb k (tk b r) d := by
  pointwise [k0_pay107]
  rw [h.v0]
  refine (sel_pos b _ _).trans ?_
  unfold Args.zb
  by_cases h0 : 0 < b.val
  · have hv : (tk b r).val = b.val * 512 + r.val := rfl
    rw [if_pos h0, dif_pos (by omega), h.hc _ _ h0, h.hu _ _ h0]
    exact congrArg (fun q => A.z q d) (Fin.ext (by show b.val * 512 - 8 + i.val = b.val * 512 + r.val - k; omega))
  · have hv : (tk b r).val = b.val * 512 + r.val := rfl
    rw [if_neg h0, dif_neg (by omega)]

/-- A row above within the tile. -/
theorem above (d : Fin 512) (k : ℕ) (r q : Fin 512) (hr : k ≤ r.val) (hq : q.val = r.val - k) : I.gc (ix2 q d) * I.u (ix2 q d) = A.zb k (tk b r) d := by
  have hv : (tk b r).val = b.val * 512 + r.val := rfl
  rw [h.gc, h.u]
  unfold Args.zb
  rw [dif_pos (by omega)]
  exact congrArg (fun q => A.z q d) (Fin.ext (by show b.val * 512 + q.val = b.val * 512 + r.val - k; omega))

theorem z1 (r d : Fin 512) : I.z1 (ix2 r d) = A.zb 1 (tk b r) d := by
  unfold Ins.z1
  pointwise [k0_pay108, k0_pay106, k0_pay104, k0_pay105]
  rw [sel _ 0 r.isLt (by omega)]
  by_cases hr : r.val = 0
  · rw [if_pos hr]
    exact h.halo 7 d 1 r (by show 7 + 1 = 8 + r.val; omega) (by omega)
  · rw [if_neg hr]
    exact h.above d 1 r _ (by omega) (by show (r.val + 512 - 1) % 512 = r.val - 1; omega)

theorem z2 (r d : Fin 512) : I.z2 (ix2 r d) = A.zb 2 (tk b r) d := by
  unfold Ins.z2
  pointwise [k0_pay109, k0_pay106, k0_pay104, k0_pay105]
  rw [sel _ 0 r.isLt (by omega), sel _ 1 r.isLt (by omega)]
  by_cases hr : r.val = 0
  · rw [if_pos hr]
    exact h.halo 6 d 2 r (by show 6 + 2 = 8 + r.val; omega) (by omega)
  · rw [if_neg hr]
    by_cases hr1 : r.val = 1
    · rw [if_pos hr1]
      exact h.halo 7 d 2 r (by show 7 + 2 = 8 + r.val; omega) (by omega)
    · rw [if_neg hr1]
      exact h.above d 2 r _ (by omega) (by show (r.val + 512 - 2) % 512 = r.val - 2; omega)

theorem cv (r d : Fin 512) : I.cv (ix2 r d) = A.cv (tk b r) d := by
  unfold Ins.cv
  pointwise [k0_pay113, k0_pay110, k0_pay111, k0_pay112]
  rw [h.z, h.z1, h.z2, h.w0, h.w1, h.w2, h.w3]
  rfl

/-- A row below within the tile. -/
theorem below (d : Fin 512) (k : ℕ) (r q : Fin 512) (hr : r.val + k < 512) (hq : q.val = r.val + k) : I.dcv (ix2 q d) = A.da k (tk b r) d := by
  have hv : (tk b r).val = b.val * 512 + r.val := rfl
  rw [h.dcv]
  unfold Args.da
  rw [dif_pos (by omega)]
  exact congrArg (fun q => A.dcv q d) (Fin.ext (by show b.val * 512 + q.val = b.val * 512 + r.val + k; omega))

theorem dz (k1 : ∀ d, I.k (ix2 0 d) = A.da 1 (tk b 511) d) (k2 : ∀ d, I.k (ix2 1 d) = A.da 2 (tk b 511) d) (r d : Fin 512) : I.dz (ix2 r d) = A.dz (tk b r) d := by
  have e1 : r.val = 511 → r = 511 := fun e => Fin.ext e
  unfold Ins.dz
  pointwise [k0_pay119, k0_pay110, k0_pay111, k0_pay112]
  rw [sel _ 511 r.isLt (by omega), sel _ 510 r.isLt (by omega), h.w0, h.w1, h.w2, h.dcv]
  unfold Args.dz
  refine congrArg₂ (· + ·) (congrArg₂ (· + ·) rfl (congrArg (A.w 1 d * ·) ?_)) (congrArg (A.w 0 d * ·) ?_)
  · by_cases hr : r.val = 511
    · obtain rfl := e1 hr
      exact (if_pos rfl).trans (k1 d)
    · rw [if_neg hr]
      exact h.below d 1 r _ (by omega) (by show (r.val + 512 - 511) % 512 = r.val + 1; omega)
  · by_cases hr : r.val = 510
    · obtain rfl : r = 510 := Fin.ext hr
      refine (if_pos rfl).trans ((k1 d).trans ?_)
      unfold Args.da tk
      rfl
    · rw [if_neg hr, sel _ 511 r.isLt (by omega)]
      by_cases hr1 : r.val = 511
      · obtain rfl := e1 hr1
        exact (if_pos rfl).trans (k2 d)
      · rw [if_neg hr1]
        exact h.below d 2 r _ (by omega) (by show (r.val + 512 - 510) % 512 = r.val + 2; omega)

theorem dp (k1 : ∀ d, I.k (ix2 0 d) = A.da 1 (tk b 511) d) (k2 : ∀ d, I.k (ix2 1 d) = A.da 2 (tk b 511) d) (y : S512x1536.Idx) :
    View.canon I.parts y = A.dp (tk b (y 0)) (y 1) := by
  unfold Ins.parts Args.dp
  canon_tiles x hx
  · idx_vars x
    obtain rfl : x0 = y 0 := Fin.ext hx0.symm
    have e : (y 1).val = 1024 + x1.val := hx1
    rw [dif_neg (by omega), dif_neg (by omega)]
    refine Eq.trans ?_ (congrArg₂ (· * ·) ((h.dz k1 k2 (y 0) x1).trans (congrArg (A.dz (tk b (y 0))) (Fin.ext (by show x1.val = (y 1).val - 1024; omega))))
      ((h.gc (y 0) x1).trans (congrArg (A.gc (tk b (y 0))) (Fin.ext (by show x1.val = (y 1).val - 1024; omega)))))
    unfold Ins.dz
    pointwise [k0_pay1, k0_pay122, k0_pay104]
  · idx_vars x
    obtain rfl : x0 = y 0 := Fin.ext hx0.symm
    have e : (y 1).val = 512 + x1.val := hx1
    rw [dif_neg (by omega), dif_pos (by omega)]
    refine Eq.trans ?_ (congrArg₂ (· * ·) ((h.dz k1 k2 (y 0) x1).trans (congrArg (A.dz (tk b (y 0))) (Fin.ext (by show x1.val = (y 1).val - 512; omega))))
      ((h.u (y 0) x1).trans (congrArg (A.u (tk b (y 0))) (Fin.ext (by show x1.val = (y 1).val - 512; omega)))))
    unfold Ins.dz
    pointwise [k0_pay121, k0_pay105]
  · idx_vars x
    obtain rfl : x0 = y 0 := Fin.ext hx0.symm
    have e : (y 1).val = x1.val := hx1
    rw [dif_pos (by omega)]
    refine Eq.trans ?_ (congrArg₂ (· * ·) ((h.dyc (y 0) x1).trans (congrArg (A.dyc (tk b (y 0))) (Fin.ext e.symm)))
      ((h.cv (y 0) x1).trans (congrArg (A.cv (tk b (y 0))) (Fin.ext e.symm))))
    pointwise [k0_pay120]

theorem row0 (st : Vec Ideal S8x512 .f32) (d : Fin 512) : k0_pay115 I.dyc (k0_pay103 I.gb) I.z2
    (View.ld st (Rect.unit ![0, 0] ![1, 512] inb_S8x512_S1x512_0_0)) (ix2 0 d) = st (ix2 0 d) + ∑ i, A.tconv 0 d (tk b i) := by
  pointwise [k0_pay115, k0_pay114, k0_pay103]
  refine congrArg (st (ix2 0 d) + ·) (Finset.sum_congr rfl fun i _ => ?_)
  rw [h.dyc, h.gb, h.z2]
  rfl
theorem row1 (st : Vec Ideal S8x512 .f32) (d : Fin 512) : k0_pay116 I.dyc (k0_pay103 I.gb) I.z1
    (View.ld st (Rect.unit ![1, 0] ![1, 512] inb_S8x512_S1x512_1_0)) (ix2 0 d) = st (ix2 1 d) + ∑ i, A.tconv 1 d (tk b i) := by
  pointwise [k0_pay116, k0_pay114, k0_pay103]
  refine congrArg (st (ix2 1 d) + ·) (Finset.sum_congr rfl fun i _ => ?_)
  rw [h.dyc, h.gb, h.z1]
  rfl
theorem row2 (st : Vec Ideal S8x512 .f32) (d : Fin 512) : k0_pay117 I.dyc (k0_pay103 I.gb) I.z
    (View.ld st (Rect.unit ![2, 0] ![1, 512] inb_S8x512_S1x512_2_0)) (ix2 0 d) = st (ix2 2 d) + ∑ i, A.tconv 2 d (tk b i) := by
  pointwise [k0_pay117, k0_pay114, k0_pay103]
  refine congrArg (st (ix2 2 d) + ·) (Finset.sum_congr rfl fun i _ => ?_)
  rw [h.dyc, h.gb, h.z]
  rfl
theorem row3 (st : Vec Ideal S8x512 .f32) (d : Fin 512) : k0_pay118 I.dcv
    (View.ld st (Rect.unit ![3, 0] ![1, 512] inb_S8x512_S1x512_3_0)) (ix2 0 d) = st (ix2 3 d) + ∑ i, A.tconv 3 d (tk b i) := by
  pointwise [k0_pay118]
  refine congrArg (st (ix2 3 d) + ·) (Finset.sum_congr rfl fun i _ => ?_)
  rw [h.dcv]
  rfl
theorem rowg (st : Vec Ideal S8x1024 .f32) (d : Fin 1024) : k0_pay7 I.x0
    (View.ld st (Rect.unit ![3, 0] ![1, 1024] inb_S8x1024_S1x1024_3_0)) I.x1 (ix2 0 d) = st (ix2 3 d) + ∑ i, A.tgate 3 d (tk b i) := by
  pointwise [k0_pay7]
  refine congrArg (st (ix2 3 d) + ·) (Finset.sum_congr rfl fun i _ => ?_)
  rw [h.x0, h.x1]
  rfl

end Ok

end Cert.MixerBwd

end
-- ==== Proof.MixerBwdOut.lean ====
module

public import Idealize.ShloMosaic.Lib.Pipeline.ValueKit
public import Idealize.ShloMosaic.Lib.Pipeline.ReadBack
public import proofs.«01_k».proof.Proof.Gen.Kernel8Ideal.Frame
public import proofs.«01_k».proof.Proof.MixerBwdBlock

@[expose] public section

set_option maxRecDepth 16384

noncomputable section

/-! What each point of the mixer's backward leaves in its blocks. -/
namespace Cert.MixerBwd

open Cert.Kernel8Ideal Cert.Kernel8Ideal.Gen Idealize.ShloMosaic Idealize.ShloMosaic.Pointwise Idealize.ShloMosaic.TcCoe

/-- The attention half of the products by groups of 128 columns, as the kernel lays it out before picking residues. -/
abbrev grp (x0 : Vec Ideal S512x1024 .f32) (p : Vec Ideal S1x1024 .f32) (x3 : Vec Ideal S8x128x1024 .bf16) :
    List (View.Piece (Elt Ideal) S4x512x128 .f32) := [
  ⟨Rect.unit ![3, 0, 0] ![1, 512, 128] inb_S4x512x128_S1x512x128_3_0_0, k0_pay14 (k0_pay9 x0 p x3)⟩,
  ⟨Rect.unit ![2, 0, 0] ![1, 512, 128] inb_S4x512x128_S1x512x128_2_0_0, k0_pay13 (k0_pay9 x0 p x3)⟩,
  ⟨Rect.unit ![1, 0, 0] ![1, 512, 128] inb_S4x512x128_S1x512x128_1_0_0, k0_pay12 (k0_pay9 x0 p x3)⟩,
  ⟨Rect.unit ![0, 0, 0] ![1, 512, 128] inb_S4x512x128_S1x512x128_0_0_0, k0_pay11 (k0_pay10 x0 p x3)⟩]

theorem grp_at (x0 : Vec Ideal S512x1024 .f32) (p : Vec Ideal S1x1024 .f32) (x3 : Vec Ideal S8x128x1024 .bf16) (y : S4x512x128.Idx) :
    View.canon (grp x0 p x3) y = k0_pay8 x0 p x3 (ix2 (y 1) ⟨(y 0).val * 128 + (y 2).val, by
      have h0 : (y 0).val < 4 := (y 0).isLt
      have h2 : (y 2).val < 128 := (y 2).isLt
      omega⟩) := by
  unfold grp
  generalize hD : k0_pay8 x0 p x3 = D
  canon_tiles x h
  all_goals
    idx_vars x
    obtain rfl : x0 = 0 := Subsingleton.elim _ _
    obtain rfl : x1 = y 1 := Fin.ext (by have := h1; show x1.val = _; omega)
    pointwise [k0_pay14, k0_pay13, k0_pay12, k0_pay11, k0_pay10, k0_pay9]
    rw [hD]
    refine congrArg (fun q => D (ix2 (y 1) q)) (Fin.ext ?_)
    show _ = (y 0).val * 128 + (y 2).val
    have h0' : (y 0).val = _ := h0
    have h2' : (y 2).val = _ := h2
    rw [h0', h2']
    simp

/-- Where a strided box of one group lies among the groups. -/
theorem box_at (g : ℕ) (hg) (lr : LoadRect S512x128) (h0) (hs) (hu) (hR : lr.shape.numel = (lr.consLift ![1, 512, 128] h0 hs).shape.numel) (x : lr.shape.Idx) :
    (((Rect.unit (s := S4x512x128) ![g, 0, 0] ![1, 512, 128] hg).withinL (lr.consLift ![1, 512, 128] h0 hs) hu).idx (Shape.reshapeEquiv hR x) : S4x512x128.Idx)
      = ix3 ⟨g, by have := hg 0; simp at this; omega⟩ (lr.idx x 0) (lr.idx x 1) := by
  have hx : Shape.reshapeEquiv hR x = Fin.cons ⟨0, Nat.one_pos⟩ x := Shape.reshapeEquiv_cons_one (d := lr.size) _ _
  rw [hx]
  funext a
  apply Fin.ext
  fin_cases a
  · simp [Rect.idx_withinL]
  · simp [Rect.idx_withinL]
    exact Or.inl rfl
  · simp [Rect.idx_withinL]
    rfl

theorem strided (x0 : Vec Ideal S512x1024 .f32) (p : Vec Ideal S1x1024 .f32) (x3 : Vec Ideal S8x128x1024 .bf16) (g : ℕ) (hg) (lr : LoadRect S512x128) (h0) (hs) (hu) (hR : lr.shape.numel = (lr.consLift ![1, 512, 128] h0 hs).shape.numel) (x : lr.shape.Idx) :
    LoadRect.valAlong hR ((View.whole cc0_scratch1).readCov (Val := Elt Ideal) (grp x0 p x3)
      ((Rect.unit (s := S4x512x128) ![g, 0, 0] ![1, 512, 128] hg).withinL (lr.consLift ![1, 512, 128] h0 hs) hu)) x
      = k0_pay8 x0 p x3 (ix2 (lr.idx x 0) ⟨g * 128 + (lr.idx x 1).val, by
          have := hg 0
          have := (lr.idx x 1).isLt
          simp at *
          omega⟩) := by
  refine (congrFun (View.readCov_eq_canon' (Val := Elt Ideal) (View.whole cc0_scratch1) (grp x0 p x3) _) _).trans ?_
  refine (congrArg (View.canon (grp x0 p x3)) (box_at g hg lr h0 hs hu hR x)).trans ?_
  exact grp_at x0 p x3 _

/-- The same at a box that starts at row `r` and takes every `s`-th row. -/
theorem every (x0 : Vec Ideal S512x1024 .f32) (p : Vec Ideal S1x1024 .f32) (x3 : Vec Ideal S8x128x1024 .bf16) (g r s n : ℕ) (hg) (hi) (h0) (hs) (hu)
    (hR : (LoadRect.mk (s := S512x128) ![r, 0] ![n, 128] ![s, 1] hi).shape.numel
      = ((LoadRect.mk (s := S512x128) ![r, 0] ![n, 128] ![s, 1] hi).consLift ![1, 512, 128] h0 hs).shape.numel) (i : Fin n) (j : Fin 128) (a : Fin 512) (b : Fin 1024)
    (ha : r + s * i.val = a.val) (hb : g * 128 + j.val = b.val) :
    LoadRect.valAlong hR ((View.whole cc0_scratch1).readCov (Val := Elt Ideal) (grp x0 p x3)
      ((Rect.unit (s := S4x512x128) ![g, 0, 0] ![1, 512, 128] hg).withinL
        ((LoadRect.mk (s := S512x128) ![r, 0] ![n, 128] ![s, 1] hi).consLift ![1, 512, 128] h0 hs) hu)) (ix2 i j) = k0_pay8 x0 p x3 (ix2 a b) := by
  refine (strided _ _ _ _ _ _ _ _ _ _ _).trans (congrArg _ (congrArg₂ ix2 (Fin.ext ?_) (Fin.ext ?_)))
  · exact ha
  · refine Eq.trans ?_ hb
    show g * 128 + (0 + 1 * j.val) = g * 128 + j.val
    omega

variable (m : (ℓ : Loc nD τ sig) → Buf (Elt Ideal) ℓ) (c : Dev nD)

/-- What the point before left in the rows it hands on: zeros at the first point. -/
def kcar (t : Fin cfg0.N) : FVec Ideal S8x512 .f32 :=
  if h : t.val % 16 = 0 then k0_pay5 else (outsAt0 m c (t.val - 1) (by omega)).2.2.2.2.2.2.2

/-- Point `t`'s blocks. -/
def ins (t : Fin cfg0.N) : Ins :=
  ⟨Scalar.subi 15#32 (BitVec.ofNat 32 (grid0.coords t 0).val), iblk m c 0 t, iblk m c 1 t, iblk m c 2 t, iblk m c 3 t,
    iblk m c 4 t, iblk m c 5 t, iblk m c 6 t, kcar m c t⟩

theorem kcar_A (t : Fin cfg0.N) (h0 : t.val % 16 = 0) : kcar m c t = k0_pay5 := dif_pos h0
theorem kcar_B (t : Fin cfg0.N) (h0 : ¬ t.val % 16 = 0) : kcar m c t = (outsAt0 m c (t.val - 1) (by omega)).2.2.2.2.2.2.2 := dif_neg h0

/-- A residue of the tile's rows: row `n` of residue `a` is row `n * 4 + a` (or `n * 16 + a`). -/
def res4 (D : FVec Ideal S512x1024 .f32) : Vec Ideal S4x128x512 .bf16 := fun y => D (ix2 ⟨(y 1).val * 4 + (y 0).val, by
    have h0 : (y 0).val < 4 := (y 0).isLt
    have h1 : (y 1).val < 128 := (y 1).isLt
    omega⟩ ⟨(y 2).val, by
    have h2 : (y 2).val < 512 := (y 2).isLt
    omega⟩)
def res16 (D : FVec Ideal S512x1024 .f32) : Vec Ideal S16x32x512 .bf16 := fun y => D (ix2 ⟨(y 1).val * 16 + (y 0).val, by
    have h0 : (y 0).val < 16 := (y 0).isLt
    have h1 : (y 1).val < 32 := (y 1).isLt
    omega⟩ ⟨(y 2).val, by
    have h2 : (y 2).val < 512 := (y 2).isLt
    omega⟩)

theorem p16 (v : Vec Ideal S128x128 .f32) (x : S1x128x128.Idx) : k0_pay16 v x = v (ix2 (x 1) (x 2)) := by
  idx_vars x
  obtain rfl : x0 = 0 := Subsingleton.elim _ _
  pointwise [k0_pay16]

theorem p35 (v : Vec Ideal S32x128 .f32) (x : S1x32x128.Idx) : k0_pay35 v x = v (ix2 (x 1) (x 2)) := by
  idx_vars x
  obtain rfl : x0 = 0 := Subsingleton.elim _ _
  pointwise [k0_pay35]

set_option maxHeartbeats 4000000 in
theorem o12 (t : Fin cfg0.N) : (outsAt0 m c t.val t.isLt).2.2.2.2.2.1 = res4 (ins m c t).dcat := by
  show _ = res4 (k0_pay8 (iblk m c 0 t) (View.ld (iblk m c 2 t) (Rect.unit ![3, 0] ![1, 1024] inb_S8x1024_S1x1024_3_0)) (iblk m c 3 t))
  by_cases h0 : t.val % 16 = 0
  on_goal 1 => rw [outsAt0_A m c t h0]
  on_goal 2 => rw [outsAt0_B m c t h0]
  all_goals
    frame_out
    funext y
    canon_tiles x h
    all_goals
      refine (p16 _ x).trans (every _ _ _ _ _ _ _ _ _ _ _ _ _ _ _ _ _ ?_ ?_)
      · dsimp only
        omega
      · dsimp only
        omega

set_option maxHeartbeats 4000000 in
theorem o13 (t : Fin cfg0.N) : (outsAt0 m c t.val t.isLt).2.2.2.2.2.2.1 = res16 (ins m c t).dcat := by
  show _ = res16 (k0_pay8 (iblk m c 0 t) (View.ld (iblk m c 2 t) (Rect.unit ![3, 0] ![1, 1024] inb_S8x1024_S1x1024_3_0)) (iblk m c 3 t))
  by_cases h0 : t.val % 16 = 0
  on_goal 1 => rw [outsAt0_A m c t h0]
  on_goal 2 => rw [outsAt0_B m c t h0]
  all_goals
    frame_out
    funext y
    canon_tiles x h
    all_goals
      refine (p35 _ x).trans (every _ _ _ _ _ _ _ _ _ _ _ _ _ _ _ _ _ ?_ ?_)
      · dsimp only
        omega
      · dsimp only
        omega

theorem o7 (t : Fin cfg0.N) : (outsAt0 m c t.val t.isLt).1 = k0_pay15 (ins m c t).dcat := by
  by_cases h0 : t.val % 16 = 0
  · rw [outsAt0_A m c t h0]
    frame_out
    rfl
  · rw [outsAt0_B m c t h0]
    frame_out
    rfl

theorem o9 (t : Fin cfg0.N) : (outsAt0 m c t.val t.isLt).2.2.1 = k0_pay6 (ins m c t).x0 (ins m c t).p3 := by
  by_cases h0 : t.val % 16 = 0
  · rw [outsAt0_A m c t h0]
    frame_out
    rfl
  · rw [outsAt0_B m c t h0]
    frame_out
    rfl

theorem o8 (t : Fin cfg0.N) : (outsAt0 m c t.val t.isLt).2.1 = View.canon (ins m c t).parts := by
  by_cases h0 : t.val % 16 = 0
  · rw [outsAt0_A m c t h0]
    frame_out
    simp only [Ins.parts, Ins.cv, Ins.z, Ins.z1, Ins.z2, Ins.gc, Ins.u, Ins.hc, Ins.hu, Ins.w0, Ins.w1, Ins.w2, Ins.w3, Ins.dcv, Ins.dyc, Ins.gb, Ins.dcat, Ins.p3, ins, kcar_A m c t h0]
  · rw [outsAt0_B m c t h0]
    frame_out
    simp only [Ins.parts, Ins.cv, Ins.z, Ins.z1, Ins.z2, Ins.gc, Ins.u, Ins.hc, Ins.hu, Ins.w0, Ins.w1, Ins.w2, Ins.w3, Ins.dcv, Ins.dyc, Ins.gb, Ins.dcat, Ins.p3, ins, kcar_B m c t h0, (Memref.isWhole_whole cc0_scratch0).read_unread]

theorem oc (t : Fin cfg0.N) : (outsAt0 m c t.val t.isLt).2.2.2.2.2.2.2 = k0_pay2 (ins m c t).dcv := by
  by_cases h0 : t.val % 16 = 0
  · rw [outsAt0_A m c t h0]
    frame_out
    simp only [Ins.dcv, Ins.dyc, Ins.gb, Ins.dcat, Ins.p3, ins]
  · rw [outsAt0_B m c t h0]
    frame_out
    simp only [Ins.dcv, Ins.dyc, Ins.gb, Ins.dcat, Ins.p3, ins]

theorem o10A (t : Fin cfg0.N) (h0 : t.val % 16 = 0) : (outsAt0 m c t.val t.isLt).2.2.2.1
    = View.canon ((ins m c t).grow (k0_pay3 (F := Ideal)) ++ [⟨Rect.unit ![0, 0] ![8, 1024] inb_S8x1024_S8x1024_0_0, k0_pay3 (F := Ideal)⟩]) := by
  rw [outsAt0_A m c t h0]
  frame_open
  simp (disch := decide) only [↓ View.readCov_skip, ↓ View.readCov_cons_toLoadRect, ↓ View.readCov_fill]
  frame_out
  rfl

theorem o10B (t : Fin cfg0.N) (h0 : ¬ t.val % 16 = 0) : (outsAt0 m c t.val t.isLt).2.2.2.1
    = View.read (Elt Ideal) (ms0_10 t).view ((ms0_10 t).view.writes (Elt Ideal) ((hs0_10 t).unread (outsAt0 m c (t.val - 1) (by omega)).2.2.2.1)
      ((ins m c t).grow (outsAt0 m c (t.val - 1) (by omega)).2.2.2.1)) := by
  rw [outsAt0_B m c t h0]
  frame_out
  rfl

theorem o11A (t : Fin cfg0.N) (h0 : t.val % 16 = 0) : (outsAt0 m c t.val t.isLt).2.2.2.2.1
    = View.canon ((ins m c t).rows (k0_pay4 (F := Ideal)) ++ [⟨Rect.unit ![0, 0] ![8, 512] inb_S8x512_S8x512_0_0, k0_pay4 (F := Ideal)⟩]) := by
  rw [outsAt0_A m c t h0]
  frame_open
  simp (disch := decide) only [↓ View.readCov_skip, ↓ View.readCov_cons_toLoadRect, ↓ View.readCov_fill]
  frame_out
  simp only [Ins.rows, Ins.cv, Ins.z, Ins.z1, Ins.z2, Ins.gc, Ins.u, Ins.hc, Ins.hu, Ins.w0, Ins.w1, Ins.w2, Ins.w3, Ins.dcv, Ins.dyc, Ins.gb, Ins.dcat, Ins.p3, ins, List.cons_append, List.nil_append]

theorem o11B (t : Fin cfg0.N) (h0 : ¬ t.val % 16 = 0) : (outsAt0 m c t.val t.isLt).2.2.2.2.1
    = View.read (Elt Ideal) (ms0_11 t).view ((ms0_11 t).view.writes (Elt Ideal) ((hs0_11 t).unread (outsAt0 m c (t.val - 1) (by omega)).2.2.2.2.1)
      ((ins m c t).rows (outsAt0 m c (t.val - 1) (by omega)).2.2.2.2.1)) := by
  rw [outsAt0_B m c t h0]
  frame_out
  simp only [Ins.rows, Ins.cv, Ins.z, Ins.z1, Ins.z2, Ins.gc, Ins.u, Ins.hc, Ins.hu, Ins.w0, Ins.w1, Ins.w2, Ins.w3, Ins.dcv, Ins.dyc, Ins.gb, Ins.dcat, Ins.p3, ins]

end Cert.MixerBwd

end
-- ==== Proof.MixerBwdIn.lean ====
module

public import Idealize.ShloMosaic.Lib.StableHlo.ReadAt
public import Idealize.ShloMosaic.Lib.Pipeline.ValueKit
public import Idealize.ShloMosaic.Lib.Pipeline.ReadBack
public import proofs.«01_k».proof.Proof.Gen.Kernel8Ideal.Value
public import proofs.«01_k».proof.Proof.MixerBwdOut

@[expose] public section

set_option maxRecDepth 16384

noncomputable section

/-! The blocks each point of the mixer's backward works on, in the functions of the arguments. -/
namespace Cert.MixerBwd

open Cert.Kernel8Ideal Cert.Kernel8Ideal.Gen Idealize.ShloMosaic Idealize.ShloMosaic.Pointwise Idealize.ShloMosaic.TcCoe
open Cert.Reference8Ideal.Read Idealize.SL.Sem

variable (m : (ℓ : Loc nD τ sig) → Buf (Elt Ideal) ℓ) (c : Dev nD)

/-- The arguments the claim reads. -/
def args : Args :=
  ⟨m ((c : Thread nD τ).loc main_arg0), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9)⟩

/-- The tile point `t` works on: the last one first. -/
def tile (t : Fin cfg0.N) : Fin 16 := ⟨15 - t.val, by omega⟩

theorem ix0_0 : ∀ t : Fin cfg0.N, win0_0.index t = ![15 - t.val, 0] :=
  (by decide +kernel : ∀ t : Fin grid0.N, win0_0.index t = ![15 - t.val, 0])
theorem ix0_1 : ∀ t : Fin cfg0.N, win0_1.index t = ![15 - t.val, 0] :=
  (by decide +kernel : ∀ t : Fin grid0.N, win0_1.index t = ![15 - t.val, 0])
theorem ix0_2 : ∀ t : Fin cfg0.N, win0_2.index t = ![0, 0] :=
  (by decide +kernel : ∀ t : Fin grid0.N, win0_2.index t = ![0, 0])
theorem ix0_3 : ∀ t : Fin cfg0.N, win0_3.index t = ![0, 0, 0] :=
  (by decide +kernel : ∀ t : Fin grid0.N, win0_3.index t = ![0, 0, 0])
theorem ix0_4 : ∀ t : Fin cfg0.N, win0_4.index t = ![15 - t.val, 1] :=
  (by decide +kernel : ∀ t : Fin grid0.N, win0_4.index t = ![15 - t.val, 1])
theorem ix0_5 : ∀ t : Fin cfg0.N, win0_5.index t = ![(15 - t.val) * 64 - 1, 1] :=
  (by decide +kernel : ∀ t : Fin grid0.N, win0_5.index t = ![(15 - t.val) * 64 - 1, 1])
theorem ix0_6 : ∀ t : Fin cfg0.N, win0_6.index t = ![0, 0] :=
  (by decide +kernel : ∀ t : Fin grid0.N, win0_6.index t = ![0, 0])
theorem ix0_7 : ∀ t : Fin cfg0.N, win0_7.index t = ![15 - t.val, 0] :=
  (by decide +kernel : ∀ t : Fin grid0.N, win0_7.index t = ![15 - t.val, 0])
theorem ix0_8 : ∀ t : Fin cfg0.N, win0_8.index t = ![15 - t.val, 0] :=
  (by decide +kernel : ∀ t : Fin grid0.N, win0_8.index t = ![15 - t.val, 0])
theorem ix0_9 : ∀ t : Fin cfg0.N, win0_9.index t = ![15 - t.val, 0] :=
  (by decide +kernel : ∀ t : Fin grid0.N, win0_9.index t = ![15 - t.val, 0])
theorem ix0_10 : ∀ t : Fin cfg0.N, win0_10.index t = ![0, 0] :=
  (by decide +kernel : ∀ t : Fin grid0.N, win0_10.index t = ![0, 0])
theorem ix0_11 : ∀ t : Fin cfg0.N, win0_11.index t = ![0, 0] :=
  (by decide +kernel : ∀ t : Fin grid0.N, win0_11.index t = ![0, 0])
theorem ix0_12 : ∀ t : Fin cfg0.N, win0_12.index t = ![0, 15 - t.val, 0] :=
  (by decide +kernel : ∀ t : Fin grid0.N, win0_12.index t = ![0, 15 - t.val, 0])
theorem ix0_13 : ∀ t : Fin cfg0.N, win0_13.index t = ![0, 15 - t.val, 0] :=
  (by decide +kernel : ∀ t : Fin grid0.N, win0_13.index t = ![0, 15 - t.val, 0])
theorem co : ∀ t : Fin cfg0.N, Scalar.subi 15#32 (BitVec.ofNat 32 (grid0.coords t 0).val) = BitVec.ofNat 32 (15 - t.val) :=
  (by decide +kernel : ∀ t : Fin grid0.N, Scalar.subi 15#32 (BitVec.ofNat 32 (grid0.coords t 0).val) = BitVec.ofNat 32 (15 - t.val))

theorem vp (d : Fin 1024) : V m c main_v5 (ix2 (3 : Fin 8) d) = (args m c).gate (ix1 d) := by
  unfold V
  after_reads_at
  after_reads_at
  rfl

theorem vw (a : Fin 8) (r : Fin 128) (d : Fin 1024) : V m c main_v7 (ix3 a r d) = (args m c).wo (ix2 ⟨a.val * 128 + r.val, by omega⟩ d) := by
  unfold V
  after_reads_at
  rfl

theorem vpr (t : Fin 8192) (j : Fin 3072) : V m c main_v46 (ix2 t j) = (args m c).pr (ix2 t j) := by
  unfold V
  after_reads_at
  rfl

theorem vcw (i : Fin 3) (d : Fin 512) : V m c main_v10 (ix2 ⟨i.val, by omega⟩ d) = (args m c).w i d := by
  unfold V
  after_reads_at
  fin_cases i
  · after_reads_at
    rfl
  · after_reads_at
    rfl
  · after_reads_at
    rfl

theorem vcb (d : Fin 512) : V m c main_v10 (ix2 (3 : Fin 8) d) = (args m c).cb (ix1 d) := by
  unfold V
  after_reads_at
  after_reads_at
  rfl

/-- The product, with what the matrix multiplies in its two halves. -/
theorem y_halves (A : Args) (t : Fin 8192) (j : Fin 1024) : A.y t j
    = ∑ k : Fin 512, A.ya (ix2 t k) * A.wo (ix2 ⟨k.val, by omega⟩ j)
      + ∑ k : Fin 512, (A.gb t k * A.cv t k) * A.wo (ix2 ⟨512 + k.val, by omega⟩ j) := by
  unfold Args.y
  refine (Fin.sum_univ_add (a := 512) (b := 512) fun k : Fin (512 + 512) => A.cat t k * A.wo (ix2 k j)).trans ?_
  refine congrArg₂ (· + ·) (Finset.sum_congr rfl fun k _ => ?_) (Finset.sum_congr rfl fun k _ => ?_)
  · refine congrArg₂ (· * ·) ?_ rfl
    unfold Args.cat
    exact dif_pos k.isLt
  · refine congrArg₂ (· * ·) ?_ rfl
    unfold Args.cat
    refine (dif_neg (by show ¬ 512 + k.val < 512; omega)).trans ?_
    refine congrArg (fun q => A.gb t q * A.cv t q) (Fin.ext ?_)
    show 512 + k.val - 512 = k.val
    omega

theorem z_of (A : Args) (q q' : Fin 8192) (a b : Fin 3072) (d : Fin 512) (hq : q.val = q'.val) (ha : a.val = 2048 + d.val) (hb : b.val = 2560 + d.val) :
    A.pr (ix2 q a) * A.pr (ix2 q b) = A.z q' d := by
  obtain rfl : q = q' := Fin.ext hq
  exact congrArg₂ (· * ·) (congrArg (fun j => A.pr (ix2 q j)) (Fin.ext ha)) (congrArg (fun j => A.pr (ix2 q j)) (Fin.ext hb))

theorem zb_of (A : Args) (k : ℕ) (t : Fin 8192) (d : Fin 512) (p : Prop) [Decidable p] (hp : p ↔ k ≤ t.val) (q : p → Fin 8192) (a b : Fin 3072)
    (w : EReal) (hw : w = 0) (hq : ∀ h, (q h).val = t.val - k) (ha : a.val = 2048 + d.val) (hb : b.val = 2560 + d.val) :
    (if h : p then A.pr (ix2 (q h) a) * A.pr (ix2 (q h) b) else w) = A.zb k t d := by
  unfold Args.zb
  by_cases h : k ≤ t.val
  · rw [dif_pos h, dif_pos (hp.mpr h)]
    exact z_of A _ _ _ _ d (hq _) ha hb
  · rw [dif_neg h, dif_neg (fun h' => h (hp.mp h')), hw]

set_option maxHeartbeats 1600000 in
theorem vy (t : Fin 8192) (j : Fin 1024) : V m c main_v45 (ix2 t j) = (args m c).y t j := by
  rw [y_halves]
  unfold V
  after_reads_at
  refine congrArg₂ (· + ·) (Finset.sum_congr rfl fun k _ => ?_) (Finset.sum_congr rfl fun k _ => ?_)
  · after_reads_at
    rfl
  · after_reads_at
    unfold Args.cv
    refine congrArg₂ (· * ·) (congrArg₂ (· * ·) rfl (congrArg₂ (· + ·) (congrArg₂ (· + ·) (congrArg₂ (· + ·)
      (congrArg₂ (· * ·) rfl ?_) (congrArg₂ (· * ·) rfl ?_)) (congrArg₂ (· * ·) rfl ?_)) rfl)) rfl
    · exact zb_of (args m c) 2 t k (2 ≤ t.val ∧ t.val - 2 < 8192) (by omega) (fun h => ⟨t.val - 2, h.2⟩) ⟨1536 + (512 + k.val), by omega⟩
        ⟨1536 + (1024 + k.val), by omega⟩ _ word_zero (fun _ => by show t.val - 2 = t.val - 2; omega)
        (by show 1536 + (512 + k.val) = 2048 + k.val; omega) (by show 1536 + (1024 + k.val) = 2560 + k.val; omega)
    · exact zb_of (args m c) 1 t k (2 ≤ 1 + t.val ∧ 1 + t.val - 2 < 8192) (by omega) (fun h => ⟨1 + t.val - 2, h.2⟩) ⟨1536 + (512 + k.val), by omega⟩
        ⟨1536 + (1024 + k.val), by omega⟩ _ word_zero (fun _ => by show 1 + t.val - 2 = t.val - 1; omega)
        (by show 1536 + (512 + k.val) = 2048 + k.val; omega) (by show 1536 + (1024 + k.val) = 2560 + k.val; omega)
    · exact z_of (args m c) _ _ _ _ k rfl (by show 1536 + (512 + k.val) = 2048 + k.val; omega) (by show 1536 + (1024 + k.val) = 2560 + k.val; omega)

theorem X0 (t : Fin cfg0.N) (r : Fin 512) (k : Fin 1024) : iblk m c 0 t (ix2 r k) = (args m c).x (ix2 (tk (tile t) r) k) := by
  refine Eq.trans ?_ (congrFun (V_main_arg0 m c) (ix2 (tk (tile t) r) k))
  show V m c main_arg0 (((cfg0.win 0).blk t).view.emb (ix2 r k)) = _
  generalize V m c main_arg0 = A
  blk_ext [ix0_0 t, tile, tk]

theorem X1 (t : Fin cfg0.N) (r : Fin 512) (k : Fin 1024) : iblk m c 1 t (ix2 r k) = (args m c).y (tk (tile t) r) k := by
  refine Eq.trans ?_ (vy m c (tk (tile t) r) k)
  show V m c main_v45 (((cfg0.win 1).blk t).view.emb (ix2 r k)) = _
  generalize V m c main_v45 = A
  blk_ext [ix0_1 t, tile, tk]

theorem X2 (t : Fin cfg0.N) (k : Fin 1024) : iblk m c 2 t (ix2 3 k) = (args m c).gate (ix1 k) := by
  refine Eq.trans ?_ (vp m c k)
  show V m c main_v5 (((cfg0.win 2).blk t).view.emb (ix2 3 k)) = _
  generalize V m c main_v5 = A
  blk_ext [ix0_2 t]

theorem X3 (t : Fin cfg0.N) (a : Fin 8) (r : Fin 128) (d : Fin 1024) :
    iblk m c 3 t (ix3 a r d) = (args m c).wo (ix2 ⟨a.val * 128 + r.val, by omega⟩ d) := by
  refine Eq.trans ?_ (vw m c a r d)
  show V m c main_v7 (((cfg0.win 3).blk t).view.emb (ix3 a r d)) = _
  generalize V m c main_v7 = A
  blk_ext [ix0_3 t]

theorem X4 (t : Fin cfg0.N) (r : Fin 512) (j : Fin 1536) : iblk m c 4 t (ix2 r j) = (args m c).pr (ix2 (tk (tile t) r) ⟨1536 + j.val, by omega⟩) := by
  refine Eq.trans ?_ (vpr m c (tk (tile t) r) ⟨1536 + j.val, by omega⟩)
  show V m c main_v46 (((cfg0.win 4).blk t).view.emb (ix2 r j)) = _
  generalize V m c main_v46 = A
  blk_ext [ix0_4 t, tile, tk]

theorem X5 (t : Fin cfg0.N) (i : Fin 8) (j : Fin 1536) (h : 0 < (tile t).val) :
    iblk m c 5 t (ix2 i j) = (args m c).pr (ix2 ⟨(tile t).val * 512 - 8 + i.val, by omega⟩ ⟨1536 + j.val, by omega⟩) := by
  have e : (tile t).val = 15 - t.val := rfl
  refine Eq.trans ?_ (vpr m c ⟨(tile t).val * 512 - 8 + i.val, by omega⟩ ⟨1536 + j.val, by omega⟩)
  show V m c main_v46 (((cfg0.win 5).blk t).view.emb (ix2 i j)) = _
  generalize V m c main_v46 = A
  refine congrArg A (funext fun x => Fin.ext ?_)
  fin_cases x
  · blk_simp [ix0_5 t]
    show ((15 - t.val) * 64 - 1) * 8 + i.val = (15 - t.val) * 512 - 8 + i.val
    omega
  · blk_simp [ix0_5 t]
    rfl

theorem X6 (t : Fin cfg0.N) (i : Fin 3) (d : Fin 512) : iblk m c 6 t (ix2 ⟨i.val, by omega⟩ d) = (args m c).w i d := by
  refine Eq.trans ?_ (vcw m c i d)
  show V m c main_v10 (((cfg0.win 6).blk t).view.emb (ix2 ⟨i.val, by omega⟩ d)) = _
  generalize V m c main_v10 = A
  blk_ext [ix0_6 t]

theorem X63 (t : Fin cfg0.N) (d : Fin 512) : iblk m c 6 t (ix2 3 d) = (args m c).cb (ix1 d) := by
  refine Eq.trans ?_ (vcb m c d)
  show V m c main_v10 (((cfg0.win 6).blk t).view.emb (ix2 3 d)) = _
  generalize V m c main_v10 = A
  blk_ext [ix0_6 t]

theorem ok_x0 (t : Fin cfg0.N) (r k) : (ins m c t).x0 (ix2 r k) = (args m c).x (ix2 (tk (tile t) r) k) := X0 m c t r k
theorem ok_x1 (t : Fin cfg0.N) (r k) : (ins m c t).x1 (ix2 r k) = (args m c).y (tk (tile t) r) k := X1 m c t r k
theorem ok_x2 (t : Fin cfg0.N) (k) : (ins m c t).x2 (ix2 3 k) = (args m c).gate (ix1 k) := X2 m c t k
theorem ok_v0 (t : Fin cfg0.N) : (ins m c t).v0 = BitVec.ofNat 32 (tile t).val := co t
theorem ok_x4 (t : Fin cfg0.N) (r) (j : Fin 1536) : (ins m c t).x4 (ix2 r j) = (args m c).pr (ix2 (tk (tile t) r) ⟨1536 + j.val, by omega⟩) := X4 m c t r j

theorem ok (t : Fin cfg0.N) : Ok (args m c) (tile t) (ins m c t) where
  v0 := ok_v0 m c t
  x0 := ok_x0 m c t
  x1 := ok_x1 m c t
  x2 := ok_x2 m c t
  x3 := X3 m c t
  x4 := ok_x4 m c t
  x5 := X5 m c t
  x6 := X6 m c t
  x63 := X63 m c t

/-- The rows a point finds are the gradients at the first tokens of the tile after. -/
theorem car (t : Fin cfg0.N) (i : Fin 8) (k : ℕ) (hk : k = i.val + 1) (d : Fin 512) : kcar m c t (ix2 i d) = (args m c).da k (tk (tile t) 511) d := by
  have hN : t.val < 16 := t.isLt
  have ht : (tk (tile t) 511).val = (15 - t.val) * 512 + 511 := rfl
  unfold Args.da
  by_cases h0 : t.val % 16 = 0
  · rw [kcar_A m c t h0, dif_neg (by omega)]
    pointwise [k0_pay5]
  · rw [kcar_B m c t h0, dif_pos (by omega)]
    have e := oc m c ⟨t.val - 1, by omega⟩
    refine (congrFun e (ix2 i d)).trans ?_
    pointwise [k0_pay2]
    refine ((ok m c ⟨t.val - 1, by omega⟩).dcv _ d).trans (congrArg (fun q => (args m c).dcv q d) (Fin.ext ?_))
    show (15 - (t.val - 1)) * 512 + i.val = (15 - t.val) * 512 + 511 + k
    omega

end Cert.MixerBwd

end
-- ==== Proof.MixerBwd.lean ====
module

public import Idealize.ShloMosaic.Lib.Quiescent
public import Idealize.ShloMosaic.Lib.Pipeline.ValueKit
public import Idealize.ShloMosaic.Lib.Pipeline.ReadBack
public import proofs.«01_k».proof.Defs
public import proofs.«01_k».proof.Proof.Gen.Reference8Ideal.Run
public import proofs.«01_k».proof.Proof.MixerBwdIn

@[expose] public section

set_option maxRecDepth 16384

noncomputable section

/-! The backward of the mixer's output projection, gate and short convolution. -/
namespace Cert.MixerBwd

open Cert.Kernel8Ideal Cert.Kernel8Ideal.Gen Idealize.ShloMosaic Idealize.ShloMosaic.Pointwise Idealize.ShloMosaic.TcCoe
open Cert.Reference8Ideal.Read Idealize.SL.Sem

variable (m : (ℓ : Loc nD τ sig) → Buf (Elt Ideal) ℓ) (c : Dev nD)

/-- The rows written over contents that already hold `st`: each grows by its tile's sum. -/
theorem rows_read {A : Args} {b : Fin 16} {I : Ins} (h : Ok A b I) {κ : Kind} {sp : Space} (v : View sig κ sp S8x512 .f32)
    (f : v.ty.Contents (Elt Ideal)) (L : List (View.Piece (Elt Ideal) S8x512 .f32)) (st : Vec Ideal S8x512 .f32) (r : Fin 8) (d : Fin 512)
    (hL : v.read (Elt Ideal) (v.writes (Elt Ideal) f L) (ix2 r d) = st (ix2 r d)) :
    v.read (Elt Ideal) (v.writes (Elt Ideal) f (I.rows st ++ L)) (ix2 r d) = st (ix2 r d) + ∑ i, A.tconv r d (tk b i) := by
  have at0 : ∀ i : ℕ, r.val ≠ i → ((ix2 r d : S8x512.Idx) 0).val < i ∨ i + 1 ≤ ((ix2 r d : S8x512.Idx) 0).val := fun i hi => by
    show r.val < i ∨ i + 1 ≤ r.val; omega
  unfold Ins.rows
  simp only [List.cons_append, List.nil_append]
  by_cases h3 : r.val = 3
  · obtain rfl : r = 3 := Fin.ext h3
    rw [View.read_writes_cons_hit_of_coords (x := ix2 0 d) (hx := fun a => by fin_cases a <;> simp)]
    exact h.row3 st d
  rw [View.read_writes_cons_miss_of_axis v f _ _ _ 0 3 1 rfl rfl rfl (at0 3 h3)]
  by_cases h2 : r.val = 2
  · obtain rfl : r = 2 := Fin.ext h2
    rw [View.read_writes_cons_hit_of_coords (x := ix2 0 d) (hx := fun a => by fin_cases a <;> simp)]
    exact h.row2 st d
  rw [View.read_writes_cons_miss_of_axis v f _ _ _ 0 2 1 rfl rfl rfl (at0 2 h2)]
  by_cases h1 : r.val = 1
  · obtain rfl : r = 1 := Fin.ext h1
    rw [View.read_writes_cons_hit_of_coords (x := ix2 0 d) (hx := fun a => by fin_cases a <;> simp)]
    exact h.row1 st d
  rw [View.read_writes_cons_miss_of_axis v f _ _ _ 0 1 1 rfl rfl rfl (at0 1 h1)]
  by_cases h0 : r.val = 0
  · obtain rfl : r = 0 := Fin.ext h0
    rw [View.read_writes_cons_hit_of_coords (x := ix2 0 d) (hx := fun a => by fin_cases a <;> simp)]
    exact h.row0 st d
  rw [View.read_writes_cons_miss_of_axis v f _ _ _ 0 0 1 rfl rfl rfl (at0 0 h0), hL]
  have e : ∑ i, A.tconv r d (tk b i) = 0 := Finset.sum_eq_zero fun i _ => by
    unfold Args.tconv
    rw [if_neg h0, if_neg h1, if_neg h2, if_neg h3]
  rw [e, add_zero]

theorem grow_read {A : Args} {b : Fin 16} {I : Ins} (h : Ok A b I) {κ : Kind} {sp : Space} (v : View sig κ sp S8x1024 .f32)
    (f : v.ty.Contents (Elt Ideal)) (L : List (View.Piece (Elt Ideal) S8x1024 .f32)) (st : Vec Ideal S8x1024 .f32) (r : Fin 8) (d : Fin 1024)
    (hL : v.read (Elt Ideal) (v.writes (Elt Ideal) f L) (ix2 r d) = st (ix2 r d)) :
    v.read (Elt Ideal) (v.writes (Elt Ideal) f (I.grow st ++ L)) (ix2 r d) = st (ix2 r d) + ∑ i, A.tgate r d (tk b i) := by
  unfold Ins.grow
  simp only [List.cons_append, List.nil_append]
  by_cases h3 : r.val = 3
  · obtain rfl : r = 3 := Fin.ext h3
    rw [View.read_writes_cons_hit_of_coords (x := ix2 0 d) (hx := fun a => by fin_cases a <;> simp)]
    exact h.rowg st d
  rw [View.read_writes_cons_miss_of_axis v f _ _ _ 0 3 1 rfl rfl rfl (by show r.val < 3 ∨ 3 + 1 ≤ r.val; omega), hL]
  have e : ∑ i, A.tgate r d (tk b i) = 0 := Finset.sum_eq_zero fun i _ => by
    unfold Args.tgate
    rw [if_neg h3]
  rw [e, add_zero]

theorem cs_first (t : Fin cfg0.N) (h0 : t.val % 16 = 0) (r : Fin 8) (d : Fin 512) :
    (outsAt0 m c t.val t.isLt).2.2.2.2.1 (ix2 r d) = 0 + ∑ i, (args m c).tconv r d (tk (tile t) i) := by
  rw [o11A m c t h0, ← View.read_writes_junk_eq_canon (ms0_11 t).view]
  refine (rows_read (ok m c t) _ _ _ _ r d ?_).trans ?_
  · rw [View.read_writes_cons_hit_of_coords (x := ix2 r d) (hx := fun a => by fin_cases a <;> simp)]
  · rw [show k0_pay4 (F := Ideal) (ix2 r d) = 0 by pointwise [k0_pay4]]

theorem cs_step (t : Fin cfg0.N) (h0 : ¬ t.val % 16 = 0) (r : Fin 8) (d : Fin 512) : (outsAt0 m c t.val t.isLt).2.2.2.2.1 (ix2 r d)
    = (outsAt0 m c (t.val - 1) (by omega)).2.2.2.2.1 (ix2 r d) + ∑ i, (args m c).tconv r d (tk (tile t) i) := by
  rw [o11B m c t h0, ← List.append_nil (Ins.rows _ _)]
  refine rows_read (ok m c t) _ _ _ _ r d ?_
  rw [View.writes_nil, (hs0_11 t).read_unread]

theorem st_first (t : Fin cfg0.N) (h0 : t.val % 16 = 0) (r : Fin 8) (d : Fin 1024) :
    (outsAt0 m c t.val t.isLt).2.2.2.1 (ix2 r d) = 0 + ∑ i, (args m c).tgate r d (tk (tile t) i) := by
  rw [o10A m c t h0, ← View.read_writes_junk_eq_canon (ms0_10 t).view]
  refine (grow_read (ok m c t) _ _ _ _ r d ?_).trans ?_
  · rw [View.read_writes_cons_hit_of_coords (x := ix2 r d) (hx := fun a => by fin_cases a <;> simp)]
  · rw [show k0_pay3 (F := Ideal) (ix2 r d) = 0 by pointwise [k0_pay3]]

theorem st_step (t : Fin cfg0.N) (h0 : ¬ t.val % 16 = 0) (r : Fin 8) (d : Fin 1024) : (outsAt0 m c t.val t.isLt).2.2.2.1 (ix2 r d)
    = (outsAt0 m c (t.val - 1) (by omega)).2.2.2.1 (ix2 r d) + ∑ i, (args m c).tgate r d (tk (tile t) i) := by
  rw [o10B m c t h0, ← List.append_nil (Ins.grow _ _)]
  refine grow_read (ok m c t) _ _ _ _ r d ?_
  rw [View.writes_nil, (hs0_10 t).read_unread]

omit m c in
/-- The tiles, last one first, hold every token once. -/
theorem sum_tok (g : Fin 8192 → EReal) : ∑ p : Fin cfg0.N, ∑ i, g (tk (tile p) i) = ∑ t, g t := by
  rw [← Fintype.sum_prod_type' (f := fun p i => g (tk (tile p) i))]
  refine Fintype.sum_equiv ((Equiv.prodCongr ((finCongr N_0).trans Fin.revPerm) (Equiv.refl _)).trans (finProdFinEquiv (m := 16) (n := 512))) _ _ fun x => ?_
  refine congrArg g (Fin.ext ?_)
  have h : x.1.val < 16 := x.1.isLt
  show (15 - x.1.val) * 512 + x.2.val = x.2.val + 512 * (16 - (x.1.val + 1))
  omega

/-- After the last point the rows hold the sums over all tokens. -/
theorem cs_last (t : Fin cfg0.N) (ht : t.val + 1 = cfg0.N) (r : Fin 8) (d : Fin 512) :
    (outsAt0 m c t.val t.isLt).2.2.2.2.1 (ix2 r d) = ∑ t, (args m c).tconv r d t :=
  (Pipeline.eq_sum_fin_of_reset_step_apply_last (fun n hn => fun i : Fin 8 × Fin 512 => (outsAt0 m c n hn).2.2.2.2.1 (ix2 i.1 i.2)) 16 (fun _ => 0)
    (fun p i => ∑ k, (args m c).tconv i.1 i.2 (tk (tile p) k)) (fun t h0 i => cs_first m c t h0 i.1 i.2) (fun t h0 i => cs_step m c t h0 i.1 i.2)
    (le_of_eq N_0) t ht (r, d)).trans ((zero_add _).trans (sum_tok _))

theorem st_last (t : Fin cfg0.N) (ht : t.val + 1 = cfg0.N) (r : Fin 8) (d : Fin 1024) :
    (outsAt0 m c t.val t.isLt).2.2.2.1 (ix2 r d) = ∑ t, (args m c).tgate r d t :=
  (Pipeline.eq_sum_fin_of_reset_step_apply_last (fun n hn => fun i : Fin 8 × Fin 1024 => (outsAt0 m c n hn).2.2.2.1 (ix2 i.1 i.2)) 16 (fun _ => 0)
    (fun p i => ∑ k, (args m c).tgate i.1 i.2 (tk (tile p) k)) (fun t h0 i => st_first m c t h0 i.1 i.2) (fun t h0 i => st_step m c t h0 i.1 i.2)
    (le_of_eq N_0) t ht (r, d)).trans ((zero_add _).trans (sum_tok _))

theorem arr7 : (dats m 0 c).arrAt 7 cfg0.N = val_main_v97 (F := Ideal) (args m c).x (args m c).gate (args m c).wo := by
  refine (dats m 0 c).arrAt_eq_of_covers 7 _ (by decide +kernel) fun t hf y => ?_
  blk_simp
  rw [after0_7, o7]
  idx_vars y
  pointwise [k0_pay15]
  refine ((ok m c t).dcat y0 _).trans ((r_dya (args m c) (tk (tile t) y0) y1).symm.trans ?_)
  refine congrArg (val_main_v97 (F := Ideal) (args m c).x (args m c).gate (args m c).wo) (funext fun x => Fin.ext ?_)
  fin_cases x <;> blk_simp [ix0_7 t, tile, tk] <;> rfl

theorem arr8 : (dats m 0 c).arrAt 8 cfg0.N
    = val_main_v99 (F := Ideal) (args m c).x (args m c).gate (args m c).wo (args m c).pr (args m c).cw (args m c).cb := by
  refine (dats m 0 c).arrAt_eq_of_covers 8 _ (by decide +kernel) fun t hf y => ?_
  blk_simp
  rw [after0_8, o8]
  idx_vars y
  rw [(ok m c t).dp (car m c t 0 1 rfl) (car m c t 1 2 rfl)]
  refine (r_dp (args m c) (tk (tile t) y0) y1).symm.trans ?_
  refine congrArg (val_main_v99 (F := Ideal) (args m c).x (args m c).gate (args m c).wo (args m c).pr (args m c).cw (args m c).cb) (funext fun x => Fin.ext ?_)
  fin_cases x <;> blk_simp [ix0_8 t, tile, tk] <;> rfl

theorem arr9 : (dats m 0 c).arrAt 9 cfg0.N = val_main_v100 (F := Ideal) (args m c).x (args m c).gate := by
  refine (dats m 0 c).arrAt_eq_of_covers 9 _ (by decide +kernel) fun t hf y => ?_
  blk_simp
  rw [after0_9, o9]
  idx_vars y
  refine ((ok m c t).dy y0 y1).trans ((r_dy (args m c) (tk (tile t) y0) y1).symm.trans ?_)
  refine congrArg (val_main_v100 (F := Ideal) (args m c).x (args m c).gate) (funext fun x => Fin.ext ?_)
  fin_cases x <;> blk_simp [ix0_9 t, tile, tk] <;> rfl

theorem arr10 : (dats m 0 c).arrAt 10 cfg0.N
    = val_main_v87 (F := Ideal) (args m c).x (args m c).wo (args m c).ya (args m c).pr (args m c).cw (args m c).cb := by
  refine (dats m 0 c).arrAt_eq_of_covers 10 _ (by decide +kernel) fun t hf y => ?_
  have ht : t.val + 1 = cfg0.N := by
    have := (flush0_10 t).mp hf; have e : cfg0.N = 16 := N_0; have := t.isLt; omega
  blk_simp
  rw [after0_10]
  idx_vars y
  rw [st_last m c t ht]
  refine (r_sums (args m c) y0 y1).symm.trans ?_
  refine congrArg (val_main_v87 (F := Ideal) (args m c).x (args m c).wo (args m c).ya (args m c).pr (args m c).cw (args m c).cb) (funext fun x => Fin.ext ?_)
  fin_cases x <;> blk_simp [ix0_10 t] <;> rfl

theorem arr11 : (dats m 0 c).arrAt 11 cfg0.N = val_main_v90 (F := Ideal) (args m c).x (args m c).gate (args m c).wo (args m c).pr := by
  refine (dats m 0 c).arrAt_eq_of_covers 11 _ (by decide +kernel) fun t hf y => ?_
  have ht : t.val + 1 = cfg0.N := by
    have := (flush0_11 t).mp hf; have e : cfg0.N = 16 := N_0; have := t.isLt; omega
  blk_simp
  rw [after0_11]
  idx_vars y
  rw [cs_last m c t ht]
  refine (r_conv (args m c) y0 y1).symm.trans ?_
  refine congrArg (val_main_v90 (F := Ideal) (args m c).x (args m c).gate (args m c).wo (args m c).pr) (funext fun x => Fin.ext ?_)
  fin_cases x <;> blk_simp [ix0_11 t] <;> rfl

theorem arr12 : (dats m 0 c).arrAt 12 cfg0.N = val_main_v93 (F := Ideal) (args m c).x (args m c).gate (args m c).wo := by
  refine (dats m 0 c).arrAt_eq_of_covers 12 _ (by decide +kernel) fun t hf y => ?_
  blk_simp
  rw [after0_12, o12]
  idx_vars y
  refine ((ok m c t).dcat _ _).trans (Eq.trans ?_ ((r_res4 (args m c) y0 ⟨(tile t).val * 128 + y1.val, by omega⟩ y2).symm.trans ?_))
  · refine congrArg₂ (args m c).dcat (Fin.ext ?_) rfl
    show (tile t).val * 512 + (y1.val * 4 + y0.val) = ((tile t).val * 128 + y1.val) * 4 + y0.val
    omega
  refine congrArg (val_main_v93 (F := Ideal) (args m c).x (args m c).gate (args m c).wo) (funext fun x => Fin.ext ?_)
  fin_cases x <;> blk_simp [ix0_12 t, tile] <;> rfl

theorem arr13 : (dats m 0 c).arrAt 13 cfg0.N = val_main_v96 (F := Ideal) (args m c).x (args m c).gate (args m c).wo := by
  refine (dats m 0 c).arrAt_eq_of_covers 13 _ (by decide +kernel) fun t hf y => ?_
  blk_simp
  rw [after0_13, o13]
  idx_vars y
  refine ((ok m c t).dcat _ _).trans (Eq.trans ?_ ((r_res16 (args m c) y0 ⟨(tile t).val * 32 + y1.val, by omega⟩ y2).symm.trans ?_))
  · refine congrArg₂ (args m c).dcat (Fin.ext ?_) rfl
    show (tile t).val * 512 + (y1.val * 16 + y0.val) = ((tile t).val * 32 + y1.val) * 16 + y0.val
    omega
  refine congrArg (val_main_v96 (F := Ideal) (args m c).x (args m c).gate (args m c).wo) (funext fun x => Fin.ext ?_)
  fin_cases x <;> blk_simp [ix0_13 t, tile] <;> rfl

/-- The reference ends with its arguments unchanged and, as it has none, every counter at zero. -/
theorem frame_ref : Cert.quiescent_Reference8Ideal (hReference8Ideal := Cert.Reference8Ideal.Gen.facts) := fun m ρ _ =>
  (θ_run _ _ _).mono (fun r h => ⟨fun c => (h c).2.2.2.2.2.2.2, sem_eq_zero_of_no_sems rfl r.2⟩) (Cert.Reference8Ideal.Value.run m ρ)

set_option maxHeartbeats 4000000 in
/-- The algebraic claim of the mixer's backward. -/
theorem algebraic : Cert.algebraic_Kernel8Ideal_Reference8Ideal (hKernel8Ideal := Cert.Kernel8Ideal.Gen.facts)
    (hReference8Ideal := Cert.Reference8Ideal.Gen.facts) := by
  intro m g m' g' _ ha
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    fun c => (dats m 0 c).arrAt 13 cfg0.N, Cert.Kernel8Ideal.Value.run_blocks m g,
    (θ_run _ _ _).mono (fun r h c => ?_) (Cert.Reference8Ideal.Value.run m' g')⟩
  obtain ⟨a0, a1, a2, a3, a4, a5, a6, a7, a8, a9⟩ := ha c
  obtain ⟨r0, r1, r2, r3, r4, r5, r6, rest⟩ := h c
  rw [val_main_v97_eq, a0, a4, a5] at r0
  rw [val_main_v99_eq, a0, a4, a5, a7, a8, a9] at r1
  rw [val_main_v100_eq, a0, a4] at r2
  rw [val_main_v87_eq, a0, a5, a6, a7, a8, a9] at r3
  rw [val_main_v90_eq, a0, a4, a5, a7] at r4
  rw [val_main_v93_eq, a0, a4, a5] at r5
  rw [val_main_v96_eq, a0, a4, a5] at r6
  exact ⟨r0.trans (arr7 m c).symm, r1.trans (arr8 m c).symm, r2.trans (arr9 m c).symm, r3.trans (arr10 m c).symm,
    r4.trans (arr11 m c).symm, r5.trans (arr12 m c).symm, r6.trans (arr13 m c).symm, rest⟩

end Cert.MixerBwd

end
-- ==== Proof.LossHead.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Math
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

/-! The loss of one device's tokens and its gradient at the last layer's output. -/
namespace Cert.LossHead

open Cert.Kernel9Ideal Cert.Kernel9Ideal.Gen Idealize.ShloMosaic Idealize.ShloMosaic.Pointwise Idealize.ShloMosaic.TcCoe
open Cert.Reference9Ideal.Read Idealize.SL.Sem

/-- A token's squared difference. -/
def sq (x y : FVec Ideal S8192x1024 .f32) (t : Fin 8192) : EReal :=
  ∑ d : Fin 1024, (x (ix2 t d) - y (ix2 t d)) * (x (ix2 t d) - y (ix2 t d))

/-- A token's part of the loss. -/
def part (x y : FVec Ideal S8192x1024 .f32) (t : Fin 8192) : EReal := ((1 / 2 : ℝ) : EReal) * (sq x y t * ((1 / 1024 : ℝ) : EReal))

theorem lit_part : Ideal.ofBits .f32 0x3A800000#32 = ((1 / 1024 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- A half goes into a sum, at the infinities too. -/
theorem half_sum {ι : Type} (s : Finset ι) (f : ι → EReal) :
    ((1 / 2 : ℝ) : EReal) * ∑ i ∈ s, f i = ∑ i ∈ s, ((1 / 2 : ℝ) : EReal) * f i := by
  classical
  induction s using Finset.induction with
  | empty => simp
  | insert a s ha ih =>
    rw [Finset.sum_insert ha, Finset.sum_insert ha, EReal.left_distrib_of_nonneg_of_ne_top (by exact_mod_cast (by norm_num : (0 : ℝ) ≤ 1 / 2))
      (EReal.coe_ne_top _), ih]

theorem dx_pay (a b : Vec Ideal S512x1024 .f32) (r : Fin 512) (d : Fin 1024) :
    k0_pay3 a b (ix2 r d) = (a (ix2 r d) - b (ix2 r d)) * ((1 / 1024 : ℝ) : EReal) := by
  pointwise [k0_pay3, k0_pay2]
  rw [lit_part]

theorem loss_pay (a b : Vec Ideal S512x1024 .f32) (st : Vec Ideal S8x128 .f32) (i : Fin 8) (j : Fin 128) :
    k0_pay4 a b st (ix2 i j) = st (ix2 i j) + ((1 / 2 : ℝ) : EReal) *
      ∑ r : Fin 512, (∑ d : Fin 1024, (a (ix2 r d) - b (ix2 r d)) * (a (ix2 r d) - b (ix2 r d))) * ((1 / 1024 : ℝ) : EReal) := by
  pointwise [k0_pay4, k0_pay2]
  rw [lit_part, Cert.Ffn.lit_half]
  simp only [Fintype.sum_unique]

theorem ref_dx (x y : FVec Ideal S8192x1024 .f32) (t : Fin 8192) (d : Fin 1024) :
    val_main_v14 (F := Ideal) x y (ix2 t d) = (x (ix2 t d) - y (ix2 t d)) * ((1 / 1024 : ℝ) : EReal) := by
  unfold val_main_v14 val_main_v13 val_main_v12 val_main_v11 val_main_v10 val_main_v9 val_main_v3 val_main_v2 val_main_v0 val_main_cst val_main_cst_4 val_main_cst_5 val_main_cst_6
  pointwise
  rw [Cert.Ffn.lit_half, Cert.Ffn.lit_1024, lit_two, Cert.Ffn.ideal_div _ _ (by norm_num), ← mul_assoc, ← EReal.coe_mul, mul_comm]
  norm_num

theorem ref_loss (x y : FVec Ideal S8192x1024 .f32) (i : Fin 8) (j : Fin 128) :
    val_main_v15 (F := Ideal) x y (ix2 i j) = ∑ t : Fin 8192, part x y t := by
  unfold val_main_v15 val_main_v8 val_main_v7 val_main_v6 val_main_v5 val_main_v4 val_main_v1 val_main_v0 val_main_cst_0 val_main_cst_1 val_main_cst_2 val_main_cst_3
  pointwise
  rw [Cert.Ffn.lit_half, Cert.Ffn.lit_1024, half_sum]
  exact Finset.sum_congr rfl fun t _ => by rw [Ideal.div_coe (by norm_num)]; rfl

variable (m : (ℓ : Loc nD τ sig) → Buf (Elt Ideal) ℓ) (c : Dev nD)

theorem o2A (t : Fin cfg0.N) (h0 : t.val % 16 = 0) : (outsAt0 m c t.val t.isLt).1 = k0_pay3 (iblk m c 0 t) (iblk m c 1 t) := by
  rw [outsAt0_A m c t h0]
  frame_out

theorem o2B (t : Fin cfg0.N) (h0 : ¬ t.val % 16 = 0) : (outsAt0 m c t.val t.isLt).1 = k0_pay3 (iblk m c 0 t) (iblk m c 1 t) := by
  rw [outsAt0_B m c t h0]
  frame_out

theorem o3A (t : Fin cfg0.N) (h0 : t.val % 16 = 0) :
    (outsAt0 m c t.val t.isLt).2 = k0_pay4 (iblk m c 0 t) (iblk m c 1 t) (k0_pay1 (F := Ideal)) := by
  rw [outsAt0_A m c t h0]
  frame_out

theorem o3B (t : Fin cfg0.N) (h0 : ¬ t.val % 16 = 0) :
    (outsAt0 m c t.val t.isLt).2 = k0_pay4 (iblk m c 0 t) (iblk m c 1 t) (outsAt0 m c (t.val - 1) (by omega)).2 := by
  rw [outsAt0_B m c t h0]
  frame_out

/-- The tokens of grid point `t`. -/
def tok (t : Fin cfg0.N) (r : Fin 512) : Fin 8192 := ⟨t.val * 512 + r.val, by have := t.isLt; have e : cfg0.N = 16 := N_0; omega⟩

theorem ix0_0 : ∀ t : Fin cfg0.N, win0_0.index t = ![t.val, 0] :=
  (by decide +kernel : ∀ t : Fin grid0.N, win0_0.index t = ![t.val, 0])
theorem ix0_1 : ∀ t : Fin cfg0.N, win0_1.index t = ![t.val, 0] :=
  (by decide +kernel : ∀ t : Fin grid0.N, win0_1.index t = ![t.val, 0])
theorem ix0_2 : ∀ t : Fin cfg0.N, win0_2.index t = ![t.val, 0] :=
  (by decide +kernel : ∀ t : Fin grid0.N, win0_2.index t = ![t.val, 0])
theorem ix0_3 : ∀ t : Fin cfg0.N, win0_3.index t = ![0, 0] :=
  (by decide +kernel : ∀ t : Fin grid0.N, win0_3.index t = ![0, 0])

/-- The arguments. -/
abbrev ax : FVec Ideal S8192x1024 .f32 := m ((c : Thread nD τ).loc main_arg0)
abbrev ay : FVec Ideal S8192x1024 .f32 := m ((c : Thread nD τ).loc main_arg1)

theorem X0 (t : Fin cfg0.N) (r : Fin 512) (d : Fin 1024) : iblk m c 0 t (ix2 r d) = ax m c (ix2 (tok t r) d) := by
  refine Eq.trans ?_ (congrFun (V_main_arg0 m c) (ix2 (tok t r) d))
  show V m c main_arg0 (((cfg0.win 0).blk t).view.emb (ix2 r d)) = _
  generalize V m c main_arg0 = A
  blk_ext [ix0_0 t, tok]

theorem X1 (t : Fin cfg0.N) (r : Fin 512) (d : Fin 1024) : iblk m c 1 t (ix2 r d) = ay m c (ix2 (tok t r) d) := by
  refine Eq.trans ?_ (congrFun (V_main_arg1 m c) (ix2 (tok t r) d))
  show V m c main_arg1 (((cfg0.win 1).blk t).view.emb (ix2 r d)) = _
  generalize V m c main_arg1 = A
  blk_ext [ix0_1 t, tok]

theorem pay_at (t : Fin cfg0.N) (st : Vec Ideal S8x128 .f32) (i : Fin 8) (j : Fin 128) :
    k0_pay4 (iblk m c 0 t) (iblk m c 1 t) st (ix2 i j) = st (ix2 i j) + ∑ r : Fin 512, part (ax m c) (ay m c) (tok t r) := by
  rw [loss_pay, half_sum]
  refine congrArg (st (ix2 i j) + ·) (Finset.sum_congr rfl fun r _ => ?_)
  simp only [X0, X1]
  rfl

theorem first (t : Fin cfg0.N) (h0 : t.val % 16 = 0) (i : Fin 8) (j : Fin 128) :
    (outsAt0 m c t.val t.isLt).2 (ix2 i j) = 0 + ∑ r : Fin 512, part (ax m c) (ay m c) (tok t r) := by
  rw [o3A m c t h0, pay_at, show k0_pay1 (F := Ideal) (ix2 i j) = 0 by pointwise [k0_pay1]]

theorem step (t : Fin cfg0.N) (h0 : ¬ t.val % 16 = 0) (i : Fin 8) (j : Fin 128) : (outsAt0 m c t.val t.isLt).2 (ix2 i j)
    = (outsAt0 m c (t.val - 1) (by omega)).2 (ix2 i j) + ∑ r : Fin 512, part (ax m c) (ay m c) (tok t r) := by
  rw [o3B m c t h0, pay_at]

omit m c in
/-- The tiles hold every token once. -/
theorem sum_tok (g : Fin 8192 → EReal) : ∑ p : Fin cfg0.N, ∑ r, g (tok p r) = ∑ t, g t := by
  rw [← Fintype.sum_prod_type' (f := fun p r => g (tok p r))]
  refine Fintype.sum_equiv ((Equiv.prodCongr (finCongr N_0) (Equiv.refl _)).trans (finProdFinEquiv (m := 16) (n := 512))) _ _ fun x => ?_
  refine congrArg g (Fin.ext ?_)
  show x.1.val * 512 + x.2.val = x.2.val + 512 * x.1.val
  omega

/-- After the last point the block holds the loss of all tokens. -/
theorem last (t : Fin cfg0.N) (ht : t.val + 1 = cfg0.N) (i : Fin 8) (j : Fin 128) :
    (outsAt0 m c t.val t.isLt).2 (ix2 i j) = ∑ t, part (ax m c) (ay m c) t :=
  (Pipeline.eq_sum_fin_of_reset_step_apply_last (fun n hn => fun i : Fin 8 × Fin 128 => (outsAt0 m c n hn).2 (ix2 i.1 i.2)) 16 (fun _ => 0)
    (fun p _ => ∑ r, part (ax m c) (ay m c) (tok p r)) (fun t h0 i => first m c t h0 i.1 i.2) (fun t h0 i => step m c t h0 i.1 i.2)
    (le_of_eq N_0) t ht (i, j)).trans ((zero_add _).trans (sum_tok _))

theorem arr2 : (dats m 0 c).arrAt 2 cfg0.N = val_main_v14 (F := Ideal) (ax m c) (ay m c) := by
  refine (dats m 0 c).arrAt_eq_of_covers 2 _ (by decide +kernel) fun t hf y => ?_
  blk_simp
  have e : (outsAt0 m c t.val t.isLt).1 = k0_pay3 (iblk m c 0 t) (iblk m c 1 t) := by
    by_cases h0 : t.val % 16 = 0
    · exact o2A m c t h0
    · exact o2B m c t h0
  rw [after0_2, e]
  idx_vars y
  rw [dx_pay, X0, X1]
  refine (ref_dx (ax m c) (ay m c) (tok t y0) y1).symm.trans ?_
  refine congrArg (val_main_v14 (F := Ideal) (ax m c) (ay m c)) (funext fun x => Fin.ext ?_)
  fin_cases x <;> blk_simp [ix0_2 t, tok] <;> rfl

theorem arr3 : (dats m 0 c).arrAt 3 cfg0.N = val_main_v15 (F := Ideal) (ax m c) (ay m c) := by
  refine (dats m 0 c).arrAt_eq_of_covers 3 _ (by decide +kernel) fun t hf y => ?_
  have ht : t.val + 1 = cfg0.N := by
    have := (flush0_3 t).mp hf; have e : cfg0.N = 16 := N_0; have := t.isLt; omega
  blk_simp
  rw [after0_3]
  idx_vars y
  rw [last m c t ht]
  refine (ref_loss (ax m c) (ay m c) y0 y1).symm.trans ?_
  refine congrArg (val_main_v15 (F := Ideal) (ax m c) (ay m c)) (funext fun x => Fin.ext ?_)
  fin_cases x <;> blk_simp [ix0_3 t] <;> rfl

/-- The reference ends with its arguments unchanged and, as it has none, every counter at zero. -/
theorem frame_ref : Cert.quiescent_Reference9Ideal (hReference9Ideal := Cert.Reference9Ideal.Gen.facts) := fun m ρ _ =>
  (θ_run _ _ _).mono (fun r h => ⟨fun c => (h c).2.2, sem_eq_zero_of_no_sems rfl r.2⟩) (Cert.Reference9Ideal.Value.run m ρ)

/-- The algebraic claim of the loss head. -/
theorem algebraic : Cert.algebraic_Kernel9Ideal_Reference9Ideal (hKernel9Ideal := Cert.Kernel9Ideal.Gen.facts)
    (hReference9Ideal := Cert.Reference9Ideal.Gen.facts) := by
  intro m g m' g' _ ha
  refine ⟨fun c => (dats m 0 c).arrAt 2 cfg0.N, fun c => (dats m 0 c).arrAt 3 cfg0.N, Cert.Kernel9Ideal.Value.run_blocks m g,
    (θ_run _ _ _).mono (fun r h c => ?_) (Cert.Reference9Ideal.Value.run m' g')⟩
  obtain ⟨a0, a1⟩ := ha c
  obtain ⟨r0, r1, rest⟩ := h c
  rw [val_main_v14_eq, a0, a1] at r0
  rw [val_main_v15_eq, a0, a1] at r1
  exact ⟨r0.trans (arr2 m c).symm, r1.trans (arr3 m c).symm, rest⟩

end Cert.LossHead

end
-- ==== Proof.AdamW.lean ====
module

public import Idealize.ShloMosaic.Lib.Pointwise

@[expose] public section

noncomputable section

/-! One number's step of the optimiser. -/
namespace Cert.AdamW

open Idealize.ShloMosaic

/-- The new first moment, from the gradient and the old one. -/
def nm (g m : EReal) : EReal := Ideal.ofBits .f32 0x3F666666#32 * m + Ideal.ofBits .f32 0x3DCCCCCD#32 * g
/-- The new second moment, from the gradient and the old one. -/
def nv (g v : EReal) : EReal := Ideal.ofBits .f32 0x3F7FBE77#32 * v + Ideal.ofBits .f32 0x3A83126F#32 * (g * g)
/-- The change of the weight, from the gradient, the weight and the old moments. -/
def delta (g w m v : EReal) : EReal := Ideal.ofBits .f32 0xBA83126F#32 *
  (Ideal.div (Ideal.div (nm g m) (Ideal.ofBits .f32 0x3F26BD02#32))
    (Ideal.sqrt (Ideal.div (nv g v) (Ideal.ofBits .f32 0x3C231ACC#32)) + Ideal.ofBits .f32 0x322BCC77#32) + Ideal.ofBits .f32 0x3C23D70A#32 * w)

end Cert.AdamW
-- ==== Proof.AdamWout.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.AdamW
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

/-! The optimiser's step for the mixer's output weight. -/
namespace Cert.AdamWout

open Cert.Kernel10Ideal Cert.Kernel10Ideal.Gen Idealize.ShloMosaic Idealize.ShloMosaic.Pointwise Idealize.ShloMosaic.TcCoe
open Cert.Reference10Ideal.Read Cert.AdamW Idealize.SL.Sem

/-- The sum over the devices, of a layer's block. -/
def gsum (b : FVec Ideal S8x128x1024 .bf16) : FVec Ideal S128x1024 .f32 :=
  k0_pay7 (View.ld (Val := Elt Ideal) (S := S8x128x1024) (e' := .bf16) b (Rect.unit ![0, 0, 0] ![1, 128, 1024] inb_S8x128x1024_S1x128x1024_0_0_0))
    (View.ld (Val := Elt Ideal) (S := S8x128x1024) (e' := .bf16) b (Rect.unit ![1, 0, 0] ![1, 128, 1024] inb_S8x128x1024_S1x128x1024_1_0_0))
    (View.ld (Val := Elt Ideal) (S := S8x128x1024) (e' := .bf16) b (Rect.unit ![2, 0, 0] ![1, 128, 1024] inb_S8x128x1024_S1x128x1024_2_0_0))
    (View.ld (Val := Elt Ideal) (S := S8x128x1024) (e' := .bf16) b (Rect.unit ![3, 0, 0] ![1, 128, 1024] inb_S8x128x1024_S1x128x1024_3_0_0))
    (View.ld (Val := Elt Ideal) (S := S8x128x1024) (e' := .bf16) b (Rect.unit ![4, 0, 0] ![1, 128, 1024] inb_S8x128x1024_S1x128x1024_4_0_0))
    (View.ld (Val := Elt Ideal) (S := S8x128x1024) (e' := .bf16) b (Rect.unit ![5, 0, 0] ![1, 128, 1024] inb_S8x128x1024_S1x128x1024_5_0_0))
    (View.ld (Val := Elt Ideal) (S := S8x128x1024) (e' := .bf16) b (Rect.unit ![6, 0, 0] ![1, 128, 1024] inb_S8x128x1024_S1x128x1024_6_0_0))
    (View.ld (Val := Elt Ideal) (S := S8x128x1024) (e' := .bf16) b (Rect.unit ![7, 0, 0] ![1, 128, 1024] inb_S8x128x1024_S1x128x1024_7_0_0))

theorem gsum_at (b : FVec Ideal S8x128x1024 .bf16) (r : Fin 128) (d : Fin 1024) : gsum b (ix2 r d) = ∑ n : Fin 8, b (ix3 n r d) := by
  pointwise [gsum, k0_pay7]
  rw [Fin.sum_univ_eight]

theorem nm_at (g x : FVec Ideal S128x1024 .f32) (r : Fin 128) (d : Fin 1024) : k0_pay1 g x (ix2 r d) = nm (g (ix2 r d)) (x (ix2 r d)) := by
  pointwise [k0_pay1, nm]

theorem nv_at (g x : FVec Ideal S128x1024 .f32) (r : Fin 128) (d : Fin 1024) : k0_pay2 g x (ix2 r d) = nv (g (ix2 r d)) (x (ix2 r d)) := by
  pointwise [k0_pay2, nv]

theorem delta_at (g x y z : FVec Ideal S128x1024 .f32) (r : Fin 128) (d : Fin 1024) :
    k0_pay3 g x y z (ix2 r d) = delta (g (ix2 r d)) (z (ix2 r d)) (x (ix2 r d)) (y (ix2 r d)) := by
  pointwise [k0_pay3, k0_pay1, k0_pay2, nm, nv, delta]

/-- The gradient's sum, from the argument. -/
def gref (x0 : FVec Ideal S2x8x128x1024 .f32) (l : Fin 2) (r : Fin 128) (d : Fin 1024) : EReal := ∑ n : Fin 8, x0 (ix4 l n r d)

/-- A row of the results. -/
def row (l : Fin 2) (r : Fin 128) : Fin 256 := ⟨l.val * 128 + r.val, by omega⟩

theorem ref_v0 (x0 : FVec Ideal S2x8x128x1024 .f32) (l : Fin 2) (r : Fin 128) (d : Fin 1024) :
    val_main_v0 (F := Ideal) x0 (ix3 l r d) = gref x0 l r d := by
  unfold val_main_v0 val_main_cst gref
  pointwise

theorem ref_m (x0 : FVec Ideal S2x8x128x1024 .f32) (x2 : FVec Ideal S2x128x1024 .f32) (l : Fin 2) (r : Fin 128) (d : Fin 1024) :
    val_main_v5 (F := Ideal) x0 x2 (ix3 l r d) = nm (gref x0 l r d) (x2 (ix3 l r d)) := by
  rw [← ref_v0]; rfl

theorem ref_v (x0 : FVec Ideal S2x8x128x1024 .f32) (x3 : FVec Ideal S2x128x1024 .f32) (l : Fin 2) (r : Fin 128) (d : Fin 1024) :
    val_main_v11 (F := Ideal) x0 x3 (ix3 l r d) = nv (gref x0 l r d) (x3 (ix3 l r d)) := by
  rw [← ref_v0]; rfl

theorem ref_delta (x0 : FVec Ideal S2x8x128x1024 .f32) (x1 x2 x3 : FVec Ideal S2x128x1024 .f32) (l : Fin 2) (r : Fin 128) (d : Fin 1024) :
    val_main_v24 (F := Ideal) x0 x1 x2 x3 (ix3 l r d) = delta (gref x0 l r d) (x1 (ix3 l r d)) (x2 (ix3 l r d)) (x3 (ix3 l r d)) := by
  rw [← ref_v0]; rfl

/-- A result's row is its layer's row. -/
theorem flat (A : FVec Ideal S2x128x1024 .f32) (l : Fin 2) (r : Fin 128) (d : Fin 1024) :
    shapeCast S256x1024 A shapeCasts_S2x128x1024_S256x1024 (ix2 (row l r) d) = A (ix3 l r d) := by
  unfold row
  pointwise

variable (m : (ℓ : Loc nD τ sig) → Buf (Elt Ideal) ℓ) (c : Dev nD)

/-- The gradient's block of the point's layer. -/
def gblk (t : Fin cfg0.N) : FVec Ideal S8x128x1024 .bf16 := if t.val % 2 = 0 then iblk m c 0 t else iblk m c 1 t

set_option maxHeartbeats 800000 in
theorem o_g (t : Fin cfg0.N) : (outsAt0 m c t.val t.isLt).1 = gsum (gblk m c t) := by
  by_cases h0 : t.val % 2 = 0
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_d (t : Fin cfg0.N) : (outsAt0 m c t.val t.isLt).2.1 = k0_pay3 (gsum (gblk m c t)) (iblk m c 3 t) (iblk m c 4 t) (iblk m c 2 t) := by
  by_cases h0 : t.val % 2 = 0
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_m (t : Fin cfg0.N) : (outsAt0 m c t.val t.isLt).2.2.1 = k0_pay1 (gsum (gblk m c t)) (iblk m c 3 t) := by
  by_cases h0 : t.val % 2 = 0
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_v (t : Fin cfg0.N) : (outsAt0 m c t.val t.isLt).2.2.2 = k0_pay2 (gsum (gblk m c t)) (iblk m c 4 t) := by
  by_cases h0 : t.val % 2 = 0
  · rw [outsAt0_A m c t h0 (by omega), gblk, if_pos h0]
    unfold gsum
    frame_out
  · rw [outsAt0_B m c t h0 (by omega), gblk, if_neg h0]
    unfold gsum
    frame_out
    try rfl

theorem V2_at (n : Fin 8) (r : Fin 128) (d : Fin 1024) :
    (V m c main_v2 : FVec Ideal S8x128x1024 .bf16) (ix3 n r d) = (m ((c : Thread nD τ).loc main_arg0) : FVec Ideal S2x8x128x1024 .f32) (ix4 0 n r d) := by
  unfold V
  after_reads_at

theorem V5_at (n : Fin 8) (r : Fin 128) (d : Fin 1024) :
    (V m c main_v5 : FVec Ideal S8x128x1024 .bf16) (ix3 n r d) = (m ((c : Thread nD τ).loc main_arg0) : FVec Ideal S2x8x128x1024 .f32) (ix4 1 n r d) := by
  unfold V
  after_reads_at

theorem V6_at (l : Fin 2) (r : Fin 128) (d : Fin 1024) :
    (V m c main_v6 : FVec Ideal S256x1024 .f32) (ix2 (row l r) d) = (m ((c : Thread nD τ).loc main_arg1) : FVec Ideal S2x128x1024 .f32) (ix3 l r d) := by
  unfold V row
  after_reads_at

theorem V7_at (l : Fin 2) (r : Fin 128) (d : Fin 1024) :
    (V m c main_v7 : FVec Ideal S256x1024 .f32) (ix2 (row l r) d) = (m ((c : Thread nD τ).loc main_arg2) : FVec Ideal S2x128x1024 .f32) (ix3 l r d) := by
  unfold V row
  after_reads_at

theorem V8_at (l : Fin 2) (r : Fin 128) (d : Fin 1024) :
    (V m c main_v8 : FVec Ideal S256x1024 .f32) (ix2 (row l r) d) = (m ((c : Thread nD τ).loc main_arg3) : FVec Ideal S2x128x1024 .f32) (ix3 l r d) := by
  unfold V row
  after_reads_at

/-- The layer of grid point `t`. -/
def lay (t : Fin cfg0.N) : Fin 2 := ⟨t.val, lt_of_lt_of_eq t.isLt N_0⟩

theorem ix0_0 : ∀ t : Fin cfg0.N, win0_0.index t = ![0, 0, 0] :=
  (by decide +kernel : ∀ t : Fin grid0.N, win0_0.index t = ![0, 0, 0])
theorem ix0_1 : ∀ t : Fin cfg0.N, win0_1.index t = ![0, 0, 0] :=
  (by decide +kernel : ∀ t : Fin grid0.N, win0_1.index t = ![0, 0, 0])
theorem ix0_2 : ∀ t : Fin cfg0.N, win0_2.index t = ![t.val, 0] :=
  (by decide +kernel : ∀ t : Fin grid0.N, win0_2.index t = ![t.val, 0])
theorem ix0_3 : ∀ t : Fin cfg0.N, win0_3.index t = ![t.val, 0] :=
  (by decide +kernel : ∀ t : Fin grid0.N, win0_3.index t = ![t.val, 0])
theorem ix0_4 : ∀ t : Fin cfg0.N, win0_4.index t = ![t.val, 0] :=
  (by decide +kernel : ∀ t : Fin grid0.N, win0_4.index t = ![t.val, 0])
theorem ix0_5 : ∀ t : Fin cfg0.N, win0_5.index t = ![t.val, 0] :=
  (by decide +kernel : ∀ t : Fin grid0.N, win0_5.index t = ![t.val, 0])
theorem ix0_6 : ∀ t : Fin cfg0.N, win0_6.index t = ![t.val, 0] :=
  (by decide +kernel : ∀ t : Fin grid0.N, win0_6.index t = ![t.val, 0])
theorem ix0_7 : ∀ t : Fin cfg0.N, win0_7.index t = ![t.val, 0] :=
  (by decide +kernel : ∀ t : Fin grid0.N, win0_7.index t = ![t.val, 0])
theorem ix0_8 : ∀ t : Fin cfg0.N, win0_8.index t = ![t.val, 0] :=
  (by decide +kernel : ∀ t : Fin grid0.N, win0_8.index t = ![t.val, 0])

/-- The arguments. -/
abbrev ap : FVec Ideal S2x8x128x1024 .f32 := m ((c : Thread nD τ).loc main_arg0)
abbrev aw : FVec Ideal S2x128x1024 .f32 := m ((c : Thread nD τ).loc main_arg1)
abbrev am : FVec Ideal S2x128x1024 .f32 := m ((c : Thread nD τ).loc main_arg2)
abbrev av : FVec Ideal S2x128x1024 .f32 := m ((c : Thread nD τ).loc main_arg3)

theorem X0 (t : Fin cfg0.N) (n : Fin 8) (r : Fin 128) (d : Fin 1024) : iblk m c 0 t (ix3 n r d) = ap m c (ix4 0 n r d) := by
  refine Eq.trans ?_ (V2_at m c n r d)
  show V m c main_v2 (((cfg0.win 0).blk t).view.emb (ix3 n r d)) = _
  generalize V m c main_v2 = A
  blk_ext [ix0_0 t]

theorem X1 (t : Fin cfg0.N) (n : Fin 8) (r : Fin 128) (d : Fin 1024) : iblk m c 1 t (ix3 n r d) = ap m c (ix4 1 n r d) := by
  refine Eq.trans ?_ (V5_at m c n r d)
  show V m c main_v5 (((cfg0.win 1).blk t).view.emb (ix3 n r d)) = _
  generalize V m c main_v5 = A
  blk_ext [ix0_1 t]

theorem X2 (t : Fin cfg0.N) (r : Fin 128) (d : Fin 1024) : iblk m c 2 t (ix2 r d) = aw m c (ix3 (lay t) r d) := by
  refine Eq.trans ?_ (V6_at m c (lay t) r d)
  show V m c main_v6 (((cfg0.win 2).blk t).view.emb (ix2 r d)) = _
  generalize V m c main_v6 = A
  blk_ext [ix0_2 t, lay, row]

theorem X3 (t : Fin cfg0.N) (r : Fin 128) (d : Fin 1024) : iblk m c 3 t (ix2 r d) = am m c (ix3 (lay t) r d) := by
  refine Eq.trans ?_ (V7_at m c (lay t) r d)
  show V m c main_v7 (((cfg0.win 3).blk t).view.emb (ix2 r d)) = _
  generalize V m c main_v7 = A
  blk_ext [ix0_3 t, lay, row]

theorem X4 (t : Fin cfg0.N) (r : Fin 128) (d : Fin 1024) : iblk m c 4 t (ix2 r d) = av m c (ix3 (lay t) r d) := by
  refine Eq.trans ?_ (V8_at m c (lay t) r d)
  show V m c main_v8 (((cfg0.win 4).blk t).view.emb (ix2 r d)) = _
  generalize V m c main_v8 = A
  blk_ext [ix0_4 t, lay, row]

/-- The sum over the devices, at a point. -/
theorem g_at (t : Fin cfg0.N) (r : Fin 128) (d : Fin 1024) : gsum (gblk m c t) (ix2 r d) = gref (ap m c) (lay t) r d := by
  rw [gsum_at, gref]
  refine Finset.sum_congr rfl fun n _ => ?_
  have e : cfg0.N = 2 := N_0
  have ht := t.isLt
  by_cases h0 : t.val % 2 = 0
  · rw [gblk, if_pos h0, X0, show lay t = 0 from Fin.ext (show t.val = 0 by omega)]
  · rw [gblk, if_neg h0, X1, show lay t = 1 from Fin.ext (show t.val = 1 by omega)]

theorem arr5 : (dats m 0 c).arrAt 5 cfg0.N = val_main_v25 (F := Ideal) (ap m c) := by
  refine (dats m 0 c).arrAt_eq_of_covers 5 _ (by decide +kernel) fun t hf y => ?_
  blk_simp
  rw [after0_5]
  idx_vars y
  rw [o_g, g_at]
  refine ((flat _ (lay t) y0 y1).trans (ref_v0 (ap m c) (lay t) y0 y1)).symm.trans ?_
  refine congrArg (val_main_v25 (F := Ideal) (ap m c)) (funext fun x => Fin.ext ?_)
  fin_cases x <;> blk_simp [ix0_5 t, lay, row] <;> rfl

theorem arr6 : (dats m 0 c).arrAt 6 cfg0.N = val_main_v26 (F := Ideal) (ap m c) (aw m c) (am m c) (av m c) := by
  refine (dats m 0 c).arrAt_eq_of_covers 6 _ (by decide +kernel) fun t hf y => ?_
  blk_simp
  rw [after0_6]
  idx_vars y
  rw [o_d, delta_at, g_at, X2, X3, X4]
  refine ((flat _ (lay t) y0 y1).trans (ref_delta (ap m c) (aw m c) (am m c) (av m c) (lay t) y0 y1)).symm.trans ?_
  refine congrArg (val_main_v26 (F := Ideal) (ap m c) (aw m c) (am m c) (av m c)) (funext fun x => Fin.ext ?_)
  fin_cases x <;> blk_simp [ix0_6 t, lay, row] <;> rfl

theorem arr7 : (dats m 0 c).arrAt 7 cfg0.N = val_main_v27 (F := Ideal) (ap m c) (am m c) := by
  refine (dats m 0 c).arrAt_eq_of_covers 7 _ (by decide +kernel) fun t hf y => ?_
  blk_simp
  rw [after0_7]
  idx_vars y
  rw [o_m, nm_at, g_at, X3]
  refine ((flat _ (lay t) y0 y1).trans (ref_m (ap m c) (am m c) (lay t) y0 y1)).symm.trans ?_
  refine congrArg (val_main_v27 (F := Ideal) (ap m c) (am m c)) (funext fun x => Fin.ext ?_)
  fin_cases x <;> blk_simp [ix0_7 t, lay, row] <;> rfl

theorem arr8 : (dats m 0 c).arrAt 8 cfg0.N = val_main_v28 (F := Ideal) (ap m c) (av m c) := by
  refine (dats m 0 c).arrAt_eq_of_covers 8 _ (by decide +kernel) fun t hf y => ?_
  blk_simp
  rw [after0_8]
  idx_vars y
  rw [o_v, nv_at, g_at, X4]
  refine ((flat _ (lay t) y0 y1).trans (ref_v (ap m c) (av m c) (lay t) y0 y1)).symm.trans ?_
  refine congrArg (val_main_v28 (F := Ideal) (ap m c) (av m c)) (funext fun x => Fin.ext ?_)
  fin_cases x <;> blk_simp [ix0_8 t, lay, row] <;> rfl

/-- The reference ends with its arguments unchanged and, as it has none, every counter at zero. -/
theorem frame_ref : Cert.quiescent_Reference10Ideal (hReference10Ideal := Cert.Reference10Ideal.Gen.facts) := fun m ρ _ =>
  (θ_run _ _ _).mono (fun r h => ⟨fun c => (h c).2.2.2.2, sem_eq_zero_of_no_sems rfl r.2⟩) (Cert.Reference10Ideal.Value.run m ρ)

/-- The algebraic claim of the optimiser's step. -/
theorem algebraic : Cert.algebraic_Kernel10Ideal_Reference10Ideal (hKernel10Ideal := Cert.Kernel10Ideal.Gen.facts)
    (hReference10Ideal := Cert.Reference10Ideal.Gen.facts) := by
  intro m g m' g' _ ha
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel10Ideal.Value.run_blocks m g,
    (θ_run _ _ _).mono (fun r h c => ?_) (Cert.Reference10Ideal.Value.run m' g')⟩
  obtain ⟨a0, a1, a2, a3⟩ := ha c
  obtain ⟨r0, r1, r2, r3, rest⟩ := h c
  rw [val_main_v25_eq, a0] at r0
  rw [val_main_v26_eq, a0, a1, a2, a3] at r1
  rw [val_main_v27_eq, a0, a2] at r2
  rw [val_main_v28_eq, a0, a3] at r3
  exact ⟨r0.trans (arr5 m c).symm, r1.trans (arr6 m c).symm, r2.trans (arr7 m c).symm, r3.trans (arr8 m c).symm, rest⟩

end Cert.AdamWout
-- ==== Proof.AdamWin.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.AdamW
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

/-! The optimiser's step for the mixer's input weight. -/
namespace Cert.AdamWin

open Cert.Kernel11Ideal Cert.Kernel11Ideal.Gen Idealize.ShloMosaic Idealize.ShloMosaic.Pointwise Idealize.ShloMosaic.TcCoe
open Cert.Reference11Ideal.Read Cert.AdamW Idealize.SL.Sem

/-- The sum over the devices, of a layer's block. -/
def gsum (b : FVec Ideal S8x512x384 .bf16) : FVec Ideal S512x384 .f32 :=
  k0_pay7 (View.ld (Val := Elt Ideal) (S := S8x512x384) (e' := .bf16) b (Rect.unit ![0, 0, 0] ![1, 512, 384] inb_S8x512x384_S1x512x384_0_0_0))
    (View.ld (Val := Elt Ideal) (S := S8x512x384) (e' := .bf16) b (Rect.unit ![1, 0, 0] ![1, 512, 384] inb_S8x512x384_S1x512x384_1_0_0))
    (View.ld (Val := Elt Ideal) (S := S8x512x384) (e' := .bf16) b (Rect.unit ![2, 0, 0] ![1, 512, 384] inb_S8x512x384_S1x512x384_2_0_0))
    (View.ld (Val := Elt Ideal) (S := S8x512x384) (e' := .bf16) b (Rect.unit ![3, 0, 0] ![1, 512, 384] inb_S8x512x384_S1x512x384_3_0_0))
    (View.ld (Val := Elt Ideal) (S := S8x512x384) (e' := .bf16) b (Rect.unit ![4, 0, 0] ![1, 512, 384] inb_S8x512x384_S1x512x384_4_0_0))
    (View.ld (Val := Elt Ideal) (S := S8x512x384) (e' := .bf16) b (Rect.unit ![5, 0, 0] ![1, 512, 384] inb_S8x512x384_S1x512x384_5_0_0))
    (View.ld (Val := Elt Ideal) (S := S8x512x384) (e' := .bf16) b (Rect.unit ![6, 0, 0] ![1, 512, 384] inb_S8x512x384_S1x512x384_6_0_0))
    (View.ld (Val := Elt Ideal) (S := S8x512x384) (e' := .bf16) b (Rect.unit ![7, 0, 0] ![1, 512, 384] inb_S8x512x384_S1x512x384_7_0_0))

theorem gsum_at (b : FVec Ideal S8x512x384 .bf16) (r : Fin 512) (d : Fin 384) : gsum b (ix2 r d) = ∑ n : Fin 8, b (ix3 n r d) := by
  pointwise [gsum, k0_pay7]
  rw [Fin.sum_univ_eight]

theorem nm_at (g x : FVec Ideal S512x384 .f32) (r : Fin 512) (d : Fin 384) : k0_pay1 g x (ix2 r d) = nm (g (ix2 r d)) (x (ix2 r d)) := by
  pointwise [k0_pay1, nm]

theorem nv_at (g x : FVec Ideal S512x384 .f32) (r : Fin 512) (d : Fin 384) : k0_pay2 g x (ix2 r d) = nv (g (ix2 r d)) (x (ix2 r d)) := by
  pointwise [k0_pay2, nv]

theorem delta_at (g x y z : FVec Ideal S512x384 .f32) (r : Fin 512) (d : Fin 384) :
    k0_pay3 g x y z (ix2 r d) = delta (g (ix2 r d)) (z (ix2 r d)) (x (ix2 r d)) (y (ix2 r d)) := by
  pointwise [k0_pay3, k0_pay1, k0_pay2, nm, nv, delta]

/-- The gradient's sum, from the argument. -/
def gref (x0 : FVec Ideal S2x8x1024x384 .f32) (l : Fin 2) (r : Fin 1024) (d : Fin 384) : EReal := ∑ n : Fin 8, x0 (ix4 l n r d)

/-- A row of the results. -/
def row (l : Fin 2) (r : Fin 1024) : Fin 2048 := ⟨l.val * 1024 + r.val, by omega⟩

theorem ref_v0 (x0 : FVec Ideal S2x8x1024x384 .f32) (l : Fin 2) (r : Fin 1024) (d : Fin 384) :
    val_main_v0 (F := Ideal) x0 (ix3 l r d) = gref x0 l r d := by
  unfold val_main_v0 val_main_cst gref
  pointwise

theorem ref_m (x0 : FVec Ideal S2x8x1024x384 .f32) (x2 : FVec Ideal S2x1024x384 .f32) (l : Fin 2) (r : Fin 1024) (d : Fin 384) :
    val_main_v5 (F := Ideal) x0 x2 (ix3 l r d) = nm (gref x0 l r d) (x2 (ix3 l r d)) := by
  rw [← ref_v0]; rfl

theorem ref_v (x0 : FVec Ideal S2x8x1024x384 .f32) (x3 : FVec Ideal S2x1024x384 .f32) (l : Fin 2) (r : Fin 1024) (d : Fin 384) :
    val_main_v11 (F := Ideal) x0 x3 (ix3 l r d) = nv (gref x0 l r d) (x3 (ix3 l r d)) := by
  rw [← ref_v0]; rfl

theorem ref_delta (x0 : FVec Ideal S2x8x1024x384 .f32) (x1 x2 x3 : FVec Ideal S2x1024x384 .f32) (l : Fin 2) (r : Fin 1024) (d : Fin 384) :
    val_main_v24 (F := Ideal) x0 x1 x2 x3 (ix3 l r d) = delta (gref x0 l r d) (x1 (ix3 l r d)) (x2 (ix3 l r d)) (x3 (ix3 l r d)) := by
  rw [← ref_v0]; rfl

/-- A result's row is its layer's row. -/
theorem flat (A : FVec Ideal S2x1024x384 .f32) (l : Fin 2) (r : Fin 1024) (d : Fin 384) :
    shapeCast S2048x384 A shapeCasts_S2x1024x384_S2048x384 (ix2 (row l r) d) = A (ix3 l r d) := by
  unfold row
  pointwise

variable (m : (ℓ : Loc nD τ sig) → Buf (Elt Ideal) ℓ) (c : Dev nD)

/-- The gradient's block of the point's layer. -/
def gblk (t : Fin cfg0.N) : FVec Ideal S8x512x384 .bf16 := if t.val < 2 then iblk m c 0 t else iblk m c 1 t

set_option maxHeartbeats 800000 in
theorem o_g (t : Fin cfg0.N) : (outsAt0 m c t.val t.isLt).1 = gsum (gblk m c t) := by
  by_cases h0 : t.val < 2
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_d (t : Fin cfg0.N) : (outsAt0 m c t.val t.isLt).2.1 = k0_pay3 (gsum (gblk m c t)) (iblk m c 3 t) (iblk m c 4 t) (iblk m c 2 t) := by
  by_cases h0 : t.val < 2
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_m (t : Fin cfg0.N) : (outsAt0 m c t.val t.isLt).2.2.1 = k0_pay1 (gsum (gblk m c t)) (iblk m c 3 t) := by
  by_cases h0 : t.val < 2
  · rw [outsAt0_A m c t h0 (by omega), gblk, if_pos h0]
    unfold gsum
    frame_out
  · rw [outsAt0_B m c t h0 (by omega), gblk, if_neg h0]
    unfold gsum
    frame_out
    try rfl

set_option maxHeartbeats 800000 in
theorem o_v (t : Fin cfg0.N) : (outsAt0 m c t.val t.isLt).2.2.2 = k0_pay2 (gsum (gblk m c t)) (iblk m c 4 t) := by
  by_cases h0 : t.val < 2
  · rw [outsAt0_A m c t h0 (by omega), gblk, if_pos h0]
    unfold gsum
    frame_out
  · rw [outsAt0_B m c t h0 (by omega), gblk, if_neg h0]
    unfold gsum
    frame_out
    try rfl

theorem V2_at (n : Fin 8) (r : Fin 1024) (d : Fin 384) :
    (V m c main_v2 : FVec Ideal S8x1024x384 .bf16) (ix3 n r d) = (m ((c : Thread nD τ).loc main_arg0) : FVec Ideal S2x8x1024x384 .f32) (ix4 0 n r d) := by
  unfold V
  after_reads_at

theorem V5_at (n : Fin 8) (r : Fin 1024) (d : Fin 384) :
    (V m c main_v5 : FVec Ideal S8x1024x384 .bf16) (ix3 n r d) = (m ((c : Thread nD τ).loc main_arg0) : FVec Ideal S2x8x1024x384 .f32) (ix4 1 n r d) := by
  unfold V
  after_reads_at

theorem V6_at (l : Fin 2) (r : Fin 1024) (d : Fin 384) :
    (V m c main_v6 : FVec Ideal S2048x384 .f32) (ix2 (row l r) d) = (m ((c : Thread nD τ).loc main_arg1) : FVec Ideal S2x1024x384 .f32) (ix3 l r d) := by
  unfold V row
  after_reads_at

theorem V7_at (l : Fin 2) (r : Fin 1024) (d : Fin 384) :
    (V m c main_v7 : FVec Ideal S2048x384 .f32) (ix2 (row l r) d) = (m ((c : Thread nD τ).loc main_arg2) : FVec Ideal S2x1024x384 .f32) (ix3 l r d) := by
  unfold V row
  after_reads_at

theorem V8_at (l : Fin 2) (r : Fin 1024) (d : Fin 384) :
    (V m c main_v8 : FVec Ideal S2048x384 .f32) (ix2 (row l r) d) = (m ((c : Thread nD τ).loc main_arg3) : FVec Ideal S2x1024x384 .f32) (ix3 l r d) := by
  unfold V row
  after_reads_at

/-- The layer of grid point `t`. -/
def lay (t : Fin cfg0.N) : Fin 2 := ⟨t.val / 2, by have := t.isLt; have e : cfg0.N = 4 := N_0; omega⟩
/-- The layer's row at row `r` of the block. -/
def rowOf (t : Fin cfg0.N) (r : Fin 512) : Fin 1024 := ⟨t.val % 2 * 512 + r.val, by omega⟩

theorem ix0_0 : ∀ t : Fin cfg0.N, t.val < 2 → win0_0.index t = ![0, t.val % 2, 0] :=
  (by decide +kernel : ∀ t : Fin grid0.N, t.val < 2 → win0_0.index t = ![0, t.val % 2, 0])
theorem ix0_1 : ∀ t : Fin cfg0.N, ¬ t.val < 2 → win0_1.index t = ![0, t.val % 2, 0] :=
  (by decide +kernel : ∀ t : Fin grid0.N, ¬ t.val < 2 → win0_1.index t = ![0, t.val % 2, 0])
theorem ix0_2 : ∀ t : Fin cfg0.N, win0_2.index t = ![t.val, 0] :=
  (by decide +kernel : ∀ t : Fin grid0.N, win0_2.index t = ![t.val, 0])
theorem ix0_3 : ∀ t : Fin cfg0.N, win0_3.index t = ![t.val, 0] :=
  (by decide +kernel : ∀ t : Fin grid0.N, win0_3.index t = ![t.val, 0])
theorem ix0_4 : ∀ t : Fin cfg0.N, win0_4.index t = ![t.val, 0] :=
  (by decide +kernel : ∀ t : Fin grid0.N, win0_4.index t = ![t.val, 0])
theorem ix0_5 : ∀ t : Fin cfg0.N, win0_5.index t = ![t.val, 0] :=
  (by decide +kernel : ∀ t : Fin grid0.N, win0_5.index t = ![t.val, 0])
theorem ix0_6 : ∀ t : Fin cfg0.N, win0_6.index t = ![t.val, 0] :=
  (by decide +kernel : ∀ t : Fin grid0.N, win0_6.index t = ![t.val, 0])
theorem ix0_7 : ∀ t : Fin cfg0.N, win0_7.index t = ![t.val, 0] :=
  (by decide +kernel : ∀ t : Fin grid0.N, win0_7.index t = ![t.val, 0])
theorem ix0_8 : ∀ t : Fin cfg0.N, win0_8.index t = ![t.val, 0] :=
  (by decide +kernel : ∀ t : Fin grid0.N, win0_8.index t = ![t.val, 0])

/-- The arguments. -/
abbrev ap : FVec Ideal S2x8x1024x384 .f32 := m ((c : Thread nD τ).loc main_arg0)
abbrev aw : FVec Ideal S2x1024x384 .f32 := m ((c : Thread nD τ).loc main_arg1)
abbrev am : FVec Ideal S2x1024x384 .f32 := m ((c : Thread nD τ).loc main_arg2)
abbrev av : FVec Ideal S2x1024x384 .f32 := m ((c : Thread nD τ).loc main_arg3)

theorem X0 (t : Fin cfg0.N) (h : t.val < 2) (n : Fin 8) (r : Fin 512) (d : Fin 384) : iblk m c 0 t (ix3 n r d) = ap m c (ix4 0 n (rowOf t r) d) := by
  refine Eq.trans ?_ (V2_at m c n (rowOf t r) d)
  show V m c main_v2 (((cfg0.win 0).blk t).view.emb (ix3 n r d)) = _
  generalize V m c main_v2 = A
  blk_ext [ix0_0 t h, rowOf]

theorem X1 (t : Fin cfg0.N) (h : ¬ t.val < 2) (n : Fin 8) (r : Fin 512) (d : Fin 384) : iblk m c 1 t (ix3 n r d) = ap m c (ix4 1 n (rowOf t r) d) := by
  refine Eq.trans ?_ (V5_at m c n (rowOf t r) d)
  show V m c main_v5 (((cfg0.win 1).blk t).view.emb (ix3 n r d)) = _
  generalize V m c main_v5 = A
  blk_ext [ix0_1 t h, rowOf]

theorem X2 (t : Fin cfg0.N) (r : Fin 512) (d : Fin 384) : iblk m c 2 t (ix2 r d) = aw m c (ix3 (lay t) (rowOf t r) d) := by
  refine Eq.trans ?_ (V6_at m c (lay t) (rowOf t r) d)
  show V m c main_v6 (((cfg0.win 2).blk t).view.emb (ix2 r d)) = _
  generalize V m c main_v6 = A
  blk_ext [ix0_2 t, lay, row, rowOf]

theorem X3 (t : Fin cfg0.N) (r : Fin 512) (d : Fin 384) : iblk m c 3 t (ix2 r d) = am m c (ix3 (lay t) (rowOf t r) d) := by
  refine Eq.trans ?_ (V7_at m c (lay t) (rowOf t r) d)
  show V m c main_v7 (((cfg0.win 3).blk t).view.emb (ix2 r d)) = _
  generalize V m c main_v7 = A
  blk_ext [ix0_3 t, lay, row, rowOf]

theorem X4 (t : Fin cfg0.N) (r : Fin 512) (d : Fin 384) : iblk m c 4 t (ix2 r d) = av m c (ix3 (lay t) (rowOf t r) d) := by
  refine Eq.trans ?_ (V8_at m c (lay t) (rowOf t r) d)
  show V m c main_v8 (((cfg0.win 4).blk t).view.emb (ix2 r d)) = _
  generalize V m c main_v8 = A
  blk_ext [ix0_4 t, lay, row, rowOf]

/-- The sum over the devices, at a point. -/
theorem g_at (t : Fin cfg0.N) (r : Fin 512) (d : Fin 384) : gsum (gblk m c t) (ix2 r d) = gref (ap m c) (lay t) (rowOf t r) d := by
  rw [gsum_at, gref]
  refine Finset.sum_congr rfl fun n _ => ?_
  have e : cfg0.N = 4 := N_0
  have ht := t.isLt
  by_cases h0 : t.val < 2
  · rw [gblk, if_pos h0, X0 m c t h0, show lay t = 0 from Fin.ext (show t.val / 2 = 0 by omega)]
  · rw [gblk, if_neg h0, X1 m c t h0, show lay t = 1 from Fin.ext (show t.val / 2 = 1 by omega)]

theorem arr5 : (dats m 0 c).arrAt 5 cfg0.N = val_main_v25 (F := Ideal) (ap m c) := by
  refine (dats m 0 c).arrAt_eq_of_covers 5 _ (by decide +kernel) fun t hf y => ?_
  blk_simp
  rw [after0_5]
  idx_vars y
  rw [o_g, g_at]
  refine ((flat _ (lay t) (rowOf t y0) y1).trans (ref_v0 (ap m c) (lay t) (rowOf t y0) y1)).symm.trans ?_
  refine congrArg (val_main_v25 (F := Ideal) (ap m c)) (funext fun x => Fin.ext ?_)
  fin_cases x <;> blk_simp [ix0_5 t, lay, row, rowOf] <;> first | rfl | (show t.val / 2 * 1024 + (t.val % 2 * 512 + y0.val) = t.val * 512 + y0.val; omega)

theorem arr6 : (dats m 0 c).arrAt 6 cfg0.N = val_main_v26 (F := Ideal) (ap m c) (aw m c) (am m c) (av m c) := by
  refine (dats m 0 c).arrAt_eq_of_covers 6 _ (by decide +kernel) fun t hf y => ?_
  blk_simp
  rw [after0_6]
  idx_vars y
  rw [o_d, delta_at, g_at, X2, X3, X4]
  refine ((flat _ (lay t) (rowOf t y0) y1).trans (ref_delta (ap m c) (aw m c) (am m c) (av m c) (lay t) (rowOf t y0) y1)).symm.trans ?_
  refine congrArg (val_main_v26 (F := Ideal) (ap m c) (aw m c) (am m c) (av m c)) (funext fun x => Fin.ext ?_)
  fin_cases x <;> blk_simp [ix0_6 t, lay, row, rowOf] <;> first | rfl | (show t.val / 2 * 1024 + (t.val % 2 * 512 + y0.val) = t.val * 512 + y0.val; omega)

theorem arr7 : (dats m 0 c).arrAt 7 cfg0.N = val_main_v27 (F := Ideal) (ap m c) (am m c) := by
  refine (dats m 0 c).arrAt_eq_of_covers 7 _ (by decide +kernel) fun t hf y => ?_
  blk_simp
  rw [after0_7]
  idx_vars y
  rw [o_m, nm_at, g_at, X3]
  refine ((flat _ (lay t) (rowOf t y0) y1).trans (ref_m (ap m c) (am m c) (lay t) (rowOf t y0) y1)).symm.trans ?_
  refine congrArg (val_main_v27 (F := Ideal) (ap m c) (am m c)) (funext fun x => Fin.ext ?_)
  fin_cases x <;> blk_simp [ix0_7 t, lay, row, rowOf] <;> first | rfl | (show t.val / 2 * 1024 + (t.val % 2 * 512 + y0.val) = t.val * 512 + y0.val; omega)

theorem arr8 : (dats m 0 c).arrAt 8 cfg0.N = val_main_v28 (F := Ideal) (ap m c) (av m c) := by
  refine (dats m 0 c).arrAt_eq_of_covers 8 _ (by decide +kernel) fun t hf y => ?_
  blk_simp
  rw [after0_8]
  idx_vars y
  rw [o_v, nv_at, g_at, X4]
  refine ((flat _ (lay t) (rowOf t y0) y1).trans (ref_v (ap m c) (av m c) (lay t) (rowOf t y0) y1)).symm.trans ?_
  refine congrArg (val_main_v28 (F := Ideal) (ap m c) (av m c)) (funext fun x => Fin.ext ?_)
  fin_cases x <;> blk_simp [ix0_8 t, lay, row, rowOf] <;> first | rfl | (show t.val / 2 * 1024 + (t.val % 2 * 512 + y0.val) = t.val * 512 + y0.val; omega)

/-- The reference ends with its arguments unchanged and, as it has none, every counter at zero. -/
theorem frame_ref : Cert.quiescent_Reference11Ideal (hReference11Ideal := Cert.Reference11Ideal.Gen.facts) := fun m ρ _ =>
  (θ_run _ _ _).mono (fun r h => ⟨fun c => (h c).2.2.2.2, sem_eq_zero_of_no_sems rfl r.2⟩) (Cert.Reference11Ideal.Value.run m ρ)

/-- The algebraic claim of the optimiser's step. -/
theorem algebraic : Cert.algebraic_Kernel11Ideal_Reference11Ideal (hKernel11Ideal := Cert.Kernel11Ideal.Gen.facts)
    (hReference11Ideal := Cert.Reference11Ideal.Gen.facts) := by
  intro m g m' g' _ ha
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel11Ideal.Value.run_blocks m g,
    (θ_run _ _ _).mono (fun r h c => ?_) (Cert.Reference11Ideal.Value.run m' g')⟩
  obtain ⟨a0, a1, a2, a3⟩ := ha c
  obtain ⟨r0, r1, r2, r3, rest⟩ := h c
  rw [val_main_v25_eq, a0] at r0
  rw [val_main_v26_eq, a0, a1, a2, a3] at r1
  rw [val_main_v27_eq, a0, a2] at r2
  rw [val_main_v28_eq, a0, a3] at r3
  exact ⟨r0.trans (arr5 m c).symm, r1.trans (arr6 m c).symm, r2.trans (arr7 m c).symm, r3.trans (arr8 m c).symm, rest⟩

end Cert.AdamWin
-- ==== Proof.GradWada.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

/-! The gradient of the modulation's weight. -/
namespace Cert.GradWada

open Cert.Kernel12Ideal Cert.Kernel12Ideal.Gen Idealize.ShloMosaic Idealize.ShloMosaic.Pointwise Idealize.ShloMosaic.TcCoe
open Cert.Reference12Ideal.Read Idealize.SL.Sem

/-- The gradient, from the arguments. -/
def grad (s : FVec Ideal S8x1024 .f32) (x : FVec Ideal S8x2x1152 .f32) (l : Fin 2) (r : Fin 1024) (d : Fin 1152) : EReal :=
  ∑ b : Fin 8, s (ix2 b r) * x (ix3 b l d)

/-- One entry of the product of a block's operands. -/
def entry (x : FVec Ideal S1024x8 .f32) (z : FVec Ideal S1x8x1152 .f32) (r : Fin 1024) (d : Fin 1152) : EReal :=
  ∑ b : Fin 8, x (ix2 r b) * z (ix3 0 b d)

theorem out_at (x : Vec Ideal S1024x8 .f32) (z : Vec Ideal S1x8x1152 .f32) (y : S1x1024x1152.Idx) :
    out0_2 x z y = entry x z (y 1) (y 2) := by
  unfold out0_2 entry
  rw [Fin.sum_univ_eight]
  canon_tiles x h
  all_goals
    idx_vars x
    pointwise [k0_pay1, k0_pay2, k0_pay3]
    obtain rfl : x1 = y 1 := Fin.ext h1.symm
    obtain rfl : x2 = y 2 := Fin.ext h2.symm
    rfl

theorem ref_at (s : FVec Ideal S8x1024 .f32) (x : FVec Ideal S8x2x1152 .f32) (l : Fin 2) (r : Fin 1024) (d : Fin 1152) :
    val_main_v10 (F := Ideal) s x (ix3 l r d) = grad s x l r d := by
  unfold val_main_v10 val_main_v9 val_main_v8 val_main_v7 val_main_v6 val_main_v5 val_main_v4 val_main_v3 val_main_v2 val_main_v1 val_main_v0 grad
  fin_cases l
  · pointwise
  · pointwise

variable (m : (ℓ : Loc nD τ sig) → Buf (Elt Ideal) ℓ) (c : Dev nD)

/-- The arguments. -/
abbrev asil : FVec Ideal S8x1024 .f32 := m ((c : Thread nD τ).loc main_arg0)
abbrev ad : FVec Ideal S8x2x1152 .f32 := m ((c : Thread nD τ).loc main_arg1)

theorem V0_at (r : Fin 1024) (b : Fin 8) : (V m c main_v0 : FVec Ideal S1024x8 .f32) (ix2 r b) = asil m c (ix2 b r) := by
  unfold V
  after_reads_at

theorem V1_at (l : Fin 2) (b : Fin 8) (d : Fin 1152) : (V m c main_v1 : FVec Ideal S2x8x1152 .f32) (ix3 l b d) = ad m c (ix3 b l d) := by
  unfold V
  after_reads_at

/-- The layer of grid point `t`. -/
def lay (t : Fin cfg0.N) : Fin 2 := ⟨t.val, lt_of_lt_of_eq t.isLt N_0⟩

theorem ix0_0 : ∀ t : Fin cfg0.N, win0_0.index t = ![0, 0] :=
  (by decide +kernel : ∀ t : Fin grid0.N, win0_0.index t = ![0, 0])
theorem ix0_1 : ∀ t : Fin cfg0.N, win0_1.index t = ![t.val, 0, 0] :=
  (by decide +kernel : ∀ t : Fin grid0.N, win0_1.index t = ![t.val, 0, 0])
theorem ix0_2 : ∀ t : Fin cfg0.N, win0_2.index t = ![t.val, 0, 0] :=
  (by decide +kernel : ∀ t : Fin grid0.N, win0_2.index t = ![t.val, 0, 0])

theorem X0 (t : Fin cfg0.N) (r : Fin 1024) (b : Fin 8) : iblk m c 0 t (ix2 r b) = asil m c (ix2 b r) := by
  refine Eq.trans ?_ (V0_at m c r b)
  show V m c main_v0 (((cfg0.win 0).blk t).view.emb (ix2 r b)) = _
  generalize V m c main_v0 = A
  blk_ext [ix0_0 t]

theorem X1 (t : Fin cfg0.N) (b : Fin 8) (d : Fin 1152) : iblk m c 1 t (ix3 0 b d) = ad m c (ix3 b (lay t) d) := by
  refine Eq.trans ?_ (V1_at m c (lay t) b d)
  show V m c main_v1 (((cfg0.win 1).blk t).view.emb (ix3 0 b d)) = _
  generalize V m c main_v1 = A
  blk_ext [ix0_1 t, lay]

theorem entry_at (t : Fin cfg0.N) (r : Fin 1024) (d : Fin 1152) :
    entry (iblk m c 0 t) (iblk m c 1 t) r d = grad (asil m c) (ad m c) (lay t) r d :=
  Finset.sum_congr rfl fun b _ => congrArg₂ (· * ·) (X0 m c t r b) (X1 m c t b d)

theorem arr2 : (dats m 0 c).arrAt 2 cfg0.N = val_main_v10 (F := Ideal) (asil m c) (ad m c) := by
  refine (dats m 0 c).arrAt_eq_of_covers 2 _ (by decide +kernel) fun t hf y => ?_
  blk_simp
  rw [after0_2, out_at]
  idx_vars y
  refine Eq.trans (entry_at m c t y1 y2) ((ref_at (asil m c) (ad m c) (lay t) y1 y2).symm.trans ?_)
  refine congrArg (val_main_v10 (F := Ideal) (asil m c) (ad m c)) (funext fun x => Fin.ext ?_)
  fin_cases x <;> blk_simp [ix0_2 t, lay] <;> rfl

/-- The reference ends with its arguments unchanged and, as it has none, every counter at zero. -/
theorem frame_ref : Cert.quiescent_Reference12Ideal (hReference12Ideal := Cert.Reference12Ideal.Gen.facts) := fun m ρ _ =>
  (θ_run _ _ _).mono (fun r h => ⟨fun c => (h c).2, sem_eq_zero_of_no_sems rfl r.2⟩) (Cert.Reference12Ideal.Value.run m ρ)

/-- The algebraic claim of the gradient of the modulation's weight. -/
theorem algebraic : Cert.algebraic_Kernel12Ideal_Reference12Ideal (hKernel12Ideal := Cert.Kernel12Ideal.Gen.facts)
    (hReference12Ideal := Cert.Reference12Ideal.Gen.facts) := by
  intro m g m' g' _ ha
  refine ⟨fun c => (dats m 0 c).arrAt 2 cfg0.N, Cert.Kernel12Ideal.Value.run_blocks m g,
    (θ_run _ _ _).mono (fun r h c => ?_) (Cert.Reference12Ideal.Value.run m' g')⟩
  obtain ⟨a0, a1⟩ := ha c
  obtain ⟨r0, rest⟩ := h c
  rw [val_main_v10_eq, a0, a1] at r0
  exact ⟨r0.trans (arr2 m c).symm, rest⟩

end Cert.GradWada
-- ==== Proof.AdamWada.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.AdamW
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

/-! The optimiser's step for the modulation's weight. -/
namespace Cert.AdamWada

open Cert.Kernel13Ideal Cert.Kernel13Ideal.Gen Idealize.ShloMosaic Idealize.ShloMosaic.Pointwise Idealize.ShloMosaic.TcCoe
open Cert.Reference13Ideal.Read Cert.AdamW Idealize.SL.Sem

theorem g_at (x : FVec Ideal S1x128x1152 .f32) (r : Fin 128) (d : Fin 1152) : k0_pay2 x (ix2 r d) = x (ix3 0 r d) := by
  pointwise [k0_pay2]

theorem nm_at (x : FVec Ideal S1x128x1152 .f32) (y : FVec Ideal S128x1152 .f32) (r : Fin 128) (d : Fin 1152) :
    k0_pay3 (F := Ideal) x y (ix2 r d) = nm (x (ix3 0 r d)) (y (ix2 r d)) := by
  pointwise [k0_pay3, k0_pay2, nm]

theorem nv_at (x : FVec Ideal S1x128x1152 .f32) (y : FVec Ideal S128x1152 .f32) (r : Fin 128) (d : Fin 1152) :
    k0_pay4 (F := Ideal) x y (ix2 r d) = nv (x (ix3 0 r d)) (y (ix2 r d)) := by
  pointwise [k0_pay4, k0_pay2, nv]

theorem delta_at (x : FVec Ideal S1x128x1152 .f32) (y z w : FVec Ideal S128x1152 .f32) (r : Fin 128) (d : Fin 1152) :
    k0_pay1 (F := Ideal) (k0_pay5 x y z w) (Scalar.ofBits .f32 0xBA83126F#32) (ix2 r d) = delta (x (ix3 0 r d)) (w (ix2 r d)) (y (ix2 r d)) (z (ix2 r d)) := by
  pointwise [k0_pay1, k0_pay5, k0_pay3, k0_pay4, k0_pay2, nm, nv, delta]

theorem ref_m (x0 x2 : FVec Ideal S2x1024x1152 .f32) (i : S2x1024x1152.Idx) :
    val_main_v4 (F := Ideal) x0 x2 i = nm (x0 i) (x2 i) := rfl

theorem ref_v (x0 x3 : FVec Ideal S2x1024x1152 .f32) (i : S2x1024x1152.Idx) :
    val_main_v10 (F := Ideal) x0 x3 i = nv (x0 i) (x3 i) := rfl

theorem ref_delta (x0 x1 x2 x3 : FVec Ideal S2x1024x1152 .f32) (i : S2x1024x1152.Idx) :
    val_main_v23 (F := Ideal) x0 x1 x2 x3 i = delta (x0 i) (x1 i) (x2 i) (x3 i) := rfl

/-- A row of the results. -/
def row (l : Fin 2) (r : Fin 1024) : Fin 2048 := ⟨l.val * 1024 + r.val, by omega⟩

/-- A result's row is its layer's row. -/
theorem flat (A : FVec Ideal S2x1024x1152 .f32) (l : Fin 2) (r : Fin 1024) (d : Fin 1152) :
    shapeCast S2048x1152 A shapeCasts_S2x1024x1152_S2048x1152 (ix2 (row l r) d) = A (ix3 l r d) := by
  unfold row
  pointwise

variable (m : (ℓ : Loc nD τ sig) → Buf (Elt Ideal) ℓ) (c : Dev nD)

theorem o_g (t : Fin cfg0.N) : (outsAt0 m c t).1 = k0_pay2 (iblk m c 0 t) := by
  unfold outsAt0
  frame_out

theorem o_d (t : Fin cfg0.N) : (outsAt0 m c t).2.1 = k0_pay1 (k0_pay5 (iblk m c 0 t) (iblk m c 2 t) (iblk m c 3 t) (iblk m c 1 t)) (Scalar.ofBits .f32 0xBA83126F#32) := by
  unfold outsAt0
  frame_out

theorem o_m (t : Fin cfg0.N) : (outsAt0 m c t).2.2.1 = k0_pay3 (iblk m c 0 t) (iblk m c 2 t) := by
  unfold outsAt0
  frame_out

theorem o_v (t : Fin cfg0.N) : (outsAt0 m c t).2.2.2 = k0_pay4 (iblk m c 0 t) (iblk m c 3 t) := by
  unfold outsAt0
  frame_out

theorem V0_at (l : Fin 2) (r : Fin 1024) (d : Fin 1152) :
    (V m c main_v0 : FVec Ideal S1x2048x1152 .f32) (ix3 0 (row l r) d) = (m ((c : Thread nD τ).loc main_arg0) : FVec Ideal S2x1024x1152 .f32) (ix3 l r d) := by
  unfold V row
  after_reads_at

theorem V1_at (l : Fin 2) (r : Fin 1024) (d : Fin 1152) :
    (V m c main_v1 : FVec Ideal S2048x1152 .f32) (ix2 (row l r) d) = (m ((c : Thread nD τ).loc main_arg1) : FVec Ideal S2x1024x1152 .f32) (ix3 l r d) := by
  unfold V row
  after_reads_at

theorem V2_at (l : Fin 2) (r : Fin 1024) (d : Fin 1152) :
    (V m c main_v2 : FVec Ideal S2048x1152 .f32) (ix2 (row l r) d) = (m ((c : Thread nD τ).loc main_arg2) : FVec Ideal S2x1024x1152 .f32) (ix3 l r d) := by
  unfold V row
  after_reads_at

theorem V3_at (l : Fin 2) (r : Fin 1024) (d : Fin 1152) :
    (V m c main_v3 : FVec Ideal S2048x1152 .f32) (ix2 (row l r) d) = (m ((c : Thread nD τ).loc main_arg3) : FVec Ideal S2x1024x1152 .f32) (ix3 l r d) := by
  unfold V row
  after_reads_at

/-- The layer of grid point `t`. -/
def lay (t : Fin cfg0.N) : Fin 2 := ⟨t.val / 8, by have := t.isLt; have e : cfg0.N = 16 := N_0; omega⟩
/-- The layer's row at row `r` of the block. -/
def rowOf (t : Fin cfg0.N) (r : Fin 128) : Fin 1024 := ⟨t.val % 8 * 128 + r.val, by omega⟩

theorem ix0_0 : ∀ t : Fin cfg0.N, win0_0.index t = ![0, t.val, 0] :=
  (by decide +kernel : ∀ t : Fin grid0.N, win0_0.index t = ![0, t.val, 0])
theorem ix0_1 : ∀ t : Fin cfg0.N, win0_1.index t = ![t.val, 0] :=
  (by decide +kernel : ∀ t : Fin grid0.N, win0_1.index t = ![t.val, 0])
theorem ix0_2 : ∀ t : Fin cfg0.N, win0_2.index t = ![t.val, 0] :=
  (by decide +kernel : ∀ t : Fin grid0.N, win0_2.index t = ![t.val, 0])
theorem ix0_3 : ∀ t : Fin cfg0.N, win0_3.index t = ![t.val, 0] :=
  (by decide +kernel : ∀ t : Fin grid0.N, win0_3.index t = ![t.val, 0])
theorem ix0_4 : ∀ t : Fin cfg0.N, win0_4.index t = ![t.val, 0] :=
  (by decide +kernel : ∀ t : Fin grid0.N, win0_4.index t = ![t.val, 0])
theorem ix0_5 : ∀ t : Fin cfg0.N, win0_5.index t = ![t.val, 0] :=
  (by decide +kernel : ∀ t : Fin grid0.N, win0_5.index t = ![t.val, 0])
theorem ix0_6 : ∀ t : Fin cfg0.N, win0_6.index t = ![t.val, 0] :=
  (by decide +kernel : ∀ t : Fin grid0.N, win0_6.index t = ![t.val, 0])
theorem ix0_7 : ∀ t : Fin cfg0.N, win0_7.index t = ![t.val, 0] :=
  (by decide +kernel : ∀ t : Fin grid0.N, win0_7.index t = ![t.val, 0])

/-- The arguments. -/
abbrev ag : FVec Ideal S2x1024x1152 .f32 := m ((c : Thread nD τ).loc main_arg0)
abbrev aw : FVec Ideal S2x1024x1152 .f32 := m ((c : Thread nD τ).loc main_arg1)
abbrev am : FVec Ideal S2x1024x1152 .f32 := m ((c : Thread nD τ).loc main_arg2)
abbrev av : FVec Ideal S2x1024x1152 .f32 := m ((c : Thread nD τ).loc main_arg3)

theorem X0 (t : Fin cfg0.N) (r : Fin 128) (d : Fin 1152) : iblk m c 0 t (ix3 0 r d) = ag m c (ix3 (lay t) (rowOf t r) d) := by
  refine Eq.trans ?_ (V0_at m c (lay t) (rowOf t r) d)
  show V m c main_v0 (((cfg0.win 0).blk t).view.emb (ix3 0 r d)) = _
  generalize V m c main_v0 = A
  blk_ext [ix0_0 t, lay, row, rowOf]

theorem X1 (t : Fin cfg0.N) (r : Fin 128) (d : Fin 1152) : iblk m c 1 t (ix2 r d) = aw m c (ix3 (lay t) (rowOf t r) d) := by
  refine Eq.trans ?_ (V1_at m c (lay t) (rowOf t r) d)
  show V m c main_v1 (((cfg0.win 1).blk t).view.emb (ix2 r d)) = _
  generalize V m c main_v1 = A
  blk_ext [ix0_1 t, lay, row, rowOf]

theorem X2 (t : Fin cfg0.N) (r : Fin 128) (d : Fin 1152) : iblk m c 2 t (ix2 r d) = am m c (ix3 (lay t) (rowOf t r) d) := by
  refine Eq.trans ?_ (V2_at m c (lay t) (rowOf t r) d)
  show V m c main_v2 (((cfg0.win 2).blk t).view.emb (ix2 r d)) = _
  generalize V m c main_v2 = A
  blk_ext [ix0_2 t, lay, row, rowOf]

theorem X3 (t : Fin cfg0.N) (r : Fin 128) (d : Fin 1152) : iblk m c 3 t (ix2 r d) = av m c (ix3 (lay t) (rowOf t r) d) := by
  refine Eq.trans ?_ (V3_at m c (lay t) (rowOf t r) d)
  show V m c main_v3 (((cfg0.win 3).blk t).view.emb (ix2 r d)) = _
  generalize V m c main_v3 = A
  blk_ext [ix0_3 t, lay, row, rowOf]

theorem arr4 : (dats m 0 c).arrAt 4 cfg0.N = val_main_v24 (F := Ideal) (ag m c) := by
  refine (dats m 0 c).arrAt_eq_of_covers 4 _ (by decide +kernel) fun t hf y => ?_
  blk_simp
  rw [after0_4]
  idx_vars y
  rw [o_g, g_at, X0]
  refine (flat _ (lay t) (rowOf t y0) y1).symm.trans ?_
  refine congrArg (val_main_v24 (F := Ideal) (ag m c)) (funext fun x => Fin.ext ?_)
  fin_cases x <;> blk_simp [ix0_4 t, lay, row, rowOf] <;> first | rfl | (show t.val / 8 * 1024 + (t.val % 8 * 128 + y0.val) = t.val * 128 + y0.val; omega)

theorem arr5 : (dats m 0 c).arrAt 5 cfg0.N = val_main_v25 (F := Ideal) (ag m c) (aw m c) (am m c) (av m c) := by
  refine (dats m 0 c).arrAt_eq_of_covers 5 _ (by decide +kernel) fun t hf y => ?_
  blk_simp
  rw [after0_5]
  idx_vars y
  rw [o_d, delta_at, X0, X1, X2, X3]
  refine ((flat _ (lay t) (rowOf t y0) y1).trans (ref_delta (ag m c) (aw m c) (am m c) (av m c) _)).symm.trans ?_
  refine congrArg (val_main_v25 (F := Ideal) (ag m c) (aw m c) (am m c) (av m c)) (funext fun x => Fin.ext ?_)
  fin_cases x <;> blk_simp [ix0_5 t, lay, row, rowOf] <;> first | rfl | (show t.val / 8 * 1024 + (t.val % 8 * 128 + y0.val) = t.val * 128 + y0.val; omega)

theorem arr6 : (dats m 0 c).arrAt 6 cfg0.N = val_main_v26 (F := Ideal) (ag m c) (am m c) := by
  refine (dats m 0 c).arrAt_eq_of_covers 6 _ (by decide +kernel) fun t hf y => ?_
  blk_simp
  rw [after0_6]
  idx_vars y
  rw [o_m, nm_at, X0, X2]
  refine ((flat _ (lay t) (rowOf t y0) y1).trans (ref_m (ag m c) (am m c) _)).symm.trans ?_
  refine congrArg (val_main_v26 (F := Ideal) (ag m c) (am m c)) (funext fun x => Fin.ext ?_)
  fin_cases x <;> blk_simp [ix0_6 t, lay, row, rowOf] <;> first | rfl | (show t.val / 8 * 1024 + (t.val % 8 * 128 + y0.val) = t.val * 128 + y0.val; omega)

theorem arr7 : (dats m 0 c).arrAt 7 cfg0.N = val_main_v27 (F := Ideal) (ag m c) (av m c) := by
  refine (dats m 0 c).arrAt_eq_of_covers 7 _ (by decide +kernel) fun t hf y => ?_
  blk_simp
  rw [after0_7]
  idx_vars y
  rw [o_v, nv_at, X0, X3]
  refine ((flat _ (lay t) (rowOf t y0) y1).trans (ref_v (ag m c) (av m c) _)).symm.trans ?_
  refine congrArg (val_main_v27 (F := Ideal) (ag m c) (av m c)) (funext fun x => Fin.ext ?_)
  fin_cases x <;> blk_simp [ix0_7 t, lay, row, rowOf] <;> first | rfl | (show t.val / 8 * 1024 + (t.val % 8 * 128 + y0.val) = t.val * 128 + y0.val; omega)

/-- The reference ends with its arguments unchanged and, as it has none, every counter at zero. -/
theorem frame_ref : Cert.quiescent_Reference13Ideal (hReference13Ideal := Cert.Reference13Ideal.Gen.facts) := fun m ρ _ =>
  (θ_run _ _ _).mono (fun r h => ⟨fun c => (h c).2.2.2.2, sem_eq_zero_of_no_sems rfl r.2⟩) (Cert.Reference13Ideal.Value.run m ρ)

/-- The algebraic claim of the optimiser's step. -/
theorem algebraic : Cert.algebraic_Kernel13Ideal_Reference13Ideal (hKernel13Ideal := Cert.Kernel13Ideal.Gen.facts)
    (hReference13Ideal := Cert.Reference13Ideal.Gen.facts) := by
  intro m g m' g' _ ha
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel13Ideal.Value.run_blocks m g,
    (θ_run _ _ _).mono (fun r h c => ?_) (Cert.Reference13Ideal.Value.run m' g')⟩
  obtain ⟨a0, a1, a2, a3⟩ := ha c
  obtain ⟨r0, r1, r2, r3, rest⟩ := h c
  rw [val_main_v24_eq, a0] at r0
  rw [val_main_v25_eq, a0, a1, a2, a3] at r1
  rw [val_main_v26_eq, a0, a2] at r2
  rw [val_main_v27_eq, a0, a3] at r3
  exact ⟨r0.trans (arr4 m c).symm, r1.trans (arr5 m c).symm, r2.trans (arr6 m c).symm, r3.trans (arr7 m c).symm, rest⟩

end Cert.AdamWada
-- ==== Proof.AdamW2.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.AdamW
public import proofs.«01_k».proof.Proof.Gen.Kernel14Ideal.Value
public import proofs.«01_k».proof.Proof.Gen.Reference14Ideal.Run
public import proofs.«01_k».proof.Proof.Gen.Reference14Ideal.Read

@[expose] public section

set_option maxRecDepth 161024

noncomputable section

/-! The optimiser's step for the feed-forward layer's second weight. -/
namespace Cert.AdamW2

open Cert.Kernel14Ideal Cert.Kernel14Ideal.Gen Idealize.ShloMosaic Idealize.ShloMosaic.Pointwise Idealize.ShloMosaic.TcCoe
open Cert.Reference14Ideal.Read Cert.AdamW Idealize.SL.Sem

/-- The sum over the devices, of a weight's block. -/
def gsum (b : FVec Ideal S8x176x1024 .bf16) : FVec Ideal S176x1024 .f32 :=
  k0_pay13 (View.ld (Val := Elt Ideal) (S := S8x176x1024) (e' := .bf16) b (Rect.unit ![0, 0, 0] ![1, 176, 1024] inb_S8x176x1024_S1x176x1024_0_0_0))
    (View.ld (Val := Elt Ideal) (S := S8x176x1024) (e' := .bf16) b (Rect.unit ![1, 0, 0] ![1, 176, 1024] inb_S8x176x1024_S1x176x1024_1_0_0))
    (View.ld (Val := Elt Ideal) (S := S8x176x1024) (e' := .bf16) b (Rect.unit ![2, 0, 0] ![1, 176, 1024] inb_S8x176x1024_S1x176x1024_2_0_0))
    (View.ld (Val := Elt Ideal) (S := S8x176x1024) (e' := .bf16) b (Rect.unit ![3, 0, 0] ![1, 176, 1024] inb_S8x176x1024_S1x176x1024_3_0_0))
    (View.ld (Val := Elt Ideal) (S := S8x176x1024) (e' := .bf16) b (Rect.unit ![4, 0, 0] ![1, 176, 1024] inb_S8x176x1024_S1x176x1024_4_0_0))
    (View.ld (Val := Elt Ideal) (S := S8x176x1024) (e' := .bf16) b (Rect.unit ![5, 0, 0] ![1, 176, 1024] inb_S8x176x1024_S1x176x1024_5_0_0))
    (View.ld (Val := Elt Ideal) (S := S8x176x1024) (e' := .bf16) b (Rect.unit ![6, 0, 0] ![1, 176, 1024] inb_S8x176x1024_S1x176x1024_6_0_0))
    (View.ld (Val := Elt Ideal) (S := S8x176x1024) (e' := .bf16) b (Rect.unit ![7, 0, 0] ![1, 176, 1024] inb_S8x176x1024_S1x176x1024_7_0_0))

theorem gsum_at (b : FVec Ideal S8x176x1024 .bf16) (r : Fin 176) (d : Fin 1024) : gsum b (ix2 r d) = ∑ n : Fin 8, b (ix3 n r d) := by
  pointwise [gsum, k0_pay13]
  rw [Fin.sum_univ_eight]

theorem nm_at (g x : FVec Ideal S176x1024 .f32) (r : Fin 176) (d : Fin 1024) : k0_pay1 g x (ix2 r d) = nm (g (ix2 r d)) (x (ix2 r d)) := by
  pointwise [k0_pay1, nm]

theorem nv_at (g x : FVec Ideal S176x1024 .f32) (r : Fin 176) (d : Fin 1024) : k0_pay2 g x (ix2 r d) = nv (g (ix2 r d)) (x (ix2 r d)) := by
  pointwise [k0_pay2, nv]

theorem delta_at (g x y z : FVec Ideal S176x1024 .f32) (r : Fin 176) (d : Fin 1024) :
    k0_pay3 g x y z (ix2 r d) = delta (g (ix2 r d)) (z (ix2 r d)) (x (ix2 r d)) (y (ix2 r d)) := by
  pointwise [k0_pay3, k0_pay1, k0_pay2, nm, nv, delta]

/-- The gradient's sum, from the argument. -/
def gref (x0 : FVec Ideal S2x2x8x352x1024 .f32) (l s : Fin 2) (r : Fin 352) (d : Fin 1024) : EReal := ∑ n : Fin 8, x0 (ix5 l s n r d)

/-- A row of the results. -/
def row (l s : Fin 2) (r : Fin 352) : Fin 1408 := ⟨(l.val * 2 + s.val) * 352 + r.val, by omega⟩

theorem ref_v0 (x0 : FVec Ideal S2x2x8x352x1024 .f32) (l s : Fin 2) (r : Fin 352) (d : Fin 1024) :
    val_main_v0 (F := Ideal) x0 (ix4 l s r d) = gref x0 l s r d := by
  unfold val_main_v0 val_main_cst gref
  pointwise

theorem ref_m (x0 : FVec Ideal S2x2x8x352x1024 .f32) (x2 : FVec Ideal S2x2x352x1024 .f32) (l s : Fin 2) (r : Fin 352) (d : Fin 1024) :
    val_main_v5 (F := Ideal) x0 x2 (ix4 l s r d) = nm (gref x0 l s r d) (x2 (ix4 l s r d)) := by
  rw [← ref_v0]; rfl

theorem ref_v (x0 : FVec Ideal S2x2x8x352x1024 .f32) (x3 : FVec Ideal S2x2x352x1024 .f32) (l s : Fin 2) (r : Fin 352) (d : Fin 1024) :
    val_main_v11 (F := Ideal) x0 x3 (ix4 l s r d) = nv (gref x0 l s r d) (x3 (ix4 l s r d)) := by
  rw [← ref_v0]; rfl

theorem ref_delta (x0 : FVec Ideal S2x2x8x352x1024 .f32) (x1 x2 x3 : FVec Ideal S2x2x352x1024 .f32) (l s : Fin 2) (r : Fin 352) (d : Fin 1024) :
    val_main_v24 (F := Ideal) x0 x1 x2 x3 (ix4 l s r d) = delta (gref x0 l s r d) (x1 (ix4 l s r d)) (x2 (ix4 l s r d)) (x3 (ix4 l s r d)) := by
  rw [← ref_v0]; rfl

/-- A result's row is its weight's row. -/
theorem flat (A : FVec Ideal S2x2x352x1024 .f32) (l s : Fin 2) (r : Fin 352) (d : Fin 1024) :
    shapeCast S1408x1024 A shapeCasts_S2x2x352x1024_S1408x1024 (ix2 (row l s r) d) = A (ix4 l s r d) := by
  unfold row
  pointwise

variable (m : (ℓ : Loc nD τ sig) → Buf (Elt Ideal) ℓ) (c : Dev nD)

/-- The gradient's block of the point's weight. -/
def gblk (t : Fin cfg0.N) : FVec Ideal S8x176x1024 .bf16 :=
  if t.val < 2 then iblk m c 0 t else if t.val < 4 then iblk m c 1 t else if t.val < 6 then iblk m c 2 t else iblk m c 3 t

/-- A grid point is of one of the four weights. -/
theorem gblk_cases (t : Fin cfg0.N) : (t.val < 2 ∧ gblk m c t = iblk m c 0 t) ∨ ((2 ≤ t.val ∧ t.val < 4) ∧ gblk m c t = iblk m c 1 t) ∨
    ((4 ≤ t.val ∧ t.val < 6) ∧ gblk m c t = iblk m c 2 t) ∨ (6 ≤ t.val ∧ gblk m c t = iblk m c 3 t) := by
  unfold gblk
  split_ifs <;> simp <;> omega

set_option maxHeartbeats 1600000 in
theorem outs_at (t : Fin cfg0.N) : (outsAt0 m c t.val t.isLt) = (gsum (gblk m c t),
    k0_pay3 (gsum (gblk m c t)) (iblk m c 5 t) (iblk m c 6 t) (iblk m c 4 t), k0_pay1 (gsum (gblk m c t)) (iblk m c 5 t),
    k0_pay2 (gsum (gblk m c t)) (iblk m c 6 t)) := by
  have e : cfg0.N = 8 := N_0
  have ht := t.isLt
  rcases gblk_cases m c t with ⟨h, q⟩ | ⟨h, q⟩ | ⟨h, q⟩ | ⟨h, q⟩ <;> rw [q]
  · rw [outsAt0_A m c t (by omega) (by omega) (by omega) (by omega)]
    refine Prod.ext ?_ (Prod.ext ?_ (Prod.ext ?_ ?_)) <;> unfold gsum <;> frame_out <;> try rfl
  · rw [outsAt0_B m c t (by omega) (by omega) (by omega) (by omega)]
    refine Prod.ext ?_ (Prod.ext ?_ (Prod.ext ?_ ?_)) <;> unfold gsum <;> frame_out <;> try rfl
  · rw [outsAt0_C m c t (by omega) (by omega) (by omega) (by omega)]
    refine Prod.ext ?_ (Prod.ext ?_ (Prod.ext ?_ ?_)) <;> unfold gsum <;> frame_out <;> try rfl
  · rw [outsAt0_D m c t (by omega) (by omega) (by omega) (by omega)]
    refine Prod.ext ?_ (Prod.ext ?_ (Prod.ext ?_ ?_)) <;> unfold gsum <;> frame_out <;> try rfl

theorem V2_at (n : Fin 8) (r : Fin 352) (d : Fin 1024) :
    (V m c main_v2 : FVec Ideal S8x352x1024 .bf16) (ix3 n r d) = (m ((c : Thread nD τ).loc main_arg0) : FVec Ideal S2x2x8x352x1024 .f32) (ix5 0 0 n r d) := by
  unfold V
  after_reads_at

theorem V5_at (n : Fin 8) (r : Fin 352) (d : Fin 1024) :
    (V m c main_v5 : FVec Ideal S8x352x1024 .bf16) (ix3 n r d) = (m ((c : Thread nD τ).loc main_arg0) : FVec Ideal S2x2x8x352x1024 .f32) (ix5 0 1 n r d) := by
  unfold V
  after_reads_at

theorem V8_at (n : Fin 8) (r : Fin 352) (d : Fin 1024) :
    (V m c main_v8 : FVec Ideal S8x352x1024 .bf16) (ix3 n r d) = (m ((c : Thread nD τ).loc main_arg0) : FVec Ideal S2x2x8x352x1024 .f32) (ix5 1 0 n r d) := by
  unfold V
  after_reads_at

theorem V11_at (n : Fin 8) (r : Fin 352) (d : Fin 1024) :
    (V m c main_v11 : FVec Ideal S8x352x1024 .bf16) (ix3 n r d) = (m ((c : Thread nD τ).loc main_arg0) : FVec Ideal S2x2x8x352x1024 .f32) (ix5 1 1 n r d) := by
  unfold V
  after_reads_at

theorem V12_at (l s : Fin 2) (r : Fin 352) (d : Fin 1024) :
    (V m c main_v12 : FVec Ideal S1408x1024 .f32) (ix2 (row l s r) d) = (m ((c : Thread nD τ).loc main_arg1) : FVec Ideal S2x2x352x1024 .f32) (ix4 l s r d) := by
  unfold V row
  after_reads_at

theorem V13_at (l s : Fin 2) (r : Fin 352) (d : Fin 1024) :
    (V m c main_v13 : FVec Ideal S1408x1024 .f32) (ix2 (row l s r) d) = (m ((c : Thread nD τ).loc main_arg2) : FVec Ideal S2x2x352x1024 .f32) (ix4 l s r d) := by
  unfold V row
  after_reads_at

theorem V14_at (l s : Fin 2) (r : Fin 352) (d : Fin 1024) :
    (V m c main_v14 : FVec Ideal S1408x1024 .f32) (ix2 (row l s r) d) = (m ((c : Thread nD τ).loc main_arg3) : FVec Ideal S2x2x352x1024 .f32) (ix4 l s r d) := by
  unfold V row
  after_reads_at

/-- The layer of grid point `t`, and which of its two weights. -/
def lay (t : Fin cfg0.N) : Fin 2 := ⟨t.val / 4, by have := t.isLt; have e : cfg0.N = 8 := N_0; omega⟩
def sub (t : Fin cfg0.N) : Fin 2 := ⟨t.val / 2 % 2, by omega⟩
/-- The weight's row at row `r` of the block. -/
def rowOf (t : Fin cfg0.N) (r : Fin 176) : Fin 352 := ⟨t.val % 2 * 176 + r.val, by omega⟩

theorem ix0_0 : ∀ t : Fin cfg0.N, t.val < 2 → win0_0.index t = ![0, t.val % 2, 0] :=
  (by decide +kernel : ∀ t : Fin grid0.N, t.val < 2 → win0_0.index t = ![0, t.val % 2, 0])
theorem ix0_1 : ∀ t : Fin cfg0.N, (2 ≤ t.val ∧ t.val < 4) → win0_1.index t = ![0, t.val % 2, 0] :=
  (by decide +kernel : ∀ t : Fin grid0.N, (2 ≤ t.val ∧ t.val < 4) → win0_1.index t = ![0, t.val % 2, 0])
theorem ix0_2 : ∀ t : Fin cfg0.N, (4 ≤ t.val ∧ t.val < 6) → win0_2.index t = ![0, t.val % 2, 0] :=
  (by decide +kernel : ∀ t : Fin grid0.N, (4 ≤ t.val ∧ t.val < 6) → win0_2.index t = ![0, t.val % 2, 0])
theorem ix0_3 : ∀ t : Fin cfg0.N, 6 ≤ t.val → win0_3.index t = ![0, t.val % 2, 0] :=
  (by decide +kernel : ∀ t : Fin grid0.N, 6 ≤ t.val → win0_3.index t = ![0, t.val % 2, 0])
theorem ix0_4 : ∀ t : Fin cfg0.N, win0_4.index t = ![t.val, 0] :=
  (by decide +kernel : ∀ t : Fin grid0.N, win0_4.index t = ![t.val, 0])
theorem ix0_5 : ∀ t : Fin cfg0.N, win0_5.index t = ![t.val, 0] :=
  (by decide +kernel : ∀ t : Fin grid0.N, win0_5.index t = ![t.val, 0])
theorem ix0_6 : ∀ t : Fin cfg0.N, win0_6.index t = ![t.val, 0] :=
  (by decide +kernel : ∀ t : Fin grid0.N, win0_6.index t = ![t.val, 0])
theorem ix0_7 : ∀ t : Fin cfg0.N, win0_7.index t = ![t.val, 0] :=
  (by decide +kernel : ∀ t : Fin grid0.N, win0_7.index t = ![t.val, 0])
theorem ix0_8 : ∀ t : Fin cfg0.N, win0_8.index t = ![t.val, 0] :=
  (by decide +kernel : ∀ t : Fin grid0.N, win0_8.index t = ![t.val, 0])
theorem ix0_9 : ∀ t : Fin cfg0.N, win0_9.index t = ![t.val, 0] :=
  (by decide +kernel : ∀ t : Fin grid0.N, win0_9.index t = ![t.val, 0])
theorem ix0_10 : ∀ t : Fin cfg0.N, win0_10.index t = ![t.val, 0] :=
  (by decide +kernel : ∀ t : Fin grid0.N, win0_10.index t = ![t.val, 0])

/-- The arguments. -/
abbrev ap : FVec Ideal S2x2x8x352x1024 .f32 := m ((c : Thread nD τ).loc main_arg0)
abbrev aw : FVec Ideal S2x2x352x1024 .f32 := m ((c : Thread nD τ).loc main_arg1)
abbrev am : FVec Ideal S2x2x352x1024 .f32 := m ((c : Thread nD τ).loc main_arg2)
abbrev av : FVec Ideal S2x2x352x1024 .f32 := m ((c : Thread nD τ).loc main_arg3)

theorem X0 (t : Fin cfg0.N) (h : t.val < 2) (n : Fin 8) (r : Fin 176) (d : Fin 1024) : iblk m c 0 t (ix3 n r d) = ap m c (ix5 0 0 n (rowOf t r) d) := by
  refine Eq.trans ?_ (V2_at m c n (rowOf t r) d)
  show V m c main_v2 (((cfg0.win 0).blk t).view.emb (ix3 n r d)) = _
  generalize V m c main_v2 = A
  blk_ext [ix0_0 t h, rowOf]

theorem X1 (t : Fin cfg0.N) (h : (2 ≤ t.val ∧ t.val < 4)) (n : Fin 8) (r : Fin 176) (d : Fin 1024) : iblk m c 1 t (ix3 n r d) = ap m c (ix5 0 1 n (rowOf t r) d) := by
  refine Eq.trans ?_ (V5_at m c n (rowOf t r) d)
  show V m c main_v5 (((cfg0.win 1).blk t).view.emb (ix3 n r d)) = _
  generalize V m c main_v5 = A
  blk_ext [ix0_1 t h, rowOf]

theorem X2 (t : Fin cfg0.N) (h : (4 ≤ t.val ∧ t.val < 6)) (n : Fin 8) (r : Fin 176) (d : Fin 1024) : iblk m c 2 t (ix3 n r d) = ap m c (ix5 1 0 n (rowOf t r) d) := by
  refine Eq.trans ?_ (V8_at m c n (rowOf t r) d)
  show V m c main_v8 (((cfg0.win 2).blk t).view.emb (ix3 n r d)) = _
  generalize V m c main_v8 = A
  blk_ext [ix0_2 t h, rowOf]

theorem X3 (t : Fin cfg0.N) (h : 6 ≤ t.val) (n : Fin 8) (r : Fin 176) (d : Fin 1024) : iblk m c 3 t (ix3 n r d) = ap m c (ix5 1 1 n (rowOf t r) d) := by
  refine Eq.trans ?_ (V11_at m c n (rowOf t r) d)
  show V m c main_v11 (((cfg0.win 3).blk t).view.emb (ix3 n r d)) = _
  generalize V m c main_v11 = A
  blk_ext [ix0_3 t h, rowOf]

/-- A row of the results, at a point. -/
theorem row_at (t : Fin cfg0.N) (r : Fin 176) : (row (lay t) (sub t) (rowOf t r)).val = t.val * 176 + r.val := by
  show (t.val / 4 * 2 + t.val / 2 % 2) * 352 + (t.val % 2 * 176 + r.val) = t.val * 176 + r.val
  omega

theorem X4 (t : Fin cfg0.N) (r : Fin 176) (d : Fin 1024) : iblk m c 4 t (ix2 r d) = aw m c (ix4 (lay t) (sub t) (rowOf t r) d) := by
  refine Eq.trans ?_ (V12_at m c (lay t) (sub t) (rowOf t r) d)
  show V m c main_v12 (((cfg0.win 4).blk t).view.emb (ix2 r d)) = _
  generalize V m c main_v12 = A
  refine congrArg A (funext fun x => Fin.ext ?_)
  fin_cases x
  · refine Eq.trans ?_ (row_at t r).symm
    blk_simp [ix0_4 t]
    rfl
  · blk_simp [ix0_4 t]
    rfl

theorem X5 (t : Fin cfg0.N) (r : Fin 176) (d : Fin 1024) : iblk m c 5 t (ix2 r d) = am m c (ix4 (lay t) (sub t) (rowOf t r) d) := by
  refine Eq.trans ?_ (V13_at m c (lay t) (sub t) (rowOf t r) d)
  show V m c main_v13 (((cfg0.win 5).blk t).view.emb (ix2 r d)) = _
  generalize V m c main_v13 = A
  refine congrArg A (funext fun x => Fin.ext ?_)
  fin_cases x
  · refine Eq.trans ?_ (row_at t r).symm
    blk_simp [ix0_5 t]
    rfl
  · blk_simp [ix0_5 t]
    rfl

theorem X6 (t : Fin cfg0.N) (r : Fin 176) (d : Fin 1024) : iblk m c 6 t (ix2 r d) = av m c (ix4 (lay t) (sub t) (rowOf t r) d) := by
  refine Eq.trans ?_ (V14_at m c (lay t) (sub t) (rowOf t r) d)
  show V m c main_v14 (((cfg0.win 6).blk t).view.emb (ix2 r d)) = _
  generalize V m c main_v14 = A
  refine congrArg A (funext fun x => Fin.ext ?_)
  fin_cases x
  · refine Eq.trans ?_ (row_at t r).symm
    blk_simp [ix0_6 t]
    rfl
  · blk_simp [ix0_6 t]
    rfl

/-- The sum over the devices, at a point. -/
theorem g_at (t : Fin cfg0.N) (r : Fin 176) (d : Fin 1024) : gsum (gblk m c t) (ix2 r d) = gref (ap m c) (lay t) (sub t) (rowOf t r) d := by
  rw [gsum_at, gref]
  refine Finset.sum_congr rfl fun n _ => ?_
  have e : cfg0.N = 8 := N_0
  have ht := t.isLt
  rcases gblk_cases m c t with ⟨h, q⟩ | ⟨h, q⟩ | ⟨h, q⟩ | ⟨h, q⟩ <;> rw [q]
  · rw [X0 m c t h, show lay t = 0 from Fin.ext (show t.val / 4 = 0 by omega), show sub t = 0 from Fin.ext (show t.val / 2 % 2 = 0 by omega)]
  · rw [X1 m c t h, show lay t = 0 from Fin.ext (show t.val / 4 = 0 by omega), show sub t = 1 from Fin.ext (show t.val / 2 % 2 = 1 by omega)]
  · rw [X2 m c t h, show lay t = 1 from Fin.ext (show t.val / 4 = 1 by omega), show sub t = 0 from Fin.ext (show t.val / 2 % 2 = 0 by omega)]
  · rw [X3 m c t h, show lay t = 1 from Fin.ext (show t.val / 4 = 1 by omega), show sub t = 1 from Fin.ext (show t.val / 2 % 2 = 1 by omega)]

theorem arr7 : (dats m 0 c).arrAt 7 cfg0.N = val_main_v25 (F := Ideal) (ap m c) := by
  refine (dats m 0 c).arrAt_eq_of_covers 7 _ (by decide +kernel) fun t hf y => ?_
  blk_simp
  rw [after0_7]
  idx_vars y
  rw [outs_at]
  dsimp only
  rw [g_at]
  refine ((flat _ (lay t) (sub t) (rowOf t y0) y1).trans (ref_v0 (ap m c) (lay t) (sub t) (rowOf t y0) y1)).symm.trans ?_
  refine congrArg (val_main_v25 (F := Ideal) (ap m c)) (funext fun x => Fin.ext ?_)
  fin_cases x
  · refine (row_at t y0).trans ?_
    blk_simp [ix0_7 t]
    rfl
  · blk_simp [ix0_7 t]
    rfl

theorem arr8 : (dats m 0 c).arrAt 8 cfg0.N = val_main_v26 (F := Ideal) (ap m c) (aw m c) (am m c) (av m c) := by
  refine (dats m 0 c).arrAt_eq_of_covers 8 _ (by decide +kernel) fun t hf y => ?_
  blk_simp
  rw [after0_8]
  idx_vars y
  rw [outs_at]
  dsimp only
  rw [delta_at, g_at, X4, X5, X6]
  refine ((flat _ (lay t) (sub t) (rowOf t y0) y1).trans (ref_delta (ap m c) (aw m c) (am m c) (av m c) (lay t) (sub t) (rowOf t y0) y1)).symm.trans ?_
  refine congrArg (val_main_v26 (F := Ideal) (ap m c) (aw m c) (am m c) (av m c)) (funext fun x => Fin.ext ?_)
  fin_cases x
  · refine (row_at t y0).trans ?_
    blk_simp [ix0_8 t]
    rfl
  · blk_simp [ix0_8 t]
    rfl

theorem arr9 : (dats m 0 c).arrAt 9 cfg0.N = val_main_v27 (F := Ideal) (ap m c) (am m c) := by
  refine (dats m 0 c).arrAt_eq_of_covers 9 _ (by decide +kernel) fun t hf y => ?_
  blk_simp
  rw [after0_9]
  idx_vars y
  rw [outs_at]
  dsimp only
  rw [nm_at, g_at, X5]
  refine ((flat _ (lay t) (sub t) (rowOf t y0) y1).trans (ref_m (ap m c) (am m c) (lay t) (sub t) (rowOf t y0) y1)).symm.trans ?_
  refine congrArg (val_main_v27 (F := Ideal) (ap m c) (am m c)) (funext fun x => Fin.ext ?_)
  fin_cases x
  · refine (row_at t y0).trans ?_
    blk_simp [ix0_9 t]
    rfl
  · blk_simp [ix0_9 t]
    rfl

theorem arr10 : (dats m 0 c).arrAt 10 cfg0.N = val_main_v28 (F := Ideal) (ap m c) (av m c) := by
  refine (dats m 0 c).arrAt_eq_of_covers 10 _ (by decide +kernel) fun t hf y => ?_
  blk_simp
  rw [after0_10]
  idx_vars y
  rw [outs_at]
  dsimp only
  rw [nv_at, g_at, X6]
  refine ((flat _ (lay t) (sub t) (rowOf t y0) y1).trans (ref_v (ap m c) (av m c) (lay t) (sub t) (rowOf t y0) y1)).symm.trans ?_
  refine congrArg (val_main_v28 (F := Ideal) (ap m c) (av m c)) (funext fun x => Fin.ext ?_)
  fin_cases x
  · refine (row_at t y0).trans ?_
    blk_simp [ix0_10 t]
    rfl
  · blk_simp [ix0_10 t]
    rfl

/-- The reference ends with its arguments unchanged and, as it has none, every counter at zero. -/
theorem frame_ref : Cert.quiescent_Reference14Ideal (hReference14Ideal := Cert.Reference14Ideal.Gen.facts) := fun m ρ _ =>
  (θ_run _ _ _).mono (fun r h => ⟨fun c => (h c).2.2.2.2, sem_eq_zero_of_no_sems rfl r.2⟩) (Cert.Reference14Ideal.Value.run m ρ)

/-- The algebraic claim of the optimiser's step. -/
theorem algebraic : Cert.algebraic_Kernel14Ideal_Reference14Ideal (hKernel14Ideal := Cert.Kernel14Ideal.Gen.facts)
    (hReference14Ideal := Cert.Reference14Ideal.Gen.facts) := by
  intro m g m' g' _ ha
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel14Ideal.Value.run_blocks m g,
    (θ_run _ _ _).mono (fun r h c => ?_) (Cert.Reference14Ideal.Value.run m' g')⟩
  obtain ⟨a0, a1, a2, a3⟩ := ha c
  obtain ⟨r0, r1, r2, r3, rest⟩ := h c
  rw [val_main_v25_eq, a0] at r0
  rw [val_main_v26_eq, a0, a1, a2, a3] at r1
  rw [val_main_v27_eq, a0, a2] at r2
  rw [val_main_v28_eq, a0, a3] at r3
  exact ⟨r0.trans (arr7 m c).symm, r1.trans (arr8 m c).symm, r2.trans (arr9 m c).symm, r3.trans (arr10 m c).symm, rest⟩

end Cert.AdamW2
-- ==== Proof.AdamSmall.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.AdamW
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

/-! The optimiser's step for the small weights, which are in one array. -/
namespace Cert.AdamSmall

open Cert.Kernel15Ideal Cert.Kernel15Ideal.Gen Idealize.ShloMosaic Idealize.ShloMosaic.Pointwise Idealize.ShloMosaic.TcCoe
open Cert.Reference15Ideal.Read Cert.AdamW Idealize.SL.Sem

theorem g_at (x : FVec Ideal S1x168x128 .f32) (r : Fin 168) (d : Fin 128) : k0_pay1 x (ix2 r d) = x (ix3 0 r d) := by
  pointwise [k0_pay1]

theorem nm_at (x : FVec Ideal S1x168x128 .f32) (y : FVec Ideal S168x128 .f32) (r : Fin 168) (d : Fin 128) :
    k0_pay2 (F := Ideal) x y (ix2 r d) = nm (x (ix3 0 r d)) (y (ix2 r d)) := by
  pointwise [k0_pay2, k0_pay1, nm]

theorem nv_at (x : FVec Ideal S1x168x128 .f32) (y : FVec Ideal S168x128 .f32) (r : Fin 168) (d : Fin 128) :
    k0_pay3 (F := Ideal) x y (ix2 r d) = nv (x (ix3 0 r d)) (y (ix2 r d)) := by
  pointwise [k0_pay3, k0_pay1, nv]

theorem delta_at (x : FVec Ideal S1x168x128 .f32) (y z w : FVec Ideal S168x128 .f32) (r : Fin 168) (d : Fin 128) :
    k0_pay4 (F := Ideal) x y z w (ix2 r d) = delta (x (ix3 0 r d)) (w (ix2 r d)) (y (ix2 r d)) (z (ix2 r d)) := by
  pointwise [k0_pay4, k0_pay2, k0_pay3, k0_pay1, nm, nv, delta]

theorem ref_m (x0 x2 : FVec Ideal S168x128 .f32) (i : S168x128.Idx) :
    val_main_v4 (F := Ideal) x0 x2 i = nm (x0 i) (x2 i) := rfl

theorem ref_v (x0 x3 : FVec Ideal S168x128 .f32) (i : S168x128.Idx) :
    val_main_v10 (F := Ideal) x0 x3 i = nv (x0 i) (x3 i) := rfl

theorem ref_delta (x0 x1 x2 x3 : FVec Ideal S168x128 .f32) (i : S168x128.Idx) :
    val_main_v23 (F := Ideal) x0 x1 x2 x3 i = delta (x0 i) (x1 i) (x2 i) (x3 i) := rfl

variable (m : (ℓ : Loc nD τ sig) → Buf (Elt Ideal) ℓ) (c : Dev nD)

/-- The arguments. -/
abbrev ag : FVec Ideal S168x128 .f32 := m ((c : Thread nD τ).loc main_arg0)
abbrev aw : FVec Ideal S168x128 .f32 := m ((c : Thread nD τ).loc main_arg1)
abbrev am : FVec Ideal S168x128 .f32 := m ((c : Thread nD τ).loc main_arg2)
abbrev av : FVec Ideal S168x128 .f32 := m ((c : Thread nD τ).loc main_arg3)

theorem outs_at (t : Fin cfg0.N) : outsAt0 m c t = (k0_pay1 (iblk m c 0 t),
    k0_pay4 (iblk m c 0 t) (iblk m c 2 t) (iblk m c 3 t) (iblk m c 1 t),
    k0_pay2 (iblk m c 0 t) (iblk m c 2 t), k0_pay3 (iblk m c 0 t) (iblk m c 3 t)) := by
  unfold outsAt0
  refine Prod.ext ?_ (Prod.ext ?_ (Prod.ext ?_ ?_)) <;> frame_out

theorem V0_at (r : Fin 168) (d : Fin 128) : (V m c main_v0 : FVec Ideal S1x168x128 .f32) (ix3 0 r d) = ag m c (ix2 r d) := by
  unfold V
  after_reads_at

theorem ix0_0 : ∀ t : Fin cfg0.N, win0_0.index t = ![0, 0, 0] :=
  (by decide +kernel : ∀ t : Fin grid0.N, win0_0.index t = ![0, 0, 0])
theorem ix0_1 : ∀ t : Fin cfg0.N, win0_1.index t = ![0, 0] :=
  (by decide +kernel : ∀ t : Fin grid0.N, win0_1.index t = ![0, 0])
theorem ix0_2 : ∀ t : Fin cfg0.N, win0_2.index t = ![0, 0] :=
  (by decide +kernel : ∀ t : Fin grid0.N, win0_2.index t = ![0, 0])
theorem ix0_3 : ∀ t : Fin cfg0.N, win0_3.index t = ![0, 0] :=
  (by decide +kernel : ∀ t : Fin grid0.N, win0_3.index t = ![0, 0])
theorem ix0_4 : ∀ t : Fin cfg0.N, win0_4.index t = ![0, 0] :=
  (by decide +kernel : ∀ t : Fin grid0.N, win0_4.index t = ![0, 0])
theorem ix0_5 : ∀ t : Fin cfg0.N, win0_5.index t = ![0, 0] :=
  (by decide +kernel : ∀ t : Fin grid0.N, win0_5.index t = ![0, 0])
theorem ix0_6 : ∀ t : Fin cfg0.N, win0_6.index t = ![0, 0] :=
  (by decide +kernel : ∀ t : Fin grid0.N, win0_6.index t = ![0, 0])
theorem ix0_7 : ∀ t : Fin cfg0.N, win0_7.index t = ![0, 0] :=
  (by decide +kernel : ∀ t : Fin grid0.N, win0_7.index t = ![0, 0])

theorem X0 (t : Fin cfg0.N) (r : Fin 168) (d : Fin 128) : iblk m c 0 t (ix3 0 r d) = ag m c (ix2 r d) := by
  refine Eq.trans ?_ (V0_at m c r d)
  show V m c main_v0 (((cfg0.win 0).blk t).view.emb (ix3 0 r d)) = _
  generalize V m c main_v0 = A
  blk_ext [ix0_0 t]

theorem X1 (t : Fin cfg0.N) (r : Fin 168) (d : Fin 128) : iblk m c 1 t (ix2 r d) = aw m c (ix2 r d) := by
  show aw m c (((cfg0.win 1).blk t).view.emb (ix2 r d)) = _
  generalize aw m c = A
  blk_ext [ix0_1 t]

theorem X2 (t : Fin cfg0.N) (r : Fin 168) (d : Fin 128) : iblk m c 2 t (ix2 r d) = am m c (ix2 r d) := by
  show am m c (((cfg0.win 2).blk t).view.emb (ix2 r d)) = _
  generalize am m c = A
  blk_ext [ix0_2 t]

theorem X3 (t : Fin cfg0.N) (r : Fin 168) (d : Fin 128) : iblk m c 3 t (ix2 r d) = av m c (ix2 r d) := by
  show av m c (((cfg0.win 3).blk t).view.emb (ix2 r d)) = _
  generalize av m c = A
  blk_ext [ix0_3 t]

theorem arr4 : (dats m 0 c).arrAt 4 cfg0.N = ag m c := by
  refine (dats m 0 c).arrAt_eq_of_covers 4 _ (by decide +kernel) fun t hf y => ?_
  blk_simp
  rw [after0_4]
  idx_vars y
  rw [outs_at]
  dsimp only
  rw [g_at, X0]
  refine congrArg (ag m c) (funext fun x => Fin.ext ?_)
  fin_cases x <;> blk_simp [ix0_4 t] <;> rfl

theorem arr5 : (dats m 0 c).arrAt 5 cfg0.N = val_main_v23 (F := Ideal) (ag m c) (aw m c) (am m c) (av m c) := by
  refine (dats m 0 c).arrAt_eq_of_covers 5 _ (by decide +kernel) fun t hf y => ?_
  blk_simp
  rw [after0_5]
  idx_vars y
  rw [outs_at]
  dsimp only
  rw [delta_at, X0, X1, X2, X3]
  refine (ref_delta (ag m c) (aw m c) (am m c) (av m c) _).symm.trans ?_
  refine congrArg (val_main_v23 (F := Ideal) (ag m c) (aw m c) (am m c) (av m c)) (funext fun x => Fin.ext ?_)
  fin_cases x <;> blk_simp [ix0_5 t] <;> rfl

theorem arr6 : (dats m 0 c).arrAt 6 cfg0.N = val_main_v4 (F := Ideal) (ag m c) (am m c) := by
  refine (dats m 0 c).arrAt_eq_of_covers 6 _ (by decide +kernel) fun t hf y => ?_
  blk_simp
  rw [after0_6]
  idx_vars y
  rw [outs_at]
  dsimp only
  rw [nm_at, X0, X2]
  refine (ref_m (ag m c) (am m c) _).symm.trans ?_
  refine congrArg (val_main_v4 (F := Ideal) (ag m c) (am m c)) (funext fun x => Fin.ext ?_)
  fin_cases x <;> blk_simp [ix0_6 t] <;> rfl

theorem arr7 : (dats m 0 c).arrAt 7 cfg0.N = val_main_v10 (F := Ideal) (ag m c) (av m c) := by
  refine (dats m 0 c).arrAt_eq_of_covers 7 _ (by decide +kernel) fun t hf y => ?_
  blk_simp
  rw [after0_7]
  idx_vars y
  rw [outs_at]
  dsimp only
  rw [nv_at, X0, X3]
  refine (ref_v (ag m c) (av m c) _).symm.trans ?_
  refine congrArg (val_main_v10 (F := Ideal) (ag m c) (av m c)) (funext fun x => Fin.ext ?_)
  fin_cases x <;> blk_simp [ix0_7 t] <;> rfl

/-- The reference ends with its arguments unchanged and, as it has none, every counter at zero. -/
theorem frame_ref : Cert.quiescent_Reference15Ideal (hReference15Ideal := Cert.Reference15Ideal.Gen.facts) := fun m ρ _ =>
  (θ_run _ _ _).mono (fun r h => ⟨fun c => (h c).2.2.2.2, sem_eq_zero_of_no_sems rfl r.2⟩) (Cert.Reference15Ideal.Value.run m ρ)

/-- The algebraic claim of the optimiser's step. -/
theorem algebraic : Cert.algebraic_Kernel15Ideal_Reference15Ideal (hKernel15Ideal := Cert.Kernel15Ideal.Gen.facts)
    (hReference15Ideal := Cert.Reference15Ideal.Gen.facts) := by
  intro m g m' g' _ ha
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel15Ideal.Value.run_blocks m g,
    (θ_run _ _ _).mono (fun r h c => ?_) (Cert.Reference15Ideal.Value.run m' g')⟩
  obtain ⟨a0, a1, a2, a3⟩ := ha c
  obtain ⟨r0, r1, r2, r3, rest⟩ := h c
  rw [a0] at r0
  rw [val_main_v23_eq, a0, a1, a2, a3] at r1
  rw [val_main_v4_eq, a0, a2] at r2
  rw [val_main_v10_eq, a0, a3] at r3
  exact ⟨r0.trans (arr4 m c).symm, r1.trans (arr5 m c).symm, r2.trans (arr6 m c).symm, r3.trans (arr7 m c).symm, rest⟩

end Cert.AdamSmall
-- ==== Proof.SumDevices.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

/-! The sum over the devices of the small gradients, which are in one array. -/
namespace Cert.SumDevices

open Cert.Kernel16Ideal Cert.Kernel16Ideal.Gen Idealize.ShloMosaic Idealize.ShloMosaic.Pointwise Idealize.ShloMosaic.TcCoe
open Cert.Reference16Ideal.Read Idealize.SL.Sem

theorem out_at (x : Vec Ideal S8x232x128 .f32) (y : S232x128.Idx) :
    out0_1 x y = x (ix3 0 (y 0) (y 1)) + x (ix3 1 (y 0) (y 1)) + x (ix3 2 (y 0) (y 1)) + x (ix3 3 (y 0) (y 1)) + x (ix3 4 (y 0) (y 1))
      + x (ix3 5 (y 0) (y 1)) + x (ix3 6 (y 0) (y 1)) + x (ix3 7 (y 0) (y 1)) := by
  unfold out0_1
  canon_tiles x h
  all_goals
    idx_vars x
    pointwise [k0_pay1]
    obtain rfl : x0 = y 0 := Fin.ext h0.symm
    obtain rfl : x1 = y 1 := Fin.ext h1.symm
    rfl

theorem ref_at (x : FVec Ideal S8x232x128 .f32) (r : Fin 232) (d : Fin 128) :
    val_main_v0 (F := Ideal) x (ix2 r d) = ∑ n : Fin 8, x (ix3 n r d) := by
  unfold val_main_v0 val_main_cst
  pointwise

variable (m : (ℓ : Loc nD τ sig) → Buf (Elt Ideal) ℓ) (c : Dev nD)

/-- The argument. -/
abbrev ap : FVec Ideal S8x232x128 .f32 := m ((c : Thread nD τ).loc main_arg0)

theorem ix0_0 : ∀ t : Fin cfg0.N, win0_0.index t = ![0, 0, 0] :=
  (by decide +kernel : ∀ t : Fin grid0.N, win0_0.index t = ![0, 0, 0])
theorem ix0_1 : ∀ t : Fin cfg0.N, win0_1.index t = ![0, 0] :=
  (by decide +kernel : ∀ t : Fin grid0.N, win0_1.index t = ![0, 0])

theorem X0 (t : Fin cfg0.N) (n : Fin 8) (r : Fin 232) (d : Fin 128) : iblk m c 0 t (ix3 n r d) = ap m c (ix3 n r d) := by
  show ap m c (((cfg0.win 0).blk t).view.emb (ix3 n r d)) = _
  generalize ap m c = A
  blk_ext [ix0_0 t]

theorem arr1 : (dats m 0 c).arrAt 1 cfg0.N = val_main_v0 (F := Ideal) (ap m c) := by
  refine (dats m 0 c).arrAt_eq_of_covers 1 _ (by decide +kernel) fun t hf y => ?_
  blk_simp
  rw [after0_1, out_at]
  idx_vars y
  rw [X0, X0, X0, X0, X0, X0, X0, X0]
  refine ((ref_at (ap m c) y0 y1).trans (Fin.sum_univ_eight _)).symm.trans ?_
  refine congrArg (val_main_v0 (F := Ideal) (ap m c)) (funext fun x => Fin.ext ?_)
  fin_cases x <;> blk_simp [ix0_1 t] <;> rfl

/-- The reference ends with its arguments unchanged and, as it has none, every counter at zero. -/
theorem frame_ref : Cert.quiescent_Reference16Ideal (hReference16Ideal := Cert.Reference16Ideal.Gen.facts) := fun m ρ _ =>
  (θ_run _ _ _).mono (fun r h => ⟨fun c => (h c).2, sem_eq_zero_of_no_sems rfl r.2⟩) (Cert.Reference16Ideal.Value.run m ρ)

/-- The algebraic claim of the sum over the devices. -/
theorem algebraic : Cert.algebraic_Kernel16Ideal_Reference16Ideal (hKernel16Ideal := Cert.Kernel16Ideal.Gen.facts)
    (hReference16Ideal := Cert.Reference16Ideal.Gen.facts) := by
  intro m g m' g' _ ha
  refine ⟨fun c => (dats m 0 c).arrAt 1 cfg0.N, Cert.Kernel16Ideal.Value.run_blocks m g,
    (θ_run _ _ _).mono (fun r h c => ?_) (Cert.Reference16Ideal.Value.run m' g')⟩
  have a0 := ha c
  obtain ⟨r0, rest⟩ := h c
  rw [val_main_v0_eq, a0] at r0
  exact ⟨r0.trans (arr1 m c).symm, rest⟩

end Cert.SumDevices
-- ==== Proof.ModPart.lean ====
module

public import proofs.«01_k».proof.Defs
public import Idealize.ShloMosaic.Lib.Quiescent
public import Idealize.ShloMosaic.Lib.StableHlo.ReadAt
public import Idealize.ShloMosaic.Lib.Pipeline.ValueKit
public import Idealize.ShloMosaic.Lib.Pipeline.ReadBack
public import proofs.«01_k».proof.Proof.Finite
public import proofs.«01_k».proof.Proof.Gen.Pre_finite_mod
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

/-! The modulation's linear map of silu of the condition. -/
namespace Cert.ModPart

open Cert.Kernel17Ideal Cert.Kernel17Ideal.Gen Idealize.ShloMosaic Idealize.ShloMosaic.Pointwise Idealize.ShloMosaic.TcCoe
open Cert.Reference17Ideal.Read Idealize.SL.Sem

/-- Silu. -/
def silu (g : EReal) : EReal := g * Ideal.logistic g

/-- One entry of the product with the weight, and the bias. -/
def entry (x : FVec Ideal S8x1024 .f32) (z : FVec Ideal S1x1024x1152 .f32) (w : FVec Ideal S1x1x1152 .f32) (b : Fin 8) (d : Fin 1152) : EReal :=
  ∑ k : Fin 1024, silu (x (ix2 b k)) * z (ix3 0 k d) + ∑ k : Fin 1024, silu (x (ix2 b k)) * (z (ix3 0 k d) - z (ix3 0 k d))
    + ∑ k : Fin 1024, (silu (x (ix2 b k)) - silu (x (ix2 b k))) * z (ix3 0 k d) + w (ix3 0 0 d)

/-- Of finite arguments the parts that the rounding leaves over are zero. -/
theorem entry_eq (x : FVec Ideal S8x1024 .f32) (z : FVec Ideal S1x1024x1152 .f32) (w : FVec Ideal S1x1x1152 .f32) (b : Fin 8) (d : Fin 1152)
    (hx : ∀ k, ∃ r : ℝ, silu (x (ix2 b k)) = r) (hz : ∀ k, ∃ r : ℝ, z (ix3 0 k d) = (r : EReal)) :
    entry x z w b d = ∑ k : Fin 1024, silu (x (ix2 b k)) * z (ix3 0 k d) + w (ix3 0 0 d) := by
  have e1 : ∑ k : Fin 1024, silu (x (ix2 b k)) * (z (ix3 0 k d) - z (ix3 0 k d) : EReal) = 0 :=
    Finset.sum_eq_zero fun k _ => by
      obtain ⟨r, hr⟩ := hz k
      rw [hr, EReal.sub_self (EReal.coe_ne_top r) (EReal.coe_ne_bot r), mul_zero]
  have e2 : ∑ k : Fin 1024, (silu (x (ix2 b k)) - silu (x (ix2 b k))) * (z (ix3 0 k d) : EReal) = 0 :=
    Finset.sum_eq_zero fun k _ => by
      obtain ⟨r, hr⟩ := hx k
      rw [hr, EReal.sub_self (EReal.coe_ne_top r) (EReal.coe_ne_bot r), zero_mul]
  unfold entry
  rw [e1, e2, add_zero, add_zero]

theorem out_at (x : Vec Ideal S8x1024 .f32) (z : Vec Ideal S1x1024x1152 .f32) (w : Vec Ideal S1x1x1152 .f32) (y : S1x8x1152.Idx) :
    out0_3 x z w y = entry x z w (y 1) (y 2) := by
  unfold out0_3 entry silu
  canon_tiles x h
  all_goals
    idx_vars x
    pointwise [k0_pay2, k0_pay1]
    obtain rfl : x1 = y 1 := Fin.ext h1.symm
    obtain rfl : x2 = y 2 := Fin.ext h2.symm
    rfl

theorem silu_at (x : Vec Ideal S8x1024 .f32) (z : Vec Ideal S1x1024x1152 .f32) (w : Vec Ideal S1x1x1152 .f32) (y : S8x1024.Idx) :
    out0_4 x z w y = silu (x y) := by
  unfold out0_4 silu
  canon_tiles x h
  all_goals
    idx_vars x
    pointwise [k0_pay1]
    obtain rfl : x0 = y 0 := Fin.ext h0.symm
    obtain rfl : x1 = y 1 := Fin.ext h1.symm
    rw [ix2_eta]

/-- The entries, from the arguments. -/
def mod (x : FVec Ideal S8x1024 .f32) (z : FVec Ideal S2x1024x1152 .f32) (w : FVec Ideal S2x1152 .f32) (l : Fin 2) (b : Fin 8) (d : Fin 1152) : EReal :=
  ∑ k : Fin 1024, silu (x (ix2 b k)) * z (ix3 l k d) + w (ix2 l d)

theorem ref_silu (x : FVec Ideal S8x1024 .f32) (b : Fin 8) (k : Fin 1024) : val_main_v0 (F := Ideal) x (ix2 b k) = silu (x (ix2 b k)) := by
  unfold val_main_v0 val_main_call0_v5 val_main_call0_v4 val_main_call0_v3 val_main_call0_v2 val_main_call0_v1 val_main_call0_v0 val_main_call0_cst val_main_call0_cst_0 silu
  pointwise
  rfl

theorem ref_at (x : FVec Ideal S8x1024 .f32) (z : FVec Ideal S2x1024x1152 .f32) (w : FVec Ideal S2x1152 .f32) (l : Fin 2) (b : Fin 8) (d : Fin 1152) :
    val_main_v19 (F := Ideal) x z w (ix3 l b d) = mod x z w l b d := by
  unfold mod
  simp only [← ref_silu]
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1
  generalize val_main_v0 (F := Ideal) x = s
  fin_cases l
  · pointwise
  · pointwise

variable (m : (ℓ : Loc nD τ sig) → Buf (Elt Ideal) ℓ) (c : Dev nD)

/-- The arguments. -/
abbrev ac : FVec Ideal S8x1024 .f32 := m ((c : Thread nD τ).loc main_arg0)
abbrev aw : FVec Ideal S2x1024x1152 .f32 := m ((c : Thread nD τ).loc main_arg1)
abbrev ab : FVec Ideal S2x1152 .f32 := m ((c : Thread nD τ).loc main_arg2)

theorem V0_at (l : Fin 2) (d : Fin 1152) : (V m c main_v0 : FVec Ideal S2x1x1152 .f32) (ix3 l 0 d) = ab m c (ix2 l d) := by
  unfold V
  after_reads_at

/-- The layer of grid point `t`. -/
def lay (t : Fin cfg0.N) : Fin 2 := ⟨t.val, lt_of_lt_of_eq t.isLt N_0⟩

theorem ix0_0 : ∀ t : Fin cfg0.N, win0_0.index t = ![0, 0] :=
  (by decide +kernel : ∀ t : Fin grid0.N, win0_0.index t = ![0, 0])
theorem ix0_1 : ∀ t : Fin cfg0.N, win0_1.index t = ![t.val, 0, 0] :=
  (by decide +kernel : ∀ t : Fin grid0.N, win0_1.index t = ![t.val, 0, 0])
theorem ix0_2 : ∀ t : Fin cfg0.N, win0_2.index t = ![t.val, 0, 0] :=
  (by decide +kernel : ∀ t : Fin grid0.N, win0_2.index t = ![t.val, 0, 0])
theorem ix0_3 : ∀ t : Fin cfg0.N, win0_3.index t = ![t.val, 0, 0] :=
  (by decide +kernel : ∀ t : Fin grid0.N, win0_3.index t = ![t.val, 0, 0])
theorem ix0_4 : ∀ t : Fin cfg0.N, win0_4.index t = ![0, 0] :=
  (by decide +kernel : ∀ t : Fin grid0.N, win0_4.index t = ![0, 0])

theorem X0 (t : Fin cfg0.N) (b : Fin 8) (k : Fin 1024) : iblk m c 0 t (ix2 b k) = ac m c (ix2 b k) := by
  show ac m c (((cfg0.win 0).blk t).view.emb (ix2 b k)) = _
  generalize ac m c = A
  blk_ext [ix0_0 t]

theorem X1 (t : Fin cfg0.N) (k : Fin 1024) (d : Fin 1152) : iblk m c 1 t (ix3 0 k d) = aw m c (ix3 (lay t) k d) := by
  show aw m c (((cfg0.win 1).blk t).view.emb (ix3 0 k d)) = _
  generalize aw m c = A
  blk_ext [ix0_1 t, lay]

theorem X2 (t : Fin cfg0.N) (d : Fin 1152) : iblk m c 2 t (ix3 0 0 d) = ab m c (ix2 (lay t) d) := by
  refine Eq.trans ?_ (V0_at m c (lay t) d)
  show V m c main_v0 (((cfg0.win 2).blk t).view.emb (ix3 0 0 d)) = _
  generalize V m c main_v0 = A
  blk_ext [ix0_2 t, lay]

/-- Silu of a real is real. -/
theorem silu_real (r : ℝ) : ∃ s : ℝ, silu r = s :=
  ⟨r * (1 + Real.exp (-r))⁻¹, by rw [silu, Ideal.logistic_coe, EReal.coe_mul]⟩

theorem entry_at (hx : ∀ i, ∃ r : ℝ, ac m c i = (r : EReal)) (hz : ∀ i, ∃ r : ℝ, aw m c i = (r : EReal)) (t : Fin cfg0.N) (b : Fin 8) (d : Fin 1152) :
    entry (iblk m c 0 t) (iblk m c 1 t) (iblk m c 2 t) b d = mod (ac m c) (aw m c) (ab m c) (lay t) b d := by
  refine (entry_eq _ _ _ b d (fun k => ?_) fun k => ?_).trans ?_
  · obtain ⟨r, hr⟩ := hx (ix2 b k)
    rw [X0, hr]
    exact silu_real r
  · rw [X1]
    exact hz _
  · rw [X2, mod]
    exact congrArg (· + _) (Finset.sum_congr rfl fun k _ => by rw [X0, X1])

theorem arr3 (hx : ∀ i, ∃ r : ℝ, ac m c i = (r : EReal)) (hz : ∀ i, ∃ r : ℝ, aw m c i = (r : EReal)) :
    (dats m 0 c).arrAt 3 cfg0.N = val_main_v19 (F := Ideal) (ac m c) (aw m c) (ab m c) := by
  refine (dats m 0 c).arrAt_eq_of_covers 3 _ (by decide +kernel) fun t hf y => ?_
  blk_simp
  rw [after0_3, out_at]
  idx_vars y
  refine (entry_at m c hx hz t y1 y2).trans ((ref_at (ac m c) (aw m c) (ab m c) (lay t) y1 y2).symm.trans ?_)
  refine congrArg (val_main_v19 (F := Ideal) (ac m c) (aw m c) (ab m c)) (funext fun x => Fin.ext ?_)
  fin_cases x <;> blk_simp [ix0_3 t, lay] <;> rfl

theorem arr4 : (dats m 0 c).arrAt 4 cfg0.N = val_main_v0 (F := Ideal) (ac m c) := by
  refine (dats m 0 c).arrAt_eq_of_covers 4 _ (by decide +kernel) fun t hf y => ?_
  blk_simp
  rw [after0_4, silu_at]
  idx_vars y
  rw [X0]
  refine (ref_silu (ac m c) y0 y1).symm.trans ?_
  refine congrArg (val_main_v0 (F := Ideal) (ac m c)) (funext fun x => Fin.ext ?_)
  fin_cases x <;> blk_simp [ix0_4 t] <;> rfl

/-- The reference ends with its arguments unchanged and, as it has none, every counter at zero. -/
theorem frame_ref : Cert.quiescent_Reference17Ideal (hReference17Ideal := Cert.Reference17Ideal.Gen.facts) := fun m ρ _ =>
  (θ_run _ _ _).mono (fun r h => ⟨fun c => (h c).2.2, sem_eq_zero_of_no_sems rfl r.2⟩) (Cert.Reference17Ideal.Value.run m ρ)

/-- The algebraic claim of the modulation's linear map. -/
theorem algebraic : Cert.algebraic_Kernel17Ideal_Reference17Ideal_pre_finite_mod (hKernel17Ideal := Cert.Kernel17Ideal.Gen.facts)
    (hReference17Ideal := Cert.Reference17Ideal.Gen.facts) (hPre_finite_mod := Cert.Pre_finite_mod.Gen.facts) := by
  intro m g m' g' hp ha
  refine ⟨fun c => (dats m 0 c).arrAt 3 cfg0.N, fun c => (dats m 0 c).arrAt 4 cfg0.N, Cert.Kernel17Ideal.Value.run_blocks m g,
    (θ_run _ _ _).mono (fun r h c => ?_) (Cert.Reference17Ideal.Value.run m' g')⟩
  obtain ⟨p0, p1⟩ := hp c
  obtain ⟨a0, a1, a2⟩ := ha c
  obtain ⟨r0, r1, rest⟩ := h c
  rw [val_main_v19_eq, a0, a1, a2] at r0
  rw [val_main_v0_eq, a0] at r1
  exact ⟨r0.trans (arr3 m c (fun i => ⟨_, Cert.Ffn.eq_re (fun _ => Cert.Ffn.lit_inf) p0 i⟩)
    fun i => ⟨_, Cert.Ffn.eq_re (fun _ => Cert.Ffn.lit_inf) p1 i⟩).symm, r1.trans (arr4 m c).symm, rest⟩

end Cert.ModPart
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Pre_finite_mod
public import proofs.«01_k».proof.Proof.FfnBwd
public import proofs.«01_k».proof.Proof.GradW2Host
public import proofs.«01_k».proof.Proof.GradW1Host
public import proofs.«01_k».proof.Proof.FfnFwdHost
public import proofs.«01_k».proof.Proof.GradWin
public import proofs.«01_k».proof.Proof.GradWout
public import proofs.«01_k».proof.Proof.MixerOut
public import proofs.«01_k».proof.Proof.MixerBwd
public import proofs.«01_k».proof.Proof.LossHead
public import proofs.«01_k».proof.Proof.AdamWout
public import proofs.«01_k».proof.Proof.AdamWin
public import proofs.«01_k».proof.Proof.GradWada
public import proofs.«01_k».proof.Proof.AdamWada
public import proofs.«01_k».proof.Proof.AdamW2
public import proofs.«01_k».proof.Proof.AdamSmall
public import proofs.«01_k».proof.Proof.SumDevices
public import proofs.«01_k».proof.Proof.ModPart
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite.Gen.facts,
  Cert.Pre_finite_mod.Gen.facts,
  fun m ρ _ => Cert.Kernel.Gen.frame m ρ,
  fun m ρ _ => Cert.KernelIdeal.Gen.frame m ρ,
  fun m ρ _ => Cert.KernelIdeal.Gen.frame m ρ,
  Cert.Ffn.frame_ref,
  fun m ρ _ => Cert.Ffn.frame_ref m ρ trivial,
  fun m ρ _ => Cert.Kernel2.Gen.frame m ρ,
  fun m ρ _ => Cert.Kernel2Ideal.Gen.frame m ρ,
  Cert.GradW2.frame_ref,
  fun m ρ _ => Cert.Kernel3.Gen.frame m ρ,
  fun m ρ _ => Cert.Kernel3Ideal.Gen.frame m ρ,
  Cert.GradW1.frame_ref,
  fun m ρ _ => Cert.Kernel4.Gen.frame m ρ,
  fun m ρ _ => Cert.Kernel4Ideal.Gen.frame m ρ,
  Cert.FfnFwd.frame_ref,
  fun m ρ _ => Cert.Kernel5.Gen.frame m ρ,
  fun m ρ _ => Cert.Kernel5Ideal.Gen.frame m ρ,
  Cert.GradWin.frame_ref,
  fun m ρ _ => Cert.Kernel6.Gen.frame m ρ,
  fun m ρ _ => Cert.Kernel6Ideal.Gen.frame m ρ,
  Cert.GradWout.frame_ref,
  fun m ρ _ => Cert.Kernel7.Gen.frame m ρ,
  fun m ρ _ => Cert.Kernel7Ideal.Gen.frame m ρ,
  Cert.MixerOut.frame_ref,
  fun m ρ _ => Cert.Kernel8.Gen.frame m ρ,
  fun m ρ _ => Cert.Kernel8Ideal.Gen.frame m ρ,
  Cert.MixerBwd.frame_ref,
  fun m ρ _ => Cert.Kernel9.Gen.frame m ρ,
  fun m ρ _ => Cert.Kernel9Ideal.Gen.frame m ρ,
  Cert.LossHead.frame_ref,
  fun m ρ _ => Cert.Kernel10.Gen.frame m ρ,
  fun m ρ _ => Cert.Kernel10Ideal.Gen.frame m ρ,
  Cert.AdamWout.frame_ref,
  fun m ρ _ => Cert.Kernel11.Gen.frame m ρ,
  fun m ρ _ => Cert.Kernel11Ideal.Gen.frame m ρ,
  Cert.AdamWin.frame_ref,
  fun m ρ _ => Cert.Kernel12.Gen.frame m ρ,
  fun m ρ _ => Cert.Kernel12Ideal.Gen.frame m ρ,
  Cert.GradWada.frame_ref,
  fun m ρ _ => Cert.Kernel13.Gen.frame m ρ,
  fun m ρ _ => Cert.Kernel13Ideal.Gen.frame m ρ,
  Cert.AdamWada.frame_ref,
  fun m ρ _ => Cert.Kernel14.Gen.frame m ρ,
  fun m ρ _ => Cert.Kernel14Ideal.Gen.frame m ρ,
  Cert.AdamW2.frame_ref,
  fun m ρ _ => Cert.Kernel15.Gen.frame m ρ,
  fun m ρ _ => Cert.Kernel15Ideal.Gen.frame m ρ,
  Cert.AdamSmall.frame_ref,
  fun m ρ _ => Cert.Kernel16.Gen.frame m ρ,
  fun m ρ _ => Cert.Kernel16Ideal.Gen.frame m ρ,
  Cert.SumDevices.frame_ref,
  fun m ρ _ => Cert.Kernel17.Gen.frame m ρ,
  fun m ρ _ => Cert.Kernel17Ideal.Gen.frame m ρ,
  fun m ρ _ => Cert.Kernel17Ideal.Gen.frame m ρ,
  Cert.ModPart.frame_ref,
  fun m ρ _ => Cert.ModPart.frame_ref m ρ trivial,
  trivial,
  Cert.Ffn.algebraic,
  trivial,
  Cert.GradW2.algebraic,
  trivial,
  Cert.GradW1.algebraic,
  trivial,
  Cert.FfnFwd.algebraic,
  trivial,
  Cert.GradWin.algebraic,
  trivial,
  Cert.GradWout.algebraic,
  trivial,
  Cert.MixerOut.algebraic,
  trivial,
  Cert.MixerBwd.algebraic,
  trivial,
  Cert.LossHead.algebraic,
  trivial,
  Cert.AdamWout.algebraic,
  trivial,
  Cert.AdamWin.algebraic,
  trivial,
  Cert.GradWada.algebraic,
  trivial,
  Cert.AdamWada.algebraic,
  trivial,
  Cert.AdamW2.algebraic,
  trivial,
  Cert.AdamSmall.algebraic,
  trivial,
  Cert.SumDevices.algebraic,
  trivial,
  Cert.ModPart.algebraic⟩

end Cert.Proof

end
